-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "freq1" .f32 0x3E4693AF#32 (((Real.sqrt (Real.sqrt (Real.sqrt 500000)))⁻¹ : ℝ) : EReal)
  ∧ IdealRules.named_const.Statement Cert.Kernel3Ideal.κ "freq2" .f32 0x3D1A08C8#32 (((Real.sqrt (Real.sqrt 500000))⁻¹ : ℝ) : EReal)
  ∧ IdealRules.named_const.Statement Cert.Kernel3Ideal.κ "freq3" .f32 0x3BEEF74E#32 ((((Real.sqrt (Real.sqrt 500000)) * (Real.sqrt (Real.sqrt (Real.sqrt 500000))))⁻¹ : ℝ) : EReal)
  ∧ IdealRules.named_const.Statement Cert.Kernel3Ideal.κ "freq4" .f32 0x3AB95D22#32 (((Real.sqrt 500000)⁻¹ : ℝ) : EReal)
  ∧ IdealRules.named_const.Statement Cert.Kernel3Ideal.κ "freq5" .f32 0x398FC8F8#32 ((((Real.sqrt 500000) * (Real.sqrt (Real.sqrt (Real.sqrt 500000))))⁻¹ : ℝ) : EReal)
  ∧ IdealRules.named_const.Statement Cert.Kernel3Ideal.κ "freq6" .f32 0x385F10C4#32 ((((Real.sqrt 500000) * (Real.sqrt (Real.sqrt 500000)))⁻¹ : ℝ) : EReal)
  ∧ IdealRules.named_const.Statement Cert.Kernel3Ideal.κ "freq7" .f32 0x372D07A7#32 ((((Real.sqrt 500000) * ((Real.sqrt (Real.sqrt 500000)) * (Real.sqrt (Real.sqrt (Real.sqrt 500000)))))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)) (v6 : (c : Dev Cert.Kernel3Ideal.nD) → Buf (Elt Ideal) ((c.tc : Thread Cert.Kernel3Ideal.nD Cert.Kernel3Ideal.τ).loc Cert.Kernel3Ideal.main_v2_6)) (v7 : (c : Dev Cert.Kernel3Ideal.nD) → Buf (Elt Ideal) ((c.tc : Thread Cert.Kernel3Ideal.nD Cert.Kernel3Ideal.τ).loc Cert.Kernel3Ideal.main_v2_7)) (v8 : (c : Dev Cert.Kernel3Ideal.nD) → Buf (Elt Ideal) ((c.tc : Thread Cert.Kernel3Ideal.nD Cert.Kernel3Ideal.τ).loc Cert.Kernel3Ideal.main_v2_8)) (v9 : (c : Dev Cert.Kernel3Ideal.nD) → Buf (Elt Ideal) ((c.tc : Thread Cert.Kernel3Ideal.nD Cert.Kernel3Ideal.τ).loc Cert.Kernel3Ideal.main_v2_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_v2_6) = v6 c
          ∧ r.2.mem ((c.tc : Thread Cert.Kernel3Ideal.nD Cert.Kernel3Ideal.τ).loc Cert.Kernel3Ideal.main_v2_7) = v7 c
          ∧ r.2.mem ((c.tc : Thread Cert.Kernel3Ideal.nD Cert.Kernel3Ideal.τ).loc Cert.Kernel3Ideal.main_v2_8) = v8 c
          ∧ r.2.mem ((c.tc : Thread Cert.Kernel3Ideal.nD Cert.Kernel3Ideal.τ).loc Cert.Kernel3Ideal.main_v2_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_v79) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v88) = v3 c
          ∧ r.2.mem ((c.tc : Thread Cert.Reference3Ideal.nD Cert.Reference3Ideal.τ).loc Cert.Reference3Ideal.main_v92) = v4 c
          ∧ r.2.mem ((c.tc : Thread Cert.Reference3Ideal.nD Cert.Reference3Ideal.τ).loc Cert.Reference3Ideal.main_v96) = v5 c
          ∧ r.2.mem ((c.tc : Thread Cert.Reference3Ideal.nD Cert.Reference3Ideal.τ).loc Cert.Reference3Ideal.main_v100) = v6 c
          ∧ r.2.mem ((c.tc : Thread Cert.Reference3Ideal.nD Cert.Reference3Ideal.τ).loc Cert.Reference3Ideal.main_v104) = v7 c
          ∧ r.2.mem ((c.tc : Thread Cert.Reference3Ideal.nD Cert.Reference3Ideal.τ).loc Cert.Reference3Ideal.main_v108) = v8 c
          ∧ r.2.mem ((c.tc : Thread Cert.Reference3Ideal.nD Cert.Reference3Ideal.τ).loc Cert.Reference3Ideal.main_v2) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_queries_and_keys.lean ====
abbrev S4x8192x512 : Shape := ⟨3, ![4, 8192, 512]⟩
abbrev S4x4x2048x512 : Shape := ⟨4, ![4, 4, 2048, 512]⟩
abbrev S4x16x512x512 : Shape := ⟨4, ![4, 16, 512, 512]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  bcast_S_S4x4x2048x512 : S_.BroadcastsInDim S4x4x2048x512 (![] : Fin 0 → Fin S4x4x2048x512.rank)
  bcast_S_S4x16x512x512 : S_.BroadcastsInDim S4x16x512x512 (![] : Fin 0 → Fin S4x16x512x512.rank)

variable [Facts]

def fn_part1 {F : FTy → Type} [FloatOps F] (main_arg7 : FVec F S4x16x512x512 .bf16) (main_v3 : IVec S4x8192x512 1) (main_v7 : IVec S4x8192x512 1) (main_v11 : IVec S4x4x2048x512 1) (main_v15 : IVec S4x4x2048x512 1) (main_v17 : FVec F S4x16x512x512 .f32) (main_v18 : FVec F S4x16x512x512 .f32) : IVec S4x8192x512 1 × IVec S4x8192x512 1 × IVec S4x4x2048x512 1 × IVec S4x4x2048x512 1 × IVec S4x16x512x512 1 × IVec S4x16x512x512 1 :=
  let main_v19 : IVec S4x16x512x512 1 := cmpf .olt main_v17 main_v18
  let main_v20 : FVec F S4x16x512x512 .f32 := (extf .f32 · bitsLt_bf16_f32) main_arg7
  let main_v21 : FVec F S4x16x512x512 .f32 := Host.absf main_v20
  let main_cst_4 : FVec F S_ .f32 := constant S_ .f32 0x7F800000#32
  let main_v22 : FVec F S4x16x512x512 .f32 := broadcastInDim S4x16x512x512 ![] bcast_S_S4x16x512x512 main_cst_4
  let main_v23 : IVec S4x16x512x512 1 := cmpf .olt main_v21 main_v22
  (main_v3, main_v7, main_v11, main_v15, main_v19, main_v23)

def fn {F : FTy → Type} [FloatOps F] (main_arg0 : FVec F S4x8192x512 .bf16) (main_arg1 : FVec F S4x8192x512 .bf16) (main_arg2 : FVec F S4x8192x512 .bf16) (main_arg3 : FVec F S4x4x2048x512 .bf16) (main_arg4 : FVec F S4x4x2048x512 .bf16) (main_arg5 : FVec F S4x4x2048x512 .bf16) (main_arg6 : FVec F S4x16x512x512 .bf16) (main_arg7 : FVec F S4x16x512x512 .bf16) (main_arg8 : FVec F S4x16x512x512 .bf16) : IVec S4x8192x512 1 × IVec S4x8192x512 1 × IVec S4x4x2048x512 1 × IVec S4x4x2048x512 1 × IVec S4x16x512x512 1 × IVec S4x16x512x512 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_v4 : FVec F S4x8192x512 .f32 := (extf .f32 · bitsLt_bf16_f32) main_arg1
  let main_v5 : FVec F S4x8192x512 .f32 := Host.absf main_v4
  let main_cst_0 : FVec F S_ .f32 := constant S_ .f32 0x7F800000#32
  let main_v6 : FVec F S4x8192x512 .f32 := broadcastInDim S4x8192x512 ![] bcast_S_S4x8192x512 main_cst_0
  let main_v7 : IVec S4x8192x512 1 := cmpf .olt main_v5 main_v6
  let main_v8 : FVec F S4x4x2048x512 .f32 := (extf .f32 · bitsLt_bf16_f32) main_arg3
  let main_v9 : FVec F S4x4x2048x512 .f32 := Host.absf main_v8
  let main_cst_1 : FVec F S_ .f32 := constant S_ .f32 0x7F800000#32
  let main_v10 : FVec F S4x4x2048x512 .f32 := broadcastInDim S4x4x2048x512 ![] bcast_S_S4x4x2048x512 main_cst_1
  let main_v11 : IVec S4x4x2048x512 1 := cmpf .olt main_v9 main_v10
  let main_v12 : FVec F S4x4x2048x512 .f32 := (extf .f32 · bitsLt_bf16_f32) main_arg4
  let main_v13 : FVec F S4x4x2048x512 .f32 := Host.absf main_v12
  let main_cst_2 : FVec F S_ .f32 := constant S_ .f32 0x7F800000#32
  let main_v14 : FVec F S4x4x2048x512 .f32 := broadcastInDim S4x4x2048x512 ![] bcast_S_S4x4x2048x512 main_cst_2
  let main_v15 : IVec S4x4x2048x512 1 := cmpf .olt main_v13 main_v14
  let main_v16 : FVec F S4x16x512x512 .f32 := (extf .f32 · bitsLt_bf16_f32) main_arg6
  let main_v17 : FVec F S4x16x512x512 .f32 := Host.absf main_v16
  let main_cst_3 : FVec F S_ .f32 := constant S_ .f32 0x7F800000#32
  let main_v18 : FVec F S4x16x512x512 .f32 := broadcastInDim S4x16x512x512 ![] bcast_S_S4x16x512x512 main_cst_3
  fn_part1 (F := F) main_arg7 main_v3 main_v7 main_v11 main_v15 main_v17 main_v18
-- ==== Kernel.lean ====
abbrev S4x8192x512 : Shape := ⟨3, ![4, 8192, 512]⟩
abbrev S4x4x2048x512 : Shape := ⟨4, ![4, 4, 2048, 512]⟩
abbrev S4x16x512x512 : Shape := ⟨4, ![4, 16, 512, 512]⟩
abbrev S1x2048x128 : Shape := ⟨3, ![1, 2048, 128]⟩
abbrev S1x128x128 : Shape := ⟨3, ![1, 128, 128]⟩
abbrev S1x4x512x128 : Shape := ⟨4, ![1, 4, 512, 128]⟩
abbrev S1x4x128x128 : Shape := ⟨4, ![1, 4, 128, 128]⟩
abbrev S1x16x128x128 : Shape := ⟨4, ![1, 16, 128, 128]⟩
abbrev S3x2048x128 : Shape := ⟨3, ![3, 2048, 128]⟩
abbrev S2x2048x128 : Shape := ⟨3, ![2, 2048, 128]⟩
abbrev S128x256 : Shape := ⟨2, ![128, 256]⟩
abbrev S128x128 : Shape := ⟨2, ![128, 128]⟩
abbrev S256x128 : Shape := ⟨2, ![256, 128]⟩
abbrev S1x256x128 : Shape := ⟨3, ![1, 256, 128]⟩
abbrev S128 : Shape := ⟨1, ![128]⟩
abbrev S128x1 : Shape := ⟨2, ![128, 1]⟩
abbrev S1x1x128x128 : Shape := ⟨4, ![1, 1, 128, 128]⟩
abbrev S1x1x256x128 : Shape := ⟨4, ![1, 1, 256, 128]⟩
abbrev S1x512x128 : Shape := ⟨3, ![1, 512, 128]⟩
abbrev S512x128 : Shape := ⟨2, ![512, 128]⟩
abbrev S2048x128 : Shape := ⟨2, ![2048, 128]⟩

abbrev nBuf : Space → Nat
  | .hbm => 10
  | .vmem => 35
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x4x2048x512, .bf16⟩
  | .hbm, ⟨4, _⟩ => ⟨S4x4x2048x512, .bf16⟩
  | .hbm, ⟨5, _⟩ => ⟨S4x4x2048x512, .bf16⟩
  | .hbm, ⟨6, _⟩ => ⟨S4x16x512x512, .bf16⟩
  | .hbm, ⟨7, _⟩ => ⟨S4x16x512x512, .bf16⟩
  | .hbm, ⟨8, _⟩ => ⟨S4x16x512x512, .bf16⟩
  | .hbm, ⟨9, _⟩ => ⟨S4x8192x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x4x512x128, .bf16⟩
  | .local _ .vmem, ⟨11, _⟩ => ⟨S1x4x512x128, .bf16⟩
  | .local _ .vmem, ⟨12, _⟩ => ⟨S1x4x512x128, .bf16⟩
  | .local _ .vmem, ⟨13, _⟩ => ⟨S1x4x512x128, .bf16⟩
  | .local _ .vmem, ⟨14, _⟩ => ⟨S1x4x128x128, .bf16⟩
  | .local _ .vmem, ⟨15, _⟩ => ⟨S1x4x128x128, .bf16⟩
  | .local _ .vmem, ⟨16, _⟩ => ⟨S1x4x512x128, .bf16⟩
  | .local _ .vmem, ⟨17, _⟩ => ⟨S1x4x512x128, .bf16⟩
  | .local _ .vmem, ⟨18, _⟩ => ⟨S1x4x128x128, .bf16⟩
  | .local _ .vmem, ⟨19, _⟩ => ⟨S1x4x128x128, .bf16⟩
  | .local _ .vmem, ⟨20, _⟩ => ⟨S1x16x128x128, .bf16⟩
  | .local _ .vmem, ⟨21, _⟩ => ⟨S1x16x128x128, .bf16⟩
  | .local _ .vmem, ⟨22, _⟩ => ⟨S1x16x128x128, .bf16⟩
  | .local _ .vmem, ⟨23, _⟩ => ⟨S1x16x128x128, .bf16⟩
  | .local _ .vmem, ⟨24, _⟩ => ⟨S1x16x128x128, .bf16⟩
  | .local _ .vmem, ⟨25, _⟩ => ⟨S1x16x128x128, .bf16⟩
  | .local _ .vmem, ⟨26, _⟩ => ⟨S1x16x128x128, .bf16⟩
  | .local _ .vmem, ⟨27, _⟩ => ⟨S1x16x128x128, .bf16⟩
  | .local _ .vmem, ⟨28, _⟩ => ⟨S1x16x128x128, .bf16⟩
  | .local _ .vmem, ⟨29, _⟩ => ⟨S1x16x128x128, .bf16⟩
  | .local _ .vmem, ⟨30, _⟩ => ⟨S1x2048x128, .bf16⟩
  | .local _ .vmem, ⟨31, _⟩ => ⟨S1x2048x128, .bf16⟩
  | .local _ .vmem, ⟨32, _⟩ => ⟨S3x2048x128, .f32⟩
  | .local _ .vmem, ⟨33, _⟩ => ⟨S3x2048x128, .f32⟩
  | .local _ .vmem, ⟨34, _⟩ => ⟨S2x2048x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat, arg2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, c0_i32_1.toNat, v2.toNat, arg2.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![arg0.toNat, c0_i32_1.toNat, v2.toNat, arg2.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x4x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x16x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x16x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x16x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x16x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x16x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x512 : Shape := ⟨3, ![4, 8192, 512]⟩
abbrev S4x4x2048x512 : Shape := ⟨4, ![4, 4, 2048, 512]⟩
abbrev S4x16x512x512 : Shape := ⟨4, ![4, 16, 512, 512]⟩
abbrev S4x1x8192x512 : Shape := ⟨4, ![4, 1, 8192, 512]⟩
abbrev S4x1x64x128x8x64 : Shape := ⟨6, ![4, 1, 64, 128, 8, 64]⟩
abbrev S4x8x1x64x128x64 : Shape := ⟨6, ![4, 8, 1, 64, 128, 64]⟩
abbrev S_ : Shape := ⟨0, ![]⟩
abbrev S4x8x1x65x128x64 : Shape := ⟨6, ![4, 8, 1, 65, 128, 64]⟩
abbrev S4x8x1x64x256x64 : Shape := ⟨6, ![4, 8, 1, 64, 256, 64]⟩
abbrev S4x8x1x64x128x256 : Shape := ⟨6, ![4, 8, 1, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S4x8x1x64x128 : Shape := ⟨5, ![4, 8, 1, 64, 128]⟩
abbrev S4x8x1x64x128x1 : Shape := ⟨6, ![4, 8, 1, 64, 128, 1]⟩
abbrev S4x8x1x8192x64 : Shape := ⟨5, ![4, 8, 1, 8192, 64]⟩
abbrev S4x8x8192x1x64 : Shape := ⟨5, ![4, 8, 8192, 1, 64]⟩
abbrev S4x8x8192x64 : Shape := ⟨4, ![4, 8, 8192, 64]⟩
abbrev S4x8x1x8192 : Shape := ⟨4, ![4, 8, 1, 8192]⟩
abbrev S4x8x8192x1 : Shape := ⟨4, ![4, 8, 8192, 1]⟩
abbrev S4x8x8192 : Shape := ⟨3, ![4, 8, 8192]⟩
abbrev S4x4x16x128x8x64 : Shape := ⟨6, ![4, 4, 16, 128, 8, 64]⟩
abbrev S4x8x4x16x128x64 : Shape := ⟨6, ![4, 8, 4, 16, 128, 64]⟩
abbrev S4x8x4x17x128x64 : Shape := ⟨6, ![4, 8, 4, 17, 128, 64]⟩
abbrev S4x8x4x16x256x64 : Shape := ⟨6, ![4, 8, 4, 16, 256, 64]⟩
abbrev S4x8x4x16x128x256 : Shape := ⟨6, ![4, 8, 4, 16, 128, 256]⟩
abbrev S16 : Shape := ⟨1, ![16]⟩
abbrev S16x1x1 : Shape := ⟨3, ![16, 1, 1]⟩
abbrev S16x1x256 : Shape := ⟨3, ![16, 1, 256]⟩
abbrev S16x128x256 : Shape := ⟨3, ![16, 128, 256]⟩
abbrev S4x8x4x16x128 : Shape := ⟨5, ![4, 8, 4, 16, 128]⟩
abbrev S4x8x4x16x128x1 : Shape := ⟨6, ![4, 8, 4, 16, 128, 1]⟩
abbrev S4x8x4x2048x64 : Shape := ⟨5, ![4, 8, 4, 2048, 64]⟩
abbrev S4x8x2048x4x64 : Shape := ⟨5, ![4, 8, 2048, 4, 64]⟩
abbrev S4x8x4x2048 : Shape := ⟨4, ![4, 8, 4, 2048]⟩
abbrev S4x8x2048x4 : Shape := ⟨4, ![4, 8, 2048, 4]⟩
abbrev S4x16x4x128x8x64 : Shape := ⟨6, ![4, 16, 4, 128, 8, 64]⟩
abbrev S4x8x16x4x128x64 : Shape := ⟨6, ![4, 8, 16, 4, 128, 64]⟩
abbrev S4x8x16x5x128x64 : Shape := ⟨6, ![4, 8, 16, 5, 128, 64]⟩
abbrev S4x8x16x4x256x64 : Shape := ⟨6, ![4, 8, 16, 4, 256, 64]⟩
abbrev S4x8x16x4x128x256 : Shape := ⟨6, ![4, 8, 16, 4, 128, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S4x8x16x4x128 : Shape := ⟨5, ![4, 8, 16, 4, 128]⟩
abbrev S4x8x16x4x128x1 : Shape := ⟨6, ![4, 8, 16, 4, 128, 1]⟩
abbrev S4x8x16x512x64 : Shape := ⟨5, ![4, 8, 16, 512, 64]⟩
abbrev S4x8x512x16x64 : Shape := ⟨5, ![4, 8, 512, 16, 64]⟩
abbrev S4x8x16x512 : Shape := ⟨4, ![4, 8, 16, 512]⟩
abbrev S4x8x512x16 : Shape := ⟨4, ![4, 8, 512, 16]⟩
abbrev S1x4x8x8192 : Shape := ⟨4, ![1, 4, 8, 8192]⟩
abbrev S3x4x8x8192 : Shape := ⟨4, ![3, 4, 8, 8192]⟩
abbrev S1x4x8x8192x64 : Shape := ⟨5, ![1, 4, 8, 8192, 64]⟩
abbrev S3x4x8x8192x64 : Shape := ⟨5, ![3, 4, 8, 8192, 64]⟩
abbrev S4x8192x8x64 : Shape := ⟨4, ![4, 8192, 8, 64]⟩

abbrev nBuf : Space → Nat
  | .hbm => 275
  | .vmem => 0
  | .smem => 0
  | _ => 0

abbrev hbmTy0_0 (i : Nat) : BufTy := match i % 128 with
  | 0 => ⟨S4x8192x512, .bf16⟩
  | 1 => ⟨S4x8192x512, .bf16⟩
  | 2 => ⟨S4x8192x512, .bf16⟩
  | 3 => ⟨S4x4x2048x512, .bf16⟩
  | 4 => ⟨S4x4x2048x512, .bf16⟩
  | 5 => ⟨S4x4x2048x512, .bf16⟩
  | 6 => ⟨S4x16x512x512, .bf16⟩
  | 7 => ⟨S4x16x512x512, .bf16⟩
  | 8 => ⟨S4x16x512x512, .bf16⟩
  | 9 => ⟨S4x1x8192x512, .bf16⟩
  | 10 => ⟨S4x1x8192x512, .bf16⟩
  | 11 => ⟨S4x1x8192x512, .bf16⟩
  | 12 => ⟨S4x1x8192x512, .f32⟩
  | 13 => ⟨S4x1x64x128x8x64, .f32⟩
  | 14 => ⟨S4x8x1x64x128x64, .f32⟩
  | 15 => ⟨S4x1x8192x512, .f32⟩
  | 16 => ⟨S4x1x64x128x8x64, .f32⟩
  | 17 => ⟨S4x8x1x64x128x64, .f32⟩
  | 18 => ⟨S_, .i32⟩
  | 19 => ⟨S_, .f32⟩
  | 20 => ⟨S4x8x1x65x128x64, .f32⟩
  | 21 => ⟨S4x8x1x64x128x64, .f32⟩
  | 22 => ⟨S4x8x1x64x256x64, .f32⟩
  | 23 => ⟨S4x1x8192x512, .f32⟩
  | 24 => ⟨S4x1x64x128x8x64, .f32⟩
  | 25 => ⟨S4x8x1x64x128x64, .f32⟩
  | 26 => ⟨S_, .i32⟩
  | 27 => ⟨S_, .f32⟩
  | 28 => ⟨S4x8x1x65x128x64, .f32⟩
  | 29 => ⟨S4x8x1x64x128x64, .f32⟩
  | 30 => ⟨S4x8x1x64x256x64, .f32⟩
  | 31 => ⟨S4x8x1x64x128x256, .f32⟩
  | 32 => ⟨S128, .i32⟩
  | 33 => ⟨S128x1, .i32⟩
  | 34 => ⟨S256, .i32⟩
  | 35 => ⟨S1x256, .i32⟩
  | 36 => ⟨S_, .i32⟩
  | 37 => ⟨S128x1, .i32⟩
  | 38 => ⟨S128x1, .i32⟩
  | 39 => ⟨S128x256, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S_, .i32⟩
  | 46 => ⟨S128x256, .i32⟩
  | 47 => ⟨S128x256, .i1⟩
  | 48 => ⟨S128x256, .i1⟩
  | 49 => ⟨S64, .i32⟩
  | 50 => ⟨S64x1x1, .i32⟩
  | 51 => ⟨S_, .i32⟩
  | 52 => ⟨S64x1x1, .i32⟩
  | 53 => ⟨S64x1x1, .i1⟩
  | 54 => ⟨S_, .i32⟩
  | 55 => ⟨S1x256, .i32⟩
  | 56 => ⟨S1x256, .i1⟩
  | 57 => ⟨S1x1x256, .i1⟩
  | 58 => ⟨S64x1x256, .i1⟩
  | 59 => ⟨S64x1x256, .i1⟩
  | 60 => ⟨S64x1x256, .i1⟩
  | 61 => ⟨S1x128x256, .i1⟩
  | 62 => ⟨S64x128x256, .i1⟩
  | 63 => ⟨S64x128x256, .i1⟩
  | 64 => ⟨S64x128x256, .i1⟩
  | 65 => ⟨S_, .f32⟩
  | 66 => ⟨S_, .f32⟩
  | 67 => ⟨S4x8x1x64x128x256, .i1⟩
  | 68 => ⟨S4x8x1x64x128x256, .f32⟩
  | 69 => ⟨S4x8x1x64x128x256, .f32⟩
  | 70 => ⟨S_, .f32⟩
  | 71 => ⟨S4x8x1x64x128, .f32⟩
  | 72 => ⟨S4x8x1x64x128x1, .f32⟩
  | 73 => ⟨S4x8x1x64x128x256, .f32⟩
  | 74 => ⟨S4x8x1x64x128x256, .f32⟩
  | 75 => ⟨S4x8x1x64x128x256, .f32⟩
  | 76 => ⟨S_, .f32⟩
  | 77 => ⟨S4x8x1x64x128, .f32⟩
  | 78 => ⟨S4x8x1x64x128x64, .f32⟩
  | 79 => ⟨S4x8x1x64x128x1, .f32⟩
  | 80 => ⟨S4x8x1x64x128x64, .f32⟩
  | 81 => ⟨S4x8x1x64x128x64, .f32⟩
  | 82 => ⟨S4x8x1x64x128, .f32⟩
  | 83 => ⟨S4x8x1x64x128, .f32⟩
  | 84 => ⟨S4x8x1x64x128, .f32⟩
  | 85 => ⟨S4x8x1x8192x64, .f32⟩
  | 86 => ⟨S4x8x8192x1x64, .f32⟩
  | 87 => ⟨S4x8x8192x64, .f32⟩
  | 88 => ⟨S4x8x1x8192, .f32⟩
  | 89 => ⟨S4x8x8192x1, .f32⟩
  | 90 => ⟨S4x8x8192, .f32⟩
  | 91 => ⟨S4x4x2048x512, .f32⟩
  | 92 => ⟨S4x4x16x128x8x64, .f32⟩
  | 93 => ⟨S4x8x4x16x128x64, .f32⟩
  | 94 => ⟨S4x4x2048x512, .f32⟩
  | 95 => ⟨S4x4x16x128x8x64, .f32⟩
  | 96 => ⟨S4x8x4x16x128x64, .f32⟩
  | 97 => ⟨S_, .i32⟩
  | 98 => ⟨S_, .f32⟩
  | 99 => ⟨S4x8x4x17x128x64, .f32⟩
  | 100 => ⟨S4x8x4x16x128x64, .f32⟩
  | 101 => ⟨S4x8x4x16x256x64, .f32⟩
  | 102 => ⟨S4x4x2048x512, .f32⟩
  | 103 => ⟨S4x4x16x128x8x64, .f32⟩
  | 104 => ⟨S4x8x4x16x128x64, .f32⟩
  | 105 => ⟨S_, .i32⟩
  | 106 => ⟨S_, .f32⟩
  | 107 => ⟨S4x8x4x17x128x64, .f32⟩
  | 108 => ⟨S4x8x4x16x128x64, .f32⟩
  | 109 => ⟨S4x8x4x16x256x64, .f32⟩
  | 110 => ⟨S4x8x4x16x128x256, .f32⟩
  | 111 => ⟨S128, .i32⟩
  | 112 => ⟨S128x1, .i32⟩
  | 113 => ⟨S256, .i32⟩
  | 114 => ⟨S1x256, .i32⟩
  | 115 => ⟨S_, .i32⟩
  | 116 => ⟨S128x1, .i32⟩
  | 117 => ⟨S128x1, .i32⟩
  | 118 => ⟨S128x256, .i32⟩
  | 119 => ⟨S128x256, .i32⟩
  | 120 => ⟨S128x256, .i32⟩
  | 121 => ⟨S_, .i32⟩
  | 122 => ⟨S128x256, .i32⟩
  | 123 => ⟨S128x256, .i1⟩
  | 124 => ⟨S_, .i32⟩
  | 125 => ⟨S128x256, .i32⟩
  | 126 => ⟨S128x256, .i1⟩
  | 127 => ⟨S128x256, .i1⟩
  | _ => ⟨S4x8192x512, .bf16⟩

abbrev hbmTy0_1 (i : Nat) : BufTy := match i % 128 with
  | 0 => ⟨S16, .i32⟩
  | 1 => ⟨S16x1x1, .i32⟩
  | 2 => ⟨S_, .i32⟩
  | 3 => ⟨S16x1x1, .i32⟩
  | 4 => ⟨S16x1x1, .i1⟩
  | 5 => ⟨S_, .i32⟩
  | 6 => ⟨S1x256, .i32⟩
  | 7 => ⟨S1x256, .i1⟩
  | 8 => ⟨S1x1x256, .i1⟩
  | 9 => ⟨S16x1x256, .i1⟩
  | 10 => ⟨S16x1x256, .i1⟩
  | 11 => ⟨S16x1x256, .i1⟩
  | 12 => ⟨S1x128x256, .i1⟩
  | 13 => ⟨S16x128x256, .i1⟩
  | 14 => ⟨S16x128x256, .i1⟩
  | 15 => ⟨S16x128x256, .i1⟩
  | 16 => ⟨S_, .f32⟩
  | 17 => ⟨S_, .f32⟩
  | 18 => ⟨S4x8x4x16x128x256, .i1⟩
  | 19 => ⟨S4x8x4x16x128x256, .f32⟩
  | 20 => ⟨S4x8x4x16x128x256, .f32⟩
  | 21 => ⟨S_, .f32⟩
  | 22 => ⟨S4x8x4x16x128, .f32⟩
  | 23 => ⟨S4x8x4x16x128x1, .f32⟩
  | 24 => ⟨S4x8x4x16x128x256, .f32⟩
  | 25 => ⟨S4x8x4x16x128x256, .f32⟩
  | 26 => ⟨S4x8x4x16x128x256, .f32⟩
  | 27 => ⟨S_, .f32⟩
  | 28 => ⟨S4x8x4x16x128, .f32⟩
  | 29 => ⟨S4x8x4x16x128x64, .f32⟩
  | 30 => ⟨S4x8x4x16x128x1, .f32⟩
  | 31 => ⟨S4x8x4x16x128x64, .f32⟩
  | 32 => ⟨S4x8x4x16x128x64, .f32⟩
  | 33 => ⟨S4x8x4x16x128, .f32⟩
  | 34 => ⟨S4x8x4x16x128, .f32⟩
  | 35 => ⟨S4x8x4x16x128, .f32⟩
  | 36 => ⟨S4x8x4x2048x64, .f32⟩
  | 37 => ⟨S4x8x2048x4x64, .f32⟩
  | 38 => ⟨S4x8x8192x64, .f32⟩
  | 39 => ⟨S4x8x4x2048, .f32⟩
  | 40 => ⟨S4x8x2048x4, .f32⟩
  | 41 => ⟨S4x8x8192, .f32⟩
  | 42 => ⟨S4x16x512x512, .f32⟩
  | 43 => ⟨S4x16x4x128x8x64, .f32⟩
  | 44 => ⟨S4x8x16x4x128x64, .f32⟩
  | 45 => ⟨S4x16x512x512, .f32⟩
  | 46 => ⟨S4x16x4x128x8x64, .f32⟩
  | 47 => ⟨S4x8x16x4x128x64, .f32⟩
  | 48 => ⟨S_, .i32⟩
  | 49 => ⟨S_, .f32⟩
  | 50 => ⟨S4x8x16x5x128x64, .f32⟩
  | 51 => ⟨S4x8x16x4x128x64, .f32⟩
  | 52 => ⟨S4x8x16x4x256x64, .f32⟩
  | 53 => ⟨S4x16x512x512, .f32⟩
  | 54 => ⟨S4x16x4x128x8x64, .f32⟩
  | 55 => ⟨S4x8x16x4x128x64, .f32⟩
  | 56 => ⟨S_, .i32⟩
  | 57 => ⟨S_, .f32⟩
  | 58 => ⟨S4x8x16x5x128x64, .f32⟩
  | 59 => ⟨S4x8x16x4x128x64, .f32⟩
  | 60 => ⟨S4x8x16x4x256x64, .f32⟩
  | 61 => ⟨S4x8x16x4x128x256, .f32⟩
  | 62 => ⟨S128, .i32⟩
  | 63 => ⟨S128x1, .i32⟩
  | 64 => ⟨S256, .i32⟩
  | 65 => ⟨S1x256, .i32⟩
  | 66 => ⟨S_, .i32⟩
  | 67 => ⟨S128x1, .i32⟩
  | 68 => ⟨S128x1, .i32⟩
  | 69 => ⟨S128x256, .i32⟩
  | 70 => ⟨S128x256, .i32⟩
  | 71 => ⟨S128x256, .i32⟩
  | 72 => ⟨S_, .i32⟩
  | 73 => ⟨S128x256, .i32⟩
  | 74 => ⟨S128x256, .i1⟩
  | 75 => ⟨S_, .i32⟩
  | 76 => ⟨S128x256, .i32⟩
  | 77 => ⟨S128x256, .i1⟩
  | 78 => ⟨S128x256, .i1⟩
  | 79 => ⟨S4, .i32⟩
  | 80 => ⟨S4x1x1, .i32⟩
  | 81 => ⟨S_, .i32⟩
  | 82 => ⟨S4x1x1, .i32⟩
  | 83 => ⟨S4x1x1, .i1⟩
  | 84 => ⟨S_, .i32⟩
  | 85 => ⟨S1x256, .i32⟩
  | 86 => ⟨S1x256, .i1⟩
  | 87 => ⟨S1x1x256, .i1⟩
  | 88 => ⟨S4x1x256, .i1⟩
  | 89 => ⟨S4x1x256, .i1⟩
  | 90 => ⟨S4x1x256, .i1⟩
  | 91 => ⟨S1x128x256, .i1⟩
  | 92 => ⟨S4x128x256, .i1⟩
  | 93 => ⟨S4x128x256, .i1⟩
  | 94 => ⟨S4x128x256, .i1⟩
  | 95 => ⟨S_, .f32⟩
  | 96 => ⟨S_, .f32⟩
  | 97 => ⟨S4x8x16x4x128x256, .i1⟩
  | 98 => ⟨S4x8x16x4x128x256, .f32⟩
  | 99 => ⟨S4x8x16x4x128x256, .f32⟩
  | 100 => ⟨S_, .f32⟩
  | 101 => ⟨S4x8x16x4x128, .f32⟩
  | 102 => ⟨S4x8x16x4x128x1, .f32⟩
  | 103 => ⟨S4x8x16x4x128x256, .f32⟩
  | 104 => ⟨S4x8x16x4x128x256, .f32⟩
  | 105 => ⟨S4x8x16x4x128x256, .f32⟩
  | 106 => ⟨S_, .f32⟩
  | 107 => ⟨S4x8x16x4x128, .f32⟩
  | 108 => ⟨S4x8x16x4x128x64, .f32⟩
  | 109 => ⟨S4x8x16x4x128x1, .f32⟩
  | 110 => ⟨S4x8x16x4x128x64, .f32⟩
  | 111 => ⟨S4x8x16x4x128x64, .f32⟩
  | 112 => ⟨S4x8x16x4x128, .f32⟩
  | 113 => ⟨S4x8x16x4x128, .f32⟩
  | 114 => ⟨S4x8x16x4x128, .f32⟩
  | 115 => ⟨S4x8x16x512x64, .f32⟩
  | 116 => ⟨S4x8x512x16x64, .f32⟩
  | 117 => ⟨S4x8x8192x64, .f32⟩
  | 118 => ⟨S4x8x16x512, .f32⟩
  | 119 => ⟨S4x8x512x16, .f32⟩
  | 120 => ⟨S4x8x8192, .f32⟩
  | 121 => ⟨S1x4x8x8192, .f32⟩
  | 122 => ⟨S1x4x8x8192, .f32⟩
  | 123 => ⟨S1x4x8x8192, .f32⟩
  | 124 => ⟨S3x4x8x8192, .f32⟩
  | 125 => ⟨S_, .f32⟩
  | 126 => ⟨S4x8x8192, .f32⟩
  | 127 => ⟨S_, .f32⟩
  | _ => ⟨S4x8192x512, .bf16⟩

abbrev hbmTy0_2 (i : Nat) : BufTy := match i % 128 with
  | 0 => ⟨S4x8x8192, .f32⟩
  | 1 => ⟨S4x8x8192, .f32⟩
  | 2 => ⟨S1x4x8x8192, .f32⟩
  | 3 => ⟨S3x4x8x8192, .f32⟩
  | 4 => ⟨S3x4x8x8192, .f32⟩
  | 5 => ⟨S3x4x8x8192, .f32⟩
  | 6 => ⟨S_, .f32⟩
  | 7 => ⟨S4x8x8192, .f32⟩
  | 8 => ⟨S1x4x8x8192, .f32⟩
  | 9 => ⟨S3x4x8x8192, .f32⟩
  | 10 => ⟨S3x4x8x8192, .f32⟩
  | 11 => ⟨S1x4x8x8192x64, .f32⟩
  | 12 => ⟨S1x4x8x8192x64, .f32⟩
  | 13 => ⟨S1x4x8x8192x64, .f32⟩
  | 14 => ⟨S3x4x8x8192x64, .f32⟩
  | 15 => ⟨S4x8x8192x64, .f32⟩
  | 16 => ⟨S4x8192x8x64, .f32⟩
  | 17 => ⟨S4x8192x512, .f32⟩
  | 18 => ⟨S4x8192x512, .bf16⟩
  | _ => ⟨S4x8192x512, .bf16⟩

abbrev hbmTy (i : Nat) : BufTy := match i / 128 with
  | 0 => hbmTy0_0 i
  | 1 => hbmTy0_1 i
  | 2 => hbmTy0_2 i
  | _ => ⟨S4x8192x512, .bf16⟩

abbrev bufTy : (tb : Table) → Fin (tcTables nBuf tb) → BufTy
  | .hbm, ⟨i, _⟩ => hbmTy i
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_8 : Ref sig .tc := ⟨.hbm, 97, rfl⟩
abbrev main_call3_v0 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_9 : Ref sig .tc := ⟨.hbm, 105, rfl⟩
abbrev main_call4_v0 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_10 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_11 : Ref sig .tc := ⟨.hbm, 121, rfl⟩
abbrev main_v92 : Ref sig .tc := ⟨.hbm, 122, rfl⟩
abbrev main_v93 : Ref sig .tc := ⟨.hbm, 123, rfl⟩
abbrev main_c_12 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_13 : Ref sig .tc := ⟨.hbm, 130, rfl⟩
abbrev main_v99 : Ref sig .tc := ⟨.hbm, 131, rfl⟩
abbrev main_v100 : Ref sig .tc := ⟨.hbm, 132, rfl⟩
abbrev main_c_14 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_15 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v111 : Ref sig .tc := ⟨.hbm, 148, rfl⟩
abbrev main_cst_16 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_17 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_c_18 : Ref sig .tc := ⟨.hbm, 176, rfl⟩
abbrev main_call6_v0 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_c_19 : Ref sig .tc := ⟨.hbm, 184, rfl⟩
abbrev main_call7_v0 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_c_20 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_c_21 : Ref sig .tc := ⟨.hbm, 200, rfl⟩
abbrev main_v156 : Ref sig .tc := ⟨.hbm, 201, rfl⟩
abbrev main_v157 : Ref sig .tc := ⟨.hbm, 202, rfl⟩
abbrev main_c_22 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_c_23 : Ref sig .tc := ⟨.hbm, 209, rfl⟩
abbrev main_v163 : Ref sig .tc := ⟨.hbm, 210, rfl⟩
abbrev main_v164 : Ref sig .tc := ⟨.hbm, 211, rfl⟩
abbrev main_c_24 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_25 : Ref sig .tc := ⟨.hbm, 223, rfl⟩
abbrev main_call8_v0 : Ref sig .tc := ⟨.hbm, 224, rfl⟩
abbrev main_call8_v1 : Ref sig .tc := ⟨.hbm, 225, rfl⟩
abbrev main_call8_v2 : Ref sig .tc := ⟨.hbm, 226, rfl⟩
abbrev main_v175 : Ref sig .tc := ⟨.hbm, 227, rfl⟩
abbrev main_cst_26 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_27 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_cst_28 : Ref sig .tc := ⟨.hbm, 253, rfl⟩
abbrev main_v199 : Ref sig .tc := ⟨.hbm, 254, rfl⟩
abbrev main_cst_29 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_cst_30 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩

abbrev nD : Nat := 1
abbrev τ : Topo := Topo.v7x

variable {F : FTy → Type} [FloatOps F]
-- ==== Kernel2.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 20
  | .vmem => 16
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 94
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S32768x512, .f32⟩
  | .hbm, ⟨12, _⟩ => ⟨S32768x512, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x2816, .f32⟩
  | .hbm, ⟨49, _⟩ => ⟨S32768x2816, .f32⟩
  | .hbm, ⟨50, _⟩ => ⟨S32768x2816, .f32⟩
  | .hbm, ⟨51, _⟩ => ⟨S_, .f32⟩
  | .hbm, ⟨52, _⟩ => ⟨S32768x2816, .f32⟩
  | .hbm, ⟨53, _⟩ => ⟨S32768x2816, .f32⟩
  | .hbm, ⟨54, _⟩ => ⟨S_, .f32⟩
  | .hbm, ⟨55, _⟩ => ⟨S32768x2816, .f32⟩
  | .hbm, ⟨56, _⟩ => ⟨S32768x2816, .f32⟩
  | .hbm, ⟨57, _⟩ => ⟨S32768x2816, .f32⟩
  | .hbm, ⟨58, _⟩ => ⟨S32768x2816, .f32⟩
  | .hbm, ⟨59, _⟩ => ⟨S32768x2816, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S_, .f32⟩
  | .hbm, ⟨75, _⟩ => ⟨S32768, .f32⟩
  | .hbm, ⟨76, _⟩ => ⟨S32768x1, .f32⟩
  | .hbm, ⟨77, _⟩ => ⟨S_, .f32⟩
  | .hbm, ⟨78, _⟩ => ⟨S32768x1, .f32⟩
  | .hbm, ⟨79, _⟩ => ⟨S32768x1, .f32⟩
  | .hbm, ⟨80, _⟩ => ⟨S32768x1024, .f32⟩
  | .hbm, ⟨81, _⟩ => ⟨S32768x1024, .f32⟩
  | .hbm, ⟨82, _⟩ => ⟨S_, .f32⟩
  | .hbm, ⟨83, _⟩ => ⟨S32768x1, .f32⟩
  | .hbm, ⟨84, _⟩ => ⟨S32768x1, .f32⟩
  | .hbm, ⟨85, _⟩ => ⟨S32768x1, .f32⟩
  | .hbm, ⟨86, _⟩ => ⟨S32768x1024, .f32⟩
  | .hbm, ⟨87, _⟩ => ⟨S32768x1024, .f32⟩
  | .hbm, ⟨88, _⟩ => ⟨S1x1024, .f32⟩
  | .hbm, ⟨89, _⟩ => ⟨S32768x1024, .f32⟩
  | .hbm, ⟨90, _⟩ => ⟨S32768x1024, .f32⟩
  | .hbm, ⟨91, _⟩ => ⟨S1x1024, .f32⟩
  | .hbm, ⟨92, _⟩ => ⟨S32768x1024, .f32⟩
  | .hbm, ⟨93, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024x3328 : Shape := ⟨2, ![1024, 3328]⟩
abbrev S4x8192 : Shape := ⟨2, ![4, 8192]⟩
abbrev S4x8192x1 : Shape := ⟨3, ![4, 8192, 1]⟩
abbrev S4x8192x512 : Shape := ⟨3, ![4, 8192, 512]⟩
abbrev S4x4x2048x512 : Shape := ⟨4, ![4, 4, 2048, 512]⟩
abbrev S4x16x512x512 : Shape := ⟨4, ![4, 16, 512, 512]⟩
abbrev S4x8192x1792 : Shape := ⟨3, ![4, 8192, 1792]⟩
abbrev S1x512x1024 : Shape := ⟨3, ![1, 512, 1024]⟩
abbrev S1x512x1 : Shape := ⟨3, ![1, 512, 1]⟩
abbrev S1x512x512 : Shape := ⟨3, ![1, 512, 512]⟩
abbrev S1x4x128x512 : Shape := ⟨4, ![1, 4, 128, 512]⟩
abbrev S1x16x32x512 : Shape := ⟨4, ![1, 16, 32, 512]⟩
abbrev S1x512x1792 : Shape := ⟨3, ![1, 512, 1792]⟩
abbrev S4x512x128 : Shape := ⟨3, ![4, 512, 128]⟩
abbrev S512x1024 : Shape := ⟨2, ![512, 1024]⟩
abbrev S1x128 : Shape := ⟨2, ![1, 128]⟩
abbrev S512x1 : Shape := ⟨2, ![512, 1]⟩
abbrev S512x128 : Shape := ⟨2, ![512, 128]⟩
abbrev S1024x512 : Shape := ⟨2, ![1024, 512]⟩
abbrev S512x512 : Shape := ⟨2, ![512, 512]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩
abbrev S1024x1792 : Shape := ⟨2, ![1024, 1792]⟩
abbrev S512x1792 : Shape := ⟨2, ![512, 1792]⟩

abbrev nBuf : Space → Nat
  | .hbm => 15
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S1024x3328, .f32⟩
  | .hbm, ⟨2, _⟩ => ⟨S4x8192, .i32⟩
  | .hbm, ⟨3, _⟩ => ⟨S1024x3328, .bf16⟩
  | .hbm, ⟨4, _⟩ => ⟨S4x8192x1, .i32⟩
  | .hbm, ⟨5, _⟩ => ⟨S4x8192x512, .bf16⟩
  | .hbm, ⟨6, _⟩ => ⟨S4x8192x512, .bf16⟩
  | .hbm, ⟨7, _⟩ => ⟨S4x8192x512, .bf16⟩
  | .hbm, ⟨8, _⟩ => ⟨S4x4x2048x512, .bf16⟩
  | .hbm, ⟨9, _⟩ => ⟨S4x4x2048x512, .bf16⟩
  | .hbm, ⟨10, _⟩ => ⟨S4x4x2048x512, .bf16⟩
  | .hbm, ⟨11, _⟩ => ⟨S4x16x512x512, .bf16⟩
  | .hbm, ⟨12, _⟩ => ⟨S4x16x512x512, .bf16⟩
  | .hbm, ⟨13, _⟩ => ⟨S4x16x512x512, .bf16⟩
  | .hbm, ⟨14, _⟩ => ⟨S4x8192x1792, .f32⟩
  | .local _ .vmem, ⟨0, _⟩ => ⟨S1x512x1024, .f32⟩
  | .local _ .vmem, ⟨1, _⟩ => ⟨S1x512x1024, .f32⟩
  | .local _ .vmem, ⟨2, _⟩ => ⟨S1024x3328, .bf16⟩
  | .local _ .vmem, ⟨3, _⟩ => ⟨S1x512x1, .i32⟩
  | .local _ .vmem, ⟨4, _⟩ => ⟨S1x512x1, .i32⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x4x128x512, .bf16⟩
  | .local _ .vmem, ⟨12, _⟩ => ⟨S1x4x128x512, .bf16⟩
  | .local _ .vmem, ⟨13, _⟩ => ⟨S1x4x128x512, .bf16⟩
  | .local _ .vmem, ⟨14, _⟩ => ⟨S1x4x128x512, .bf16⟩
  | .local _ .vmem, ⟨15, _⟩ => ⟨S1x4x128x512, .bf16⟩
  | .local _ .vmem, ⟨16, _⟩ => ⟨S1x4x128x512, .bf16⟩
  | .local _ .vmem, ⟨17, _⟩ => ⟨S1x16x32x512, .bf16⟩
  | .local _ .vmem, ⟨18, _⟩ => ⟨S1x16x32x512, .bf16⟩
  | .local _ .vmem, ⟨19, _⟩ => ⟨S1x16x32x512, .bf16⟩
  | .local _ .vmem, ⟨20, _⟩ => ⟨S1x16x32x512, .bf16⟩
  | .local _ .vmem, ⟨21, _⟩ => ⟨S1x16x32x512, .bf16⟩
  | .local _ .vmem, ⟨22, _⟩ => ⟨S1x16x32x512, .bf16⟩
  | .local _ .vmem, ⟨23, _⟩ => ⟨S1x512x1792, .f32⟩
  | .local _ .vmem, ⟨24, _⟩ => ⟨S1x512x1792, .f32⟩
  | .local _ .vmem, ⟨25, _⟩ => ⟨S4x512x128, .f32⟩
  | .local _ .vmem, ⟨26, _⟩ => ⟨S4x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev main_v2_9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x32x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1792 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel3Ideal.lean ====
variable {F : FTy → Type} [FloatOps F] [Named F]
def κ : String → Option EReal := fun
  | "freq1" => some (((Real.sqrt (Real.sqrt (Real.sqrt 500000)))⁻¹ : ℝ) : EReal)
  | "freq2" => some (((Real.sqrt (Real.sqrt 500000))⁻¹ : ℝ) : EReal)
  | "freq3" => some ((((Real.sqrt (Real.sqrt 500000)) * (Real.sqrt (Real.sqrt (Real.sqrt 500000))))⁻¹ : ℝ) : EReal)
  | "freq4" => some (((Real.sqrt 500000)⁻¹ : ℝ) : EReal)
  | "freq5" => some ((((Real.sqrt 500000) * (Real.sqrt (Real.sqrt (Real.sqrt 500000))))⁻¹ : ℝ) : EReal)
  | "freq6" => some ((((Real.sqrt 500000) * (Real.sqrt (Real.sqrt 500000)))⁻¹ : ℝ) : EReal)
  | "freq7" => some ((((Real.sqrt 500000) * ((Real.sqrt (Real.sqrt 500000)) * (Real.sqrt (Real.sqrt (Real.sqrt 500000)))))⁻¹ : ℝ) : EReal)
  | _ => none
-- ==== Reference3Ideal.lean ====
abbrev S4x8192x1024 : Shape := ⟨3, ![4, 8192, 1024]⟩
abbrev S1024x3328 : Shape := ⟨2, ![1024, 3328]⟩
abbrev S4x8192 : Shape := ⟨2, ![4, 8192]⟩
abbrev S4x8192x3328 : Shape := ⟨3, ![4, 8192, 3328]⟩
abbrev S4x8192x1536 : Shape := ⟨3, ![4, 8192, 1536]⟩
abbrev S4x8192x1792 : Shape := ⟨3, ![4, 8192, 1792]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S8 : Shape := ⟨1, ![8]⟩
abbrev S_ : Shape := ⟨0, ![]⟩
abbrev S4x1x8192x1 : Shape := ⟨4, ![4, 1, 8192, 1]⟩
abbrev S1x1x1x8 : Shape := ⟨4, ![1, 1, 1, 8]⟩
abbrev S4x1x8192x8 : Shape := ⟨4, ![4, 1, 8192, 8]⟩
abbrev S4x8x8192x8 : Shape := ⟨4, ![4, 8, 8192, 8]⟩
abbrev S4x8x8192x48 : Shape := ⟨4, ![4, 8, 8192, 48]⟩
abbrev S4x8x8192x1x64 : Shape := ⟨5, ![4, 8, 8192, 1, 64]⟩
abbrev S4x1x8192x8x64 : Shape := ⟨5, ![4, 1, 8192, 8, 64]⟩
abbrev S4x1x8192x512 : Shape := ⟨4, ![4, 1, 8192, 512]⟩
abbrev S4x8x2048x4x64 : Shape := ⟨5, ![4, 8, 2048, 4, 64]⟩
abbrev S4x4x2048x8x64 : Shape := ⟨5, ![4, 4, 2048, 8, 64]⟩
abbrev S4x4x2048x512 : Shape := ⟨4, ![4, 4, 2048, 512]⟩
abbrev S4x8x512x16x64 : Shape := ⟨5, ![4, 8, 512, 16, 64]⟩
abbrev S4x16x512x8x64 : Shape := ⟨5, ![4, 16, 512, 8, 64]⟩
abbrev S4x16x512x512 : Shape := ⟨4, ![4, 16, 512, 512]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x3328, .f32⟩
  | .hbm, ⟨2, _⟩ => ⟨S4x8192, .i32⟩
  | .hbm, ⟨3, _⟩ => ⟨S4x8192x3328, .f32⟩
  | .hbm, ⟨4, _⟩ => ⟨S4x8192x1536, .f32⟩
  | .hbm, ⟨5, _⟩ => ⟨S4x8192x1792, .f32⟩
  | .hbm, ⟨6, _⟩ => ⟨S4x8192x512, .f32⟩
  | .hbm, ⟨7, _⟩ => ⟨S4x8192x512, .f32⟩
  | .hbm, ⟨8, _⟩ => ⟨S4x8192x512, .f32⟩
  | .hbm, ⟨9, _⟩ => ⟨S4x8192x8x64, .f32⟩
  | .hbm, ⟨10, _⟩ => ⟨S4x8x8192x64, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4x8192, .f32⟩
  | .hbm, ⟨20, _⟩ => ⟨S4x1x8192x1, .f32⟩
  | .hbm, ⟨21, _⟩ => ⟨S1x1x1x8, .f32⟩
  | .hbm, ⟨22, _⟩ => ⟨S4x1x8192x8, .f32⟩
  | .hbm, ⟨23, _⟩ => ⟨S4x1x8192x8, .f32⟩
  | .hbm, ⟨24, _⟩ => ⟨S4x1x8192x8, .f32⟩
  | .hbm, ⟨25, _⟩ => ⟨S4x1x8192x8, .f32⟩
  | .hbm, ⟨26, _⟩ => ⟨S4x1x8192x8, .f32⟩
  | .hbm, ⟨27, _⟩ => ⟨S4x8x8192x8, .f32⟩
  | .hbm, ⟨28, _⟩ => ⟨S4x8x8192x8, .f32⟩
  | .hbm, ⟨29, _⟩ => ⟨S4x8x8192x8, .f32⟩
  | .hbm, ⟨30, _⟩ => ⟨S4x8x8192x8, .f32⟩
  | .hbm, ⟨31, _⟩ => ⟨S4x8x8192x8, .f32⟩
  | .hbm, ⟨32, _⟩ => ⟨S4x8x8192x8, .f32⟩
  | .hbm, ⟨33, _⟩ => ⟨S4x8x8192x8, .f32⟩
  | .hbm, ⟨34, _⟩ => ⟨S4x8x8192x8, .f32⟩
  | .hbm, ⟨35, _⟩ => ⟨S4x8x8192x8, .f32⟩
  | .hbm, ⟨36, _⟩ => ⟨S4x8x8192x8, .f32⟩
  | .hbm, ⟨37, _⟩ => ⟨S4x8x8192x8, .f32⟩
  | .hbm, ⟨38, _⟩ => ⟨S4x8x8192x8, .f32⟩
  | .hbm, ⟨39, _⟩ => ⟨S4x8x8192x48, .f32⟩
  | .hbm, ⟨40, _⟩ => ⟨S4x8x8192x64, .f32⟩
  | .hbm, ⟨41, _⟩ => ⟨S_, .f32⟩
  | .hbm, ⟨42, _⟩ => ⟨S4x8x8192x64, .f32⟩
  | .hbm, ⟨43, _⟩ => ⟨S4x8x8192x64, .f32⟩
  | .hbm, ⟨44, _⟩ => ⟨S4x8192x8x64, .f32⟩
  | .hbm, ⟨45, _⟩ => ⟨S4x8x8192x64, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S4x8192, .f32⟩
  | .hbm, ⟨55, _⟩ => ⟨S4x1x8192x1, .f32⟩
  | .hbm, ⟨56, _⟩ => ⟨S1x1x1x8, .f32⟩
  | .hbm, ⟨57, _⟩ => ⟨S4x1x8192x8, .f32⟩
  | .hbm, ⟨58, _⟩ => ⟨S4x1x8192x8, .f32⟩
  | .hbm, ⟨59, _⟩ => ⟨S4x1x8192x8, .f32⟩
  | .hbm, ⟨60, _⟩ => ⟨S4x1x8192x8, .f32⟩
  | .hbm, ⟨61, _⟩ => ⟨S4x1x8192x8, .f32⟩
  | .hbm, ⟨62, _⟩ => ⟨S4x8x8192x8, .f32⟩
  | .hbm, ⟨63, _⟩ => ⟨S4x8x8192x8, .f32⟩
  | .hbm, ⟨64, _⟩ => ⟨S4x8x8192x8, .f32⟩
  | .hbm, ⟨65, _⟩ => ⟨S4x8x8192x8, .f32⟩
  | .hbm, ⟨66, _⟩ => ⟨S4x8x8192x8, .f32⟩
  | .hbm, ⟨67, _⟩ => ⟨S4x8x8192x8, .f32⟩
  | .hbm, ⟨68, _⟩ => ⟨S4x8x8192x8, .f32⟩
  | .hbm, ⟨69, _⟩ => ⟨S4x8x8192x8, .f32⟩
  | .hbm, ⟨70, _⟩ => ⟨S4x8x8192x8, .f32⟩
  | .hbm, ⟨71, _⟩ => ⟨S4x8x8192x8, .f32⟩
  | .hbm, ⟨72, _⟩ => ⟨S4x8x8192x8, .f32⟩
  | .hbm, ⟨73, _⟩ => ⟨S4x8x8192x8, .f32⟩
  | .hbm, ⟨74, _⟩ => ⟨S4x8x8192x48, .f32⟩
  | .hbm, ⟨75, _⟩ => ⟨S4x8x8192x64, .f32⟩
  | .hbm, ⟨76, _⟩ => ⟨S4x8192x8x64, .f32⟩
  | .hbm, ⟨77, _⟩ => ⟨S4x8x8192x64, .f32⟩
  | .hbm, ⟨78, _⟩ => ⟨S4x8x8192x1x64, .f32⟩
  | .hbm, ⟨79, _⟩ => ⟨S4x1x8192x8x64, .f32⟩
  | .hbm, ⟨80, _⟩ => ⟨S4x1x8192x512, .f32⟩
  | .hbm, ⟨81, _⟩ => ⟨S4x1x8192x512, .bf16⟩
  | .hbm, ⟨82, _⟩ => ⟨S4x8192x512, .bf16⟩
  | .hbm, ⟨83, _⟩ => ⟨S4x8x8192x1x64, .f32⟩
  | .hbm, ⟨84, _⟩ => ⟨S4x1x8192x8x64, .f32⟩
  | .hbm, ⟨85, _⟩ => ⟨S4x1x8192x512, .f32⟩
  | .hbm, ⟨86, _⟩ => ⟨S4x1x8192x512, .bf16⟩
  | .hbm, ⟨87, _⟩ => ⟨S4x8192x512, .bf16⟩
  | .hbm, ⟨88, _⟩ => ⟨S4x8x8192x1x64, .f32⟩
  | .hbm, ⟨89, _⟩ => ⟨S4x1x8192x8x64, .f32⟩
  | .hbm, ⟨90, _⟩ => ⟨S4x1x8192x512, .f32⟩
  | .hbm, ⟨91, _⟩ => ⟨S4x1x8192x512, .bf16⟩
  | .hbm, ⟨92, _⟩ => ⟨S4x8192x512, .bf16⟩
  | .hbm, ⟨93, _⟩ => ⟨S4x8x2048x4x64, .f32⟩
  | .hbm, ⟨94, _⟩ => ⟨S4x4x2048x8x64, .f32⟩
  | .hbm, ⟨95, _⟩ => ⟨S4x4x2048x512, .f32⟩
  | .hbm, ⟨96, _⟩ => ⟨S4x4x2048x512, .bf16⟩
  | .hbm, ⟨97, _⟩ => ⟨S4x8x2048x4x64, .f32⟩
  | .hbm, ⟨98, _⟩ => ⟨S4x4x2048x8x64, .f32⟩
  | .hbm, ⟨99, _⟩ => ⟨S4x4x2048x512, .f32⟩
  | .hbm, ⟨100, _⟩ => ⟨S4x4x2048x512, .bf16⟩
  | .hbm, ⟨101, _⟩ => ⟨S4x8x2048x4x64, .f32⟩
  | .hbm, ⟨102, _⟩ => ⟨S4x4x2048x8x64, .f32⟩
  | .hbm, ⟨103, _⟩ => ⟨S4x4x2048x512, .f32⟩
  | .hbm, ⟨104, _⟩ => ⟨S4x4x2048x512, .bf16⟩
  | .hbm, ⟨105, _⟩ => ⟨S4x8x512x16x64, .f32⟩
  | .hbm, ⟨106, _⟩ => ⟨S4x16x512x8x64, .f32⟩
  | .hbm, ⟨107, _⟩ => ⟨S4x16x512x512, .f32⟩
  | .hbm, ⟨108, _⟩ => ⟨S4x16x512x512, .bf16⟩
  | .hbm, ⟨109, _⟩ => ⟨S4x8x512x16x64, .f32⟩
  | .hbm, ⟨110, _⟩ => ⟨S4x16x512x8x64, .f32⟩
  | .hbm, ⟨111, _⟩ => ⟨S4x16x512x512, .f32⟩
  | .hbm, ⟨112, _⟩ => ⟨S4x16x512x512, .bf16⟩
  | .hbm, ⟨113, _⟩ => ⟨S4x8x512x16x64, .f32⟩
  | .hbm, ⟨114, _⟩ => ⟨S4x16x512x8x64, .f32⟩
  | .hbm, ⟨115, _⟩ => ⟨S4x16x512x512, .f32⟩
  | .hbm, ⟨116, _⟩ => ⟨S4x16x512x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩

abbrev nD : Nat := 1
abbrev τ : Topo := Topo.v7x

variable {F : FTy → Type} [FloatOps F]
-- ==== Proof.Rows.lean ====
/-
  One row of masked softmax attention over the extended reals, and the weighting of three such rows by the
  softmax of their log-sum-exps. A masked score is ⊥. Nothing here mentions a program.
-/
module

public import Idealize.ShloMosaic.PureOps.Ideal
public import Idealize.ShloMosaic.PureOps.Ideal.Laws

@[expose] public section

noncomputable section

namespace Attention

open Idealize.ShloMosaic

/-- The greatest score of a row. -/
def top {n : ℕ} (s : Fin n → EReal) : EReal := Finset.univ.fold max ⊥ s

/-- A row's weights before they are normalised. -/
def weight {n : ℕ} (s : Fin n → EReal) (k : Fin n) : EReal := Ideal.exp (s k - top s)

/-- The sum of a row's weights. -/
def total {n : ℕ} (s : Fin n → EReal) : EReal := ∑ k, weight s k

/-- The weighted sum of one column of the values. -/
def mix {n : ℕ} (s v : Fin n → EReal) : EReal := ∑ k, weight s k * v k

/-- A row's log-sum-exp. -/
def lse {n : ℕ} (s : Fin n → EReal) : EReal := top s + Ideal.log (total s)

/-- No score is ⊤ and some score is not ⊥. -/
def Usual {n : ℕ} (s : Fin n → EReal) : Prop := (∀ k, s k ≠ ⊤) ∧ ∃ k, s k ≠ ⊥

variable {n : ℕ} {s : Fin n → EReal}

theorem le_top (s : Fin n → EReal) (k : Fin n) : s k ≤ top s :=
  (Finset.le_fold_max (b := ⊥) (f := s) (s := Finset.univ) (s k)).2 (Or.inr ⟨k, Finset.mem_univ k, le_refl _⟩)

theorem Usual.top_real (h : Usual s) : ∃ M : ℝ, top s = M := by
  obtain ⟨h1, k, hk⟩ := h
  have hb : top s ≠ ⊥ := fun e => hk (le_bot_iff.1 (e ▸ le_top s k))
  have ht : top s ≠ ⊤ := by
    intro e
    have h2 : top s < ⊤ := (Finset.fold_max_lt (b := ⊥) (f := s) (s := Finset.univ) ⊤).2
      ⟨bot_lt_top, fun x _ => lt_top_iff_ne_top.2 (h1 x)⟩
    exact absurd e h2.ne
  exact ⟨(top s).toReal, (EReal.coe_toReal ht hb).symm⟩

theorem weight_real (h : Usual s) (k : Fin n) : ∃ w : ℝ, 0 ≤ w ∧ weight s k = w ∧ (s k ≠ ⊥ → 0 < w) := by
  obtain ⟨M, hM⟩ := h.top_real
  unfold weight
  rw [hM]
  induction hs : s k with
  | bot => exact ⟨0, le_refl _, by simp, by simp⟩
  | top => exact absurd hs (h.1 k)
  | coe r => exact ⟨Real.exp (r - M), (Real.exp_pos _).le, by rw [← EReal.coe_sub, Ideal.exp_coe], fun _ => Real.exp_pos _⟩

theorem weight_masked (h : Usual s) (k : Fin n) (hk : s k = ⊥) : weight s k = 0 := by
  obtain ⟨M, hM⟩ := h.top_real
  unfold weight
  rw [hM, hk]
  simp

theorem Usual.total_real (h : Usual s) : ∃ L : ℝ, 0 < L ∧ total s = L := by
  choose w h0 hw hp using weight_real h
  obtain ⟨k, hk⟩ := h.2
  refine ⟨∑ k, w k, Finset.sum_pos' (fun k _ => h0 k) ⟨k, Finset.mem_univ k, hp k hk⟩, ?_⟩
  unfold total
  simp_rw [hw]
  exact (map_sum (⟨⟨Real.toEReal, EReal.coe_zero⟩, EReal.coe_add⟩ : ℝ →+ EReal) w Finset.univ).symm

theorem Usual.lse_real (h : Usual s) : ∃ a : ℝ, lse s = a := by
  obtain ⟨M, hM⟩ := h.top_real
  obtain ⟨L, h0, hL⟩ := h.total_real
  refine ⟨M + Real.log L, ?_⟩
  unfold lse
  rw [hM, hL, Ideal.log_coe, if_neg (not_le.2 h0), EReal.coe_add]

/-- Only the values at unmasked keys matter. -/
theorem mix_congr (h : Usual s) {v w : Fin n → EReal} (e : ∀ k, s k ≠ ⊥ → v k = w k) : mix s v = mix s w := by
  unfold mix
  refine Finset.sum_congr rfl fun k _ => ?_
  by_cases hk : s k = ⊥
  · rw [weight_masked h k hk, zero_mul, zero_mul]
  · rw [e k hk]

/-- Multiplying by the reciprocal of a positive real is dividing by it. -/
theorem mul_div_one {L : ℝ} (h : 0 < L) (x : EReal) : x * Ideal.div 1 L = Ideal.div x L := by
  have hne : (L : EReal) ≠ 0 := by exact_mod_cast h.ne'
  unfold Ideal.div
  rw [if_neg hne, if_neg hne, one_mul]

/-- The three rows weighted by the softmax of their log-sum-exps: weights first, or the quotient last. -/
theorem merge_eq (a : Fin 3 → ℝ) (x : Fin 3 → EReal) (m : ℝ) :
    Ideal.div (Ideal.exp ((a 0 : EReal) - m) * x 0 + Ideal.exp ((a 1 : EReal) - m) * x 1 + Ideal.exp ((a 2 : EReal) - m) * x 2)
        (Ideal.exp ((a 0 : EReal) - m) + Ideal.exp ((a 1 : EReal) - m) + Ideal.exp ((a 2 : EReal) - m))
      = ∑ p : Fin 3, Ideal.div (Ideal.exp ((a p : EReal) - m)) (∑ q : Fin 3, Ideal.exp ((a q : EReal) - m)) * x p := by
  simp only [Fin.sum_univ_three, ← EReal.coe_sub, Ideal.exp_coe, ← EReal.coe_add]
  have h : (0 : ℝ) < Real.exp (a 0 - m) + Real.exp (a 1 - m) + Real.exp (a 2 - m) := by positivity
  generalize Real.exp (a 0 - m) + Real.exp (a 1 - m) + Real.exp (a 2 - m) = S at h
  have hne : (S : EReal) ≠ 0 := by exact_mod_cast h.ne'
  unfold Ideal.div
  simp only [if_neg hne]
  have h0 : (0 : EReal) ≤ (S : EReal)⁻¹ := by
    rw [← EReal.coe_inv]; exact_mod_cast (inv_pos.2 h).le
  have ht : (S : EReal)⁻¹ ≠ ⊤ := by rw [← EReal.coe_inv]; exact EReal.coe_ne_top _
  rw [EReal.right_distrib_of_nonneg_of_ne_top h0 ht, EReal.right_distrib_of_nonneg_of_ne_top h0 ht]
  simp only [mul_assoc, mul_comm (x _) (S : EReal)⁻¹]

end Attention
-- ==== Proof.Unit.lean ====
/-
  One unit of the kernel's work, 128 queries of two heads against a window of 256 keys, as one function of its query
  rows, its key and value windows and its mask, and what it holds at an index.
-/
module

public import proofs.«01_k».proof.Proof.Gen.KernelIdeal.Skeleton
public import proofs.«01_k».proof.Proof.Rows
public import Idealize.ShloMosaic.Lib.Pointwise
public import Idealize.ShloMosaic.Lib.WordCmp

@[expose] public section

set_option maxRecDepth 16384

noncomputable section

namespace Cert.KernelIdeal

open Idealize.ShloMosaic Idealize.SL.Sem Gen Attention WordCmp

/-- The masked scores of one head's queries (the other head's lanes zeroed). -/
def unitScores (bias : FVec Ideal S128x256 .f32) (q : FVec Ideal S128x128 .bf16) (kw : FVec Ideal S256x128 .bf16) :
    FVec Ideal S128x256 .f32 :=
  addf (matmul dot_S128x128_S256x128_S128x256_1_1_0_0_n_n none q kw (constant S128x256 .f32 0x00000000#32)) bias

/-- Each row's greatest score, as a column. -/
def unitTop (s : FVec Ideal S128x256 .f32) : FVec Ideal S128x1 .f32 :=
  shapeCast S128x1 (multiReduction .maximumf [1] S128 s 0xFF800000#32 reduces_S128x256_S128 (.inl rfl) rfl) shapeCasts_S128_S128x1

/-- The weights before they are normalised. -/
def unitWeights (s : FVec Ideal S128x256 .f32) : FVec Ideal S128x256 .f32 :=
  exp (subf s (broadcastTo S128x256 (unitTop s) broadcasts_S128x1_S128x256))

/-- Each row's sum of weights, as a column. -/
def unitTotal (s : FVec Ideal S128x256 .f32) : FVec Ideal S128x1 .f32 :=
  shapeCast S128x1 (multiReduction .add [1] S128 (unitWeights s) 0x00000000#32 reduces_S128x256_S128 (.inl rfl) rfl) shapeCasts_S128_S128x1

/-- A column broadcast over the lanes. -/
def lanes (x : FVec Ideal S128x1 .f32) : FVec Ideal S128x128 .f32 :=
  broadcastTo S128x128 (shapeCast S128x1 x shapeCasts_S128x1_S128x1) broadcasts_S128x1_S128x128

/-- The weighted values of one head, over all the lanes. -/
def unitMix (s : FVec Ideal S128x256 .f32) (vw : FVec Ideal S256x128 .bf16) : FVec Ideal S128x128 .f32 :=
  matmul dot_S128x256_S256x128_S128x128_1_0_0_1_n_n none (truncf .bf16 (unitWeights s) bitsLt_bf16_f32) vw (constant S128x128 .f32 0x00000000#32)

/-- The scores of the head of the lower lanes. -/
def lowScores (bias : FVec Ideal S128x256 .f32) (q : FVec Ideal S128x128 .bf16) (kw : FVec Ideal S256x128 .bf16) : FVec Ideal S128x256 .f32 :=
  unitScores bias (select k0_pay4 q (k0_pay5 (F := Ideal))) kw

/-- The scores of the head of the upper lanes. -/
def highScores (bias : FVec Ideal S128x256 .f32) (q : FVec Ideal S128x128 .bf16) (kw : FVec Ideal S256x128 .bf16) : FVec Ideal S128x256 .f32 :=
  unitScores bias (select k0_pay4 (k0_pay5 (F := Ideal)) q) kw

/-- What a unit stores as its attention output. -/
def unitOut (bias : FVec Ideal S128x256 .f32) (q : FVec Ideal S128x128 .bf16) (kw vw : FVec Ideal S256x128 .bf16) : FVec Ideal S1x128x128 .f32 :=
  shapeCast S1x128x128
    (mulf (select k0_pay4 (unitMix (lowScores bias q kw) vw) (unitMix (highScores bias q kw) vw))
      (select k0_pay4 (lanes (divf (broadcast S128x1 (FloatOps.ofBits .f32 0x3F800000#32)) (unitTotal (lowScores bias q kw))))
        (lanes (divf (broadcast S128x1 (FloatOps.ofBits .f32 0x3F800000#32)) (unitTotal (highScores bias q kw))))))
    shapeCasts_S128x128_S1x128x128

/-- What a unit stores as its log-sum-exps. -/
def unitLse (bias : FVec Ideal S128x256 .f32) (q : FVec Ideal S128x128 .bf16) (kw : FVec Ideal S256x128 .bf16) : FVec Ideal S1x128x128 .f32 :=
  shapeCast S1x128x128
    (select k0_pay4 (lanes (addf (unitTop (lowScores bias q kw)) (log (unitTotal (lowScores bias q kw)))))
      (lanes (addf (unitTop (highScores bias q kw)) (log (unitTotal (highScores bias q kw))))))
    shapeCasts_S128x128_S1x128x128

/-- A row of scores as a unit computes it at query row `i` for the head that lane `l` belongs to. -/
def unitRow (bias : FVec Ideal S128x256 .f32) (q : FVec Ideal S128x128 .bf16) (kw : FVec Ideal S256x128 .bf16)
    (i : Fin 128) (l : Fin 128) : Fin 256 → EReal := fun k =>
  (∑ e : Fin 128, (if (e.val < 64 ↔ l.val < 64) then q (ix2 i e) else 0) * kw (ix2 k e)) + bias (ix2 i k)

theorem ofBits_neg_inf : Ideal.ofBits .f32 0xFF800000#32 = ⊥ := by
  simp [Ideal.ofBits, Ideal.ieee]

theorem laneMask (i l : Fin 128) : k0_pay4 (ix2 i l) = if l.val < 64 then 1#1 else 0#1 := by
  pointwise [k0_pay4]
  revert l
  decide +kernel

theorem unitTop_apply (s : FVec Ideal S128x256 .f32) (i : Fin 128) : unitTop s (ix2 i 0) = top fun k => s (ix2 i k) := by
  pointwise [unitTop]
  rw [ofBits_neg_inf]; rfl

theorem unitWeights_apply (s : FVec Ideal S128x256 .f32) (i : Fin 128) (k : Fin 256) :
    unitWeights s (ix2 i k) = weight (fun k => s (ix2 i k)) k := by
  pointwise [unitWeights]
  rw [unitTop_apply]; rfl

theorem unitTotal_apply (s : FVec Ideal S128x256 .f32) (i : Fin 128) : unitTotal s (ix2 i 0) = total fun k => s (ix2 i k) := by
  pointwise [unitTotal]
  simp only [unitWeights_apply]; rfl

theorem unitMix_apply (s : FVec Ideal S128x256 .f32) (vw : FVec Ideal S256x128 .bf16) (i l : Fin 128) :
    unitMix s vw (ix2 i l) = mix (fun k => s (ix2 i k)) fun k => vw (ix2 k l) := by
  pointwise [unitMix]
  simp only [unitWeights_apply]; rfl

/-- In the lower lanes the lower scores are the row, -/
theorem lowScores_apply (bias : FVec Ideal S128x256 .f32) (q : FVec Ideal S128x128 .bf16) (kw : FVec Ideal S256x128 .bf16)
    (i l : Fin 128) (hl : l.val < 64) : (fun k => lowScores bias q kw (ix2 i k)) = unitRow bias q kw i l := by
  funext k
  pointwise [lowScores, unitScores, k0_pay5]
  unfold unitRow
  simp only [laneMask, hl, iff_true]
  refine congrArg (· + bias (ix2 i k)) (Finset.sum_congr rfl fun e _ => ?_)
  by_cases he : e.val < 64 <;> simp [he] <;> rfl

/-- and in the upper lanes the upper ones. -/
theorem highScores_apply (bias : FVec Ideal S128x256 .f32) (q : FVec Ideal S128x128 .bf16) (kw : FVec Ideal S256x128 .bf16)
    (i l : Fin 128) (hl : ¬ l.val < 64) : (fun k => highScores bias q kw (ix2 i k)) = unitRow bias q kw i l := by
  funext k
  pointwise [highScores, unitScores, k0_pay5]
  unfold unitRow
  simp only [laneMask, hl, iff_false]
  refine congrArg (· + bias (ix2 i k)) (Finset.sum_congr rfl fun e _ => ?_)
  by_cases he : e.val < 64 <;> simp [he] <;> rfl

theorem unitOut_apply (bias : FVec Ideal S128x256 .f32) (q : FVec Ideal S128x128 .bf16) (kw vw : FVec Ideal S256x128 .bf16) (i l : Fin 128) :
    unitOut bias q kw vw (ix3 0 i l) = mix (unitRow bias q kw i l) (fun k => vw (ix2 k l)) * Ideal.div 1 (total (unitRow bias q kw i l)) := by
  pointwise [unitOut, lanes]
  rw [laneMask]
  by_cases hl : l.val < 64
  · rw [if_pos hl, unitMix_apply, unitTotal_apply, lowScores_apply bias q kw i l hl]; rfl
  · rw [if_neg hl, unitMix_apply (highScores _ _ _), unitTotal_apply (highScores _ _ _), highScores_apply bias q kw i l hl]; rfl

theorem unitLse_apply (bias : FVec Ideal S128x256 .f32) (q : FVec Ideal S128x128 .bf16) (kw : FVec Ideal S256x128 .bf16) (i l : Fin 128) :
    unitLse bias q kw (ix3 0 i l) = lse (unitRow bias q kw i l) := by
  pointwise [unitLse, lanes]
  rw [laneMask]
  by_cases hl : l.val < 64
  · rw [if_pos hl, unitTop_apply, unitTotal_apply, lowScores_apply bias q kw i l hl]; rfl
  · rw [if_neg hl, unitTop_apply (highScores _ _ _), unitTotal_apply (highScores _ _ _), highScores_apply bias q kw i l hl]; rfl

theorem mask_named : (Named.named κ "mask" 0xF149F2CA#32 : Ideal .f32) = ⊥ :=
  IdealRules.named_const.ideal_named_scalar _ _ _ _ rfl

/-- The band: a query sees the 128 positions before it and itself. -/
theorem band_apply (i : Fin 128) (k : Fin 256) :
    (k0_pay2 (F := Ideal)) (ix2 i k) = if i.val ≤ k.val ∧ k.val ≤ i.val + 128 then 0 else ⊥ := by
  pointwise [k0_pay2]
  rw [mask_named, show IntOp.addi (BitVec.ofNat 32 i.val) 128#32 = BitVec.ofNat 32 (i.val + 128) from (BitVec.ofNat_add _ _).symm,
    cmpi_sge_ofNat (by omega) (by omega), cmpi_sle_ofNat (by omega) (by omega)]
  by_cases h1 : i.val ≤ k.val <;> by_cases h2 : k.val ≤ i.val + 128 <;> simp [h1, h2] <;> rfl

/-- In the first block of a sequence the window's first half is masked too. -/
theorem firstBand_apply (t : grid0.Coords) (i : Fin 128) (k : Fin 256) :
    (k0_pay3 (F := Ideal) t) (ix2 i k) = if (128 ≤ k.val ∨ 0 < (t 1).val) ∧ i.val ≤ k.val ∧ k.val ≤ i.val + 128 then 0 else ⊥ := by
  have ht : (t 1).val < 4 := (t 1).isLt
  pointwise [k0_pay3]
  rw [mask_named, band_apply]
  change Scalar.select (IntOp.ori (IntOp.cmpi .sge (BitVec.ofNat 32 k.val) (BitVec.ofNat 32 128))
    (IntOp.cmpi .sgt (BitVec.ofNat 32 (t 1).val) (BitVec.ofNat 32 0))) _ _ = _
  rw [cmpi_sge_ofNat (by omega) (by omega), cmpi_sgt_ofNat (by omega) (by omega)]
  by_cases h1 : 128 ≤ k.val <;> by_cases h2 : 0 < (t 1).val <;> simp [h1, h2] <;> rfl

end Cert.KernelIdeal
-- ==== Proof.Spec.lean ====
/-
  What the dilated attention computes, as a function of its nine arrays read at natural-number indices: per dilation
  pattern the row of masked scores of a query against the 256 keys of its own block and the block before, and the three
  patterns' outputs weighted by the softmax of their log-sum-exps. Both programs are shown to compute this.
-/
module

public import proofs.«01_k».proof.Proof.Rows
public import Idealize.ShloMosaic.Lib.Pointwise.Index

@[expose] public section

noncomputable section

namespace Attention

open Idealize.ShloMosaic

/-- The position in its class of key `k` of the window of query `n`, counted from 128 before the class's start. -/
def keyPos (n : ℕ) (k : Fin 256) : ℕ := n / 128 * 128 + k.val

/-- Query `n` sees key `k` of its window: the 128 positions before it and itself, none before the start. -/
def Sees (n : ℕ) (k : Fin 256) : Prop := n % 128 ≤ k.val ∧ k.val ≤ n % 128 + 128 ∧ 128 ≤ keyPos n k

instance (n : ℕ) (k : Fin 256) : Decidable (Sees n k) := by unfold Sees; infer_instance

/-- The scores of query `n` of head `h` against its window. -/
def scoreRow (q k : ℕ → ℕ → EReal) (h n : ℕ) : Fin 256 → EReal := fun j =>
  if Sees n j then ∑ d : Fin 64, q n (64 * h + d.val) * k (keyPos n j - 128) (64 * h + d.val) else ⊥

/-- Column `w` of the values of query `n`'s window. -/
def valRow (v : ℕ → ℕ → EReal) (n w : ℕ) : Fin 256 → EReal := fun j => v (keyPos n j - 128) w

/-- A pattern's log-sum-exp at query `n`, in column `w`'s head. -/
def lseAt (q k : ℕ → ℕ → EReal) (n w : ℕ) : EReal := lse (scoreRow q k (w / 64) n)

/-- A pattern's output at query `n`, column `w`. -/
def outAt (q k v : ℕ → ℕ → EReal) (n w : ℕ) : EReal :=
  Ideal.div (mix (scoreRow q k (w / 64) n) (valRow v n w)) (total (scoreRow q k (w / 64) n))

/-- Every entry is a real number. -/
def Finite (q : ℕ → ℕ → EReal) : Prop := ∀ n w, ∃ r : ℝ, q n w = r

theorem sum_real {n : ℕ} (f : Fin n → EReal) (h : ∀ i, ∃ r : ℝ, f i = r) : ∃ r : ℝ, ∑ i, f i = r := by
  choose g hg using h
  simp_rw [hg]
  exact ⟨∑ i, g i, (map_sum (⟨⟨Real.toEReal, EReal.coe_zero⟩, EReal.coe_add⟩ : ℝ →+ EReal) g Finset.univ).symm⟩

/-- Finite queries and keys give usual rows: a query sees at least itself. -/
theorem scoreRow_usual {q k : ℕ → ℕ → EReal} (hq : Finite q) (hk : Finite k) (h n : ℕ) : Usual (scoreRow q k h n) := by
  have hr : ∀ j, ∃ r : ℝ, ∑ d : Fin 64, q n (64 * h + d.val) * k (keyPos n j - 128) (64 * h + d.val) = r := fun j =>
    sum_real _ fun d => by
      obtain ⟨a, ha⟩ := hq n (64 * h + d.val)
      obtain ⟨b, hb⟩ := hk (keyPos n j - 128) (64 * h + d.val)
      exact ⟨a * b, by rw [ha, hb, EReal.coe_mul]⟩
  refine ⟨fun j => ?_, ⟨n % 128 + 128, by omega⟩, ?_⟩
  · obtain ⟨r, hr⟩ := hr j
    unfold scoreRow
    split
    · rw [hr]; exact EReal.coe_ne_top r
    · exact bot_ne_top
  · obtain ⟨r, hr⟩ := hr ⟨n % 128 + 128, by omega⟩
    unfold scoreRow
    rw [if_pos ⟨Nat.le_add_right _ _, le_refl _, (Nat.le_add_left 128 (n % 128)).trans (Nat.le_add_left _ _)⟩, hr]
    exact EReal.coe_ne_bot r

/-- The nine arrays, at natural-number indices: pattern, batch, class, position in the class, column. -/
structure Arrays where
  q : Fin 3 → ℕ → ℕ → ℕ → ℕ → EReal
  k : Fin 3 → ℕ → ℕ → ℕ → ℕ → EReal
  v : Fin 3 → ℕ → ℕ → ℕ → ℕ → EReal

/-- The patterns' dilations. -/
def dil : Fin 3 → ℕ := ![1, 4, 16]

namespace Arrays

variable (A : Arrays)

/-- Pattern `p`'s log-sum-exp at position `s`. -/
def lse (p : Fin 3) (b s w : ℕ) : EReal := lseAt (A.q p b (s % dil p)) (A.k p b (s % dil p)) (s / dil p) w

/-- Pattern `p`'s output at position `s`. -/
def out (p : Fin 3) (b s w : ℕ) : EReal :=
  outAt (A.q p b (s % dil p)) (A.k p b (s % dil p)) (A.v p b (s % dil p)) (s / dil p) w

/-- The greatest log-sum-exp at position `s`. -/
def peak (b s w : ℕ) : EReal := Attention.top fun p => A.lse p b s w

/-- The attention's output: the patterns' outputs weighted by the softmax of their log-sum-exps. -/
def attn (b s w : ℕ) : EReal :=
  ∑ p : Fin 3, Ideal.div (Ideal.exp (A.lse p b s w - A.peak b s w)) (∑ q : Fin 3, Ideal.exp (A.lse q b s w - A.peak b s w))
    * A.out p b s w

/-- The queries and keys are finite. -/
def FiniteQK : Prop := (∀ p b r, Finite (A.q p b r)) ∧ ∀ p b r, Finite (A.k p b r)

variable {A}

theorem FiniteQK.usual (h : A.FiniteQK) (p : Fin 3) (b s w : ℕ) :
    Usual (scoreRow (A.q p b (s % dil p)) (A.k p b (s % dil p)) (w / 64) (s / dil p)) :=
  scoreRow_usual (h.1 p b _) (h.2 p b _) _ _

/-- The quotient may be taken last. -/
theorem FiniteQK.attn_eq (h : A.FiniteQK) (b s w : ℕ) :
    Ideal.div (Ideal.exp (A.lse 0 b s w - max (max (A.lse 0 b s w) (A.lse 1 b s w)) (A.lse 2 b s w)) * A.out 0 b s w
        + Ideal.exp (A.lse 1 b s w - max (max (A.lse 0 b s w) (A.lse 1 b s w)) (A.lse 2 b s w)) * A.out 1 b s w
        + Ideal.exp (A.lse 2 b s w - max (max (A.lse 0 b s w) (A.lse 1 b s w)) (A.lse 2 b s w)) * A.out 2 b s w)
      (Ideal.exp (A.lse 0 b s w - max (max (A.lse 0 b s w) (A.lse 1 b s w)) (A.lse 2 b s w))
        + Ideal.exp (A.lse 1 b s w - max (max (A.lse 0 b s w) (A.lse 1 b s w)) (A.lse 2 b s w))
        + Ideal.exp (A.lse 2 b s w - max (max (A.lse 0 b s w) (A.lse 1 b s w)) (A.lse 2 b s w)))
      = A.attn b s w := by
  have hp : A.peak b s w = max (max (A.lse 0 b s w) (A.lse 1 b s w)) (A.lse 2 b s w) := by
    unfold peak Attention.top
    rw [show (Finset.univ : Finset (Fin 3)) = {0, 1, 2} from by decide]
    simp [max_assoc]
  have hl : ∀ p, ∃ a : ℝ, A.lse p b s w = a := fun p => (h.usual p b s w).lse_real
  choose a ha using hl
  unfold attn
  rw [hp]
  simp only [ha]
  have hm : max (max (a 0 : EReal) (a 1)) (a 2) = ((max (max (a 0) (a 1)) (a 2) : ℝ) : EReal) := by
    rw [EReal.coe_strictMono.monotone.map_max, EReal.coe_strictMono.monotone.map_max]
  rw [hm]
  exact merge_eq a (fun p => A.out p b s w) _

end Arrays

/-- A rank-3 array at natural-number indices, zero outside. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- A rank-4 array at natural-number indices, zero outside. -/
def at4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

theorem at3_ix {a b c : ℕ} (x : (⟨3, ![a, b, c]⟩ : Shape).Idx → EReal) (i : Fin a) (j : Fin b) (k : Fin c) :
    at3 x i.val j.val k.val = x (ix3 i j k) := dif_pos ⟨i.isLt, j.isLt, k.isLt⟩

theorem at4_ix {a b c d : ℕ} (x : (⟨4, ![a, b, c, d]⟩ : Shape).Idx → EReal) (i : Fin a) (j : Fin b) (k : Fin c) (l : Fin d) :
    at4 x i.val j.val k.val l.val = x (ix4 i j k l) := dif_pos ⟨i.isLt, j.isLt, k.isLt, l.isLt⟩

/-- The nine arguments as the nine arrays (the undilated pattern has one class). -/
def ofArgs (q1 k1 v1 : (⟨3, ![4, 8192, 512]⟩ : Shape).Idx → EReal) (q4 k4 v4 : (⟨4, ![4, 4, 2048, 512]⟩ : Shape).Idx → EReal)
    (q16 k16 v16 : (⟨4, ![4, 16, 512, 512]⟩ : Shape).Idx → EReal) : Arrays where
  q := ![fun b _ n w => at3 q1 b n w, fun b r n w => at4 q4 b r n w, fun b r n w => at4 q16 b r n w]
  k := ![fun b _ n w => at3 k1 b n w, fun b r n w => at4 k4 b r n w, fun b r n w => at4 k16 b r n w]
  v := ![fun b _ n w => at3 v1 b n w, fun b r n w => at4 v4 b r n w, fun b r n w => at4 v16 b r n w]

theorem at3_real {a b c : ℕ} {x : (⟨3, ![a, b, c]⟩ : Shape).Idx → EReal} (h : ∀ i, ∃ r : ℝ, x i = r) (i j k : ℕ) :
    ∃ r : ℝ, at3 x i j k = r := by
  unfold at3
  split
  · exact h _
  · exact ⟨0, rfl⟩

theorem at4_real {a b c d : ℕ} {x : (⟨4, ![a, b, c, d]⟩ : Shape).Idx → EReal} (h : ∀ i, ∃ r : ℝ, x i = r) (i j k l : ℕ) :
    ∃ r : ℝ, at4 x i j k l = r := by
  unfold at4
  split
  · exact h _
  · exact ⟨0, rfl⟩

theorem ofArgs_finite {q1 k1 v1 : (⟨3, ![4, 8192, 512]⟩ : Shape).Idx → EReal} {q4 k4 v4 : (⟨4, ![4, 4, 2048, 512]⟩ : Shape).Idx → EReal}
    {q16 k16 v16 : (⟨4, ![4, 16, 512, 512]⟩ : Shape).Idx → EReal}
    (hq1 : ∀ i, ∃ r : ℝ, q1 i = r) (hk1 : ∀ i, ∃ r : ℝ, k1 i = r) (hq4 : ∀ i, ∃ r : ℝ, q4 i = r) (hk4 : ∀ i, ∃ r : ℝ, k4 i = r)
    (hq16 : ∀ i, ∃ r : ℝ, q16 i = r) (hk16 : ∀ i, ∃ r : ℝ, k16 i = r) : (ofArgs q1 k1 v1 q4 k4 v4 q16 k16 v16).FiniteQK := by
  constructor
  · intro p b r n w
    fin_cases p
    exacts [at3_real hq1 b n w, at4_real hq4 b r n w, at4_real hq16 b r n w]
  · intro p b r n w
    fin_cases p
    exacts [at3_real hk1 b n w, at4_real hk4 b r n w, at4_real hk16 b r n w]

end Attention
-- ==== Proof.UnitSpec.lean ====
/-
  A unit of the kernel computes rows of the attention: its query rows, its windows and its mask given as the nine
  arrays' entries, what it stores is a pattern's output and log-sum-exp.
-/
module

public import proofs.«01_k».proof.Proof.Unit
public import proofs.«01_k».proof.Proof.Spec

@[expose] public section

set_option maxRecDepth 16384

noncomputable section

namespace Cert.KernelIdeal

open Idealize.ShloMosaic Idealize.SL.Sem Gen Attention

/-- A sum over the 128 lanes of two heads, one head's lanes kept, is the sum over that head's 64 lanes. -/
theorem sum_half (l : Fin 128) (f : ℕ → EReal) :
    (∑ e : Fin 128, if (e.val < 64 ↔ l.val < 64) then f e.val else 0) = ∑ d : Fin 64, f (64 * (l.val / 64) + d.val) := by
  have hs : (∑ e : Fin 128, if (e.val < 64 ↔ l.val < 64) then f e.val else 0)
      = (∑ e : Fin 64, if (e.val < 64 ↔ l.val < 64) then f e.val else 0)
        + ∑ e : Fin 64, if (64 + e.val < 64 ↔ l.val < 64) then f (64 + e.val) else 0 :=
    Fin.sum_univ_add (a := 64) (b := 64) fun e : Fin 128 => if (e.val < 64 ↔ l.val < 64) then f e.val else 0
  rw [hs]
  by_cases hl : l.val < 64
  · have h2 : l.val / 64 = 0 := by omega
    simp [hl, h2]
  · have h2 : l.val / 64 = 1 := by omega
    simp [hl, h2]

/-- What a unit's operands are: query rows from position `base` of a class on, the window's keys and values from 128
    positions before, the band as the mask; `hp` the pair of heads. The keys before the class's start are anything. -/
structure Operands (Q K V : ℕ → ℕ → EReal) (hp base : ℕ) (bias : FVec Ideal S128x256 .f32) (q : FVec Ideal S128x128 .bf16)
    (kw vw : FVec Ideal S256x128 .bf16) : Prop where
  dvd : 128 ∣ base
  hq : ∀ i l : Fin 128, q (ix2 i l) = Q (base + i.val) (128 * hp + l.val)
  hk : ∀ (k : Fin 256) (l : Fin 128), 128 ≤ base + k.val → kw (ix2 k l) = K (base + k.val - 128) (128 * hp + l.val)
  hv : ∀ (k : Fin 256) (l : Fin 128), 128 ≤ base + k.val → vw (ix2 k l) = V (base + k.val - 128) (128 * hp + l.val)
  hb : ∀ (i : Fin 128) (k : Fin 256),
    bias (ix2 i k) = if 128 ≤ base + k.val ∧ i.val ≤ k.val ∧ k.val ≤ i.val + 128 then 0 else ⊥

variable {Q K V : ℕ → ℕ → EReal} {hp base : ℕ} {bias : FVec Ideal S128x256 .f32} {q : FVec Ideal S128x128 .bf16}
    {kw vw : FVec Ideal S256x128 .bf16}

theorem Operands.keyPos_eq (o : Operands Q K V hp base bias q kw vw) (i : Fin 128) (k : Fin 256) :
    keyPos (base + i.val) k = base + k.val := by
  obtain ⟨n, rfl⟩ := o.dvd
  unfold keyPos
  omega

theorem Operands.sees_iff (o : Operands Q K V hp base bias q kw vw) (i : Fin 128) (k : Fin 256) :
    Sees (base + i.val) k ↔ 128 ≤ base + k.val ∧ i.val ≤ k.val ∧ k.val ≤ i.val + 128 := by
  unfold Sees
  rw [o.keyPos_eq]
  obtain ⟨n, rfl⟩ := o.dvd
  omega

theorem Operands.row (o : Operands Q K V hp base bias q kw vw) (i l : Fin 128) :
    unitRow bias q kw i l = scoreRow Q K ((128 * hp + l.val) / 64) (base + i.val) := by
  funext k
  unfold unitRow scoreRow
  rw [o.hb, o.keyPos_eq]
  by_cases h : 128 ≤ base + k.val ∧ i.val ≤ k.val ∧ k.val ≤ i.val + 128
  · rw [if_pos h, if_pos ((o.sees_iff i k).2 h), add_zero]
    have e : ∀ e : Fin 128, (if (e.val < 64 ↔ l.val < 64) then q (ix2 i e) else 0) * kw (ix2 k e)
        = if (e.val < 64 ↔ l.val < 64) then (fun x => Q (base + i.val) (128 * hp + x) * K (base + k.val - 128) (128 * hp + x)) e.val else 0 := by
      intro e
      rw [o.hq, o.hk k e h.1]
      split
      · rfl
      · exact zero_mul _
    simp_rw [e]
    rw [sum_half l (fun x => Q (base + i.val) (128 * hp + x) * K (base + k.val - 128) (128 * hp + x))]
    refine Finset.sum_congr rfl fun d _ => ?_
    rw [show 128 * hp + (64 * (l.val / 64) + d.val) = 64 * ((128 * hp + l.val) / 64) + d.val by omega]
  · rw [if_neg h, if_neg (fun hs => h ((o.sees_iff i k).1 hs)), EReal.add_bot]

theorem Operands.lse (o : Operands Q K V hp base bias q kw vw) (i l : Fin 128) :
    unitLse bias q kw (ix3 0 i l) = lseAt Q K (base + i.val) (128 * hp + l.val) := by
  rw [unitLse_apply, o.row]; rfl

theorem Operands.out (o : Operands Q K V hp base bias q kw vw) (hQ : Finite Q) (hK : Finite K) (i l : Fin 128) :
    unitOut bias q kw vw (ix3 0 i l) = outAt Q K V (base + i.val) (128 * hp + l.val) := by
  have hu := scoreRow_usual hQ hK ((128 * hp + l.val) / 64) (base + i.val)
  obtain ⟨L, hL, e⟩ := hu.total_real
  rw [unitOut_apply, o.row]
  unfold outAt
  rw [e, mul_div_one hL]
  refine congrArg (Ideal.div · (L : EReal)) (mix_congr hu fun k hk => ?_)
  have hs : Sees (base + i.val) k := by
    by_contra hn
    exact hk (if_neg hn)
  unfold valRow
  rw [o.keyPos_eq, o.hv k l ((o.sees_iff i k).1 hs).1]

end Cert.KernelIdeal
-- ==== Proof.Blocks.lean ====
/-
  The blocks a grid point stages, as entries of the nine arrays, and the loads a unit makes of them. At grid point
  (batch, super block, pair of heads) a current block starts at 2048 times the super block divided by the dilation; a
  previous block is the 128 positions before it, where there are any.
-/
module

public import proofs.«01_k».proof.Proof.Gen.KernelIdeal.Value
public import proofs.«01_k».proof.Proof.UnitSpec
public import Idealize.ShloMosaic.Lib.Pipeline.ValueKit

@[expose] public section

set_option maxRecDepth 16384

noncomputable section

namespace Cert.KernelIdeal

open Idealize.ShloMosaic Idealize.ShloMosaic.TcCoe Idealize.SL.Sem Gen Attention

variable (m : (ℓ : Loc nD τ sig) → Buf (Elt Ideal) ℓ)

/-- The nine arrays at launch. -/
def arrays (c : Dev nD) : Arrays :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The grid point's batch, super block and pair of heads. -/
abbrev gb (t : Fin grid0.N) : ℕ := (grid0.coords t 0).val
abbrev gs (t : Fin grid0.N) : ℕ := (grid0.coords t 1).val
abbrev gh (t : Fin grid0.N) : ℕ := (grid0.coords t 2).val

theorem gb_lt (t : Fin grid0.N) : gb t < 4 := (grid0.coords t 0).isLt
theorem gs_lt (t : Fin grid0.N) : gs t < 4 := (grid0.coords t 1).isLt
theorem gh_lt (t : Fin grid0.N) : gh t < 4 := (grid0.coords t 2).isLt

/-- The windows' block indices. -/
theorem idx3 : ∀ t : Fin grid0.N,
    (win0_0.index t = ![gb t, gs t, gh t] ∧ win0_1.index t = ![gb t, gs t, gh t] ∧ win0_3.index t = ![gb t, gs t, gh t])
    ∧ (win0_2.index t = ![gb t, gs t * 16 - 1, gh t] ∧ win0_4.index t = ![gb t, gs t * 16 - 1, gh t])
    ∧ win0_15.index t = ![gb t, gs t, gh t] := by
  decide +kernel

theorem idx4 : ∀ t : Fin grid0.N,
    (win0_5.index t = ![gb t, 0, gs t, gh t] ∧ win0_6.index t = ![gb t, 0, gs t, gh t] ∧ win0_8.index t = ![gb t, 0, gs t, gh t])
    ∧ (win0_7.index t = ![gb t, 0, gs t * 4 - 1, gh t] ∧ win0_9.index t = ![gb t, 0, gs t * 4 - 1, gh t])
    ∧ (win0_10.index t = ![gb t, 0, gs t, gh t] ∧ win0_11.index t = ![gb t, 0, gs t, gh t] ∧ win0_13.index t = ![gb t, 0, gs t, gh t])
    ∧ (win0_12.index t = ![gb t, 0, gs t - 1, gh t] ∧ win0_14.index t = ![gb t, 0, gs t - 1, gh t]) := by
  decide +kernel

section

variable (c : Dev nD) (t : Fin cfg0.N)

/-- The undilated pattern's current blocks. -/
theorem cur1 (n : Fin 2048) (l : Fin 128) :
    iblk m c 0 t (ix3 0 n l) = (arrays m c).q 0 (gb t) 0 (gs t * 2048 + n.val) (128 * gh t + l.val)
    ∧ iblk m c 1 t (ix3 0 n l) = (arrays m c).k 0 (gb t) 0 (gs t * 2048 + n.val) (128 * gh t + l.val)
    ∧ iblk m c 3 t (ix3 0 n l) = (arrays m c).v 0 (gb t) 0 (gs t * 2048 + n.val) (128 * gh t + l.val) := by
  have h0 := gb_lt t
  have h1 := gs_lt t
  have h2 := gh_lt t
  refine ⟨?_, ?_, ?_⟩ <;> change _ = at3 _ _ _ _ <;> unfold at3 <;> rw [dif_pos ⟨by omega, by omega, by omega⟩] <;>
    blk_ext [iblk, V, (idx3 t).1]

/-- Its previous blocks. -/
theorem prev1 (h : 0 < gs t) (n l : Fin 128) :
    iblk m c 2 t (ix3 0 n l) = (arrays m c).k 0 (gb t) 0 (gs t * 2048 + n.val - 128) (128 * gh t + l.val)
    ∧ iblk m c 4 t (ix3 0 n l) = (arrays m c).v 0 (gb t) 0 (gs t * 2048 + n.val - 128) (128 * gh t + l.val) := by
  have h0 := gb_lt t
  have h1 := gs_lt t
  have h2 := gh_lt t
  refine ⟨?_, ?_⟩ <;> change _ = at3 _ _ _ _ <;> unfold at3 <;> rw [dif_pos ⟨by omega, by omega, by omega⟩] <;>
    blk_ext [iblk, V, (idx3 t).2.1]

/-- The current blocks at dilation 4, by class. -/
theorem cur4 (r : Fin 4) (n : Fin 512) (l : Fin 128) :
    iblk m c 5 t (ix4 0 r n l) = (arrays m c).q 1 (gb t) r.val (gs t * 512 + n.val) (128 * gh t + l.val)
    ∧ iblk m c 6 t (ix4 0 r n l) = (arrays m c).k 1 (gb t) r.val (gs t * 512 + n.val) (128 * gh t + l.val)
    ∧ iblk m c 8 t (ix4 0 r n l) = (arrays m c).v 1 (gb t) r.val (gs t * 512 + n.val) (128 * gh t + l.val) := by
  have h0 := gb_lt t
  have h1 := gs_lt t
  have h2 := gh_lt t
  refine ⟨?_, ?_, ?_⟩ <;> change _ = at4 _ _ _ _ _ <;> unfold at4 <;> rw [dif_pos ⟨by omega, by omega, by omega, by omega⟩] <;>
    blk_ext [iblk, V, (idx4 t).1]

theorem prev4 (h : 0 < gs t) (r : Fin 4) (n l : Fin 128) :
    iblk m c 7 t (ix4 0 r n l) = (arrays m c).k 1 (gb t) r.val (gs t * 512 + n.val - 128) (128 * gh t + l.val)
    ∧ iblk m c 9 t (ix4 0 r n l) = (arrays m c).v 1 (gb t) r.val (gs t * 512 + n.val - 128) (128 * gh t + l.val) := by
  have h0 := gb_lt t
  have h1 := gs_lt t
  have h2 := gh_lt t
  refine ⟨?_, ?_⟩ <;> change _ = at4 _ _ _ _ _ <;> unfold at4 <;> rw [dif_pos ⟨by omega, by omega, by omega, by omega⟩] <;>
    blk_ext [iblk, V, (idx4 t).2.1]

/-- The current blocks at dilation 16, by class. -/
theorem cur16 (r : Fin 16) (n l : Fin 128) :
    iblk m c 10 t (ix4 0 r n l) = (arrays m c).q 2 (gb t) r.val (gs t * 128 + n.val) (128 * gh t + l.val)
    ∧ iblk m c 11 t (ix4 0 r n l) = (arrays m c).k 2 (gb t) r.val (gs t * 128 + n.val) (128 * gh t + l.val)
    ∧ iblk m c 13 t (ix4 0 r n l) = (arrays m c).v 2 (gb t) r.val (gs t * 128 + n.val) (128 * gh t + l.val) := by
  have h0 := gb_lt t
  have h1 := gs_lt t
  have h2 := gh_lt t
  refine ⟨?_, ?_, ?_⟩ <;> change _ = at4 _ _ _ _ _ <;> unfold at4 <;> rw [dif_pos ⟨by omega, by omega, by omega, by omega⟩] <;>
    blk_ext [iblk, V, (idx4 t).2.2.1]

theorem prev16 (h : 0 < gs t) (r : Fin 16) (n l : Fin 128) :
    iblk m c 12 t (ix4 0 r n l) = (arrays m c).k 2 (gb t) r.val (gs t * 128 + n.val - 128) (128 * gh t + l.val)
    ∧ iblk m c 14 t (ix4 0 r n l) = (arrays m c).v 2 (gb t) r.val (gs t * 128 + n.val - 128) (128 * gh t + l.val) := by
  have h0 := gb_lt t
  have h1 := gs_lt t
  have h2 := gh_lt t
  refine ⟨?_, ?_⟩ <;> change _ = at4 _ _ _ _ _ <;> unfold at4 <;> rw [dif_pos ⟨by omega, by omega, by omega, by omega⟩] <;>
    blk_ext [iblk, V, (idx4 t).2.2.2]

end

/-! ## Loads -/

theorem cast3_128 (v : FVec Ideal S1x128x128 .bf16) (n l : Fin 128) :
    shapeCast S128x128 v shapeCasts_S1x128x128_S128x128 (ix2 n l) = v (ix3 0 n l) := by
  pointwise
theorem cast3_256 (v : FVec Ideal S1x256x128 .bf16) (n : Fin 256) (l : Fin 128) :
    shapeCast S256x128 v shapeCasts_S1x256x128_S256x128 (ix2 n l) = v (ix3 0 n l) := by
  pointwise
theorem cast4_128 (v : FVec Ideal S1x1x128x128 .bf16) (n l : Fin 128) :
    shapeCast S128x128 v shapeCasts_S1x1x128x128_S128x128 (ix2 n l) = v (ix4 0 0 n l) := by
  pointwise
theorem cast4_256 (v : FVec Ideal S1x1x256x128 .bf16) (n : Fin 256) (l : Fin 128) :
    shapeCast S256x128 v shapeCasts_S1x1x256x128_S256x128 (ix2 n l) = v (ix4 0 0 n l) := by
  pointwise

/-- A load of rows from row `o` of a staged block, read at an index. -/
theorem load3 {N R o : ℕ} (a : Memref sig .tc .vmem ⟨3, ![1, N, 128]⟩ .bf16) (ha : a.IsWhole) (x : Vec Ideal ⟨3, ![1, N, 128]⟩ .bf16)
    (hb : ∀ d, (![0, o, 0] : Fin 3 → ℕ) d + (![1, R, 128] : Fin 3 → ℕ) d ≤ (![1, N, 128] : Fin 3 → ℕ) d)
    (n : Fin R) (l : Fin 128) (i : Fin N) (hi : i.val = o + n.val) :
    View.readAt (Elt Ideal) a.view (Rect.unit (s := ⟨3, ![1, N, 128]⟩) ![0, o, 0] ![1, R, 128] hb).toLoadRect (ha.unread x) (ix3 0 n l : (⟨3, ![1, R, 128]⟩ : Shape).Idx)
      = x (ix3 0 i l) := by
  rw [View.readAt_eq_ld, ha.read_unread]
  refine congrArg x (funext fun d => Fin.ext ?_)
  fin_cases d <;> simp [View.ld, Rect.unit, Rect.toLoadRect, LoadRect.idx, hi, Shape.Idx.norm]

theorem load4 {C N R r o : ℕ} (a : Memref sig .tc .vmem ⟨4, ![1, C, N, 128]⟩ .bf16) (ha : a.IsWhole) (x : Vec Ideal ⟨4, ![1, C, N, 128]⟩ .bf16)
    (hb : ∀ d, (![0, r, o, 0] : Fin 4 → ℕ) d + (![1, 1, R, 128] : Fin 4 → ℕ) d ≤ (![1, C, N, 128] : Fin 4 → ℕ) d)
    (n : Fin R) (l : Fin 128) (j : Fin C) (hj : j.val = r) (i : Fin N) (hi : i.val = o + n.val) :
    View.readAt (Elt Ideal) a.view (Rect.unit (s := ⟨4, ![1, C, N, 128]⟩) ![0, r, o, 0] ![1, 1, R, 128] hb).toLoadRect (ha.unread x) (ix4 0 0 n l : (⟨4, ![1, 1, R, 128]⟩ : Shape).Idx)
      = x (ix4 0 j i l) := by
  rw [View.readAt_eq_ld, ha.read_unread]
  refine congrArg x (funext fun d => Fin.ext ?_)
  fin_cases d <;> simp [View.ld, Rect.unit, Rect.toLoadRect, LoadRect.idx, hi, hj, Shape.Idx.norm]

end Cert.KernelIdeal
-- ==== Proof.Windows.lean ====
/-
  The units' operands. A unit at a later block of a class loads its query rows and its window from the current blocks
  and uses the band as its mask; a unit at a class's first block puts the previous block before the current one, and
  its mask drops the previous block where there is none.
-/
module

public import proofs.«01_k».proof.Proof.Blocks

@[expose] public section

set_option maxRecDepth 16384

noncomputable section

namespace Cert.KernelIdeal

open Idealize.ShloMosaic Idealize.ShloMosaic.TcCoe Idealize.SL.Sem Gen Attention

variable (m : (ℓ : Loc nD τ sig) → Buf (Elt Ideal) ℓ) (c : Dev nD) (t : Fin cfg0.N)

/-- The band of a later block is the mask the operands ask for. -/
theorem band_later {base : ℕ} (h : 128 ≤ base) (i : Fin 128) (k : Fin 256) :
    (k0_pay2 (F := Ideal)) (ix2 i k) = if 128 ≤ base + k.val ∧ i.val ≤ k.val ∧ k.val ≤ i.val + 128 then 0 else ⊥ := by
  rw [band_apply]
  exact if_congr (by omega) rfl rfl

/-- The band of a first block, the class's start being `L` times the super block. -/
theorem band_first {L : ℕ} (h : 128 ≤ L) (i : Fin 128) (k : Fin 256) :
    (k0_pay3 (F := Ideal) (grid0.coords t)) (ix2 i k)
      = if 128 ≤ gs t * L + k.val ∧ i.val ≤ k.val ∧ k.val ≤ i.val + 128 then 0 else ⊥ := by
  rw [firstBand_apply]
  refine if_congr ?_ rfl rfl
  change (128 ≤ k.val ∨ 0 < gs t) ∧ _ ↔ _
  rcases Nat.eq_zero_or_pos (gs t) with h0 | h0
  · rw [h0]; omega
  · have := Nat.mul_le_mul h0 h
    omega

/-- Rows of a window from the previous and the current block, read at an index. -/
theorem window_first (p q : FVec Ideal S128x128 .bf16) (n : Fin 256) (l : Fin 128) :
    concatenate S256x128 0 [⟨S128x128, p⟩, ⟨S128x128, q⟩] concatenates_S128x128_S128x128_S256x128_d0 (ix2 n l)
      = if h : n.val < 128 then p (ix2 ⟨n.val, h⟩ l) else q (ix2 ⟨n.val - 128, by omega⟩ l) := by
  pointwise

/-- A unit at a class's first block, its operands given as the class's rows. -/
theorem operands_first {Q K V : ℕ → ℕ → EReal} {L : ℕ} (h : 128 ≤ L) (hL : 128 ∣ L) {q kp kc vp vc : FVec Ideal S128x128 .bf16}
    (hq : ∀ n l : Fin 128, q (ix2 n l) = Q (gs t * L + n.val) (128 * gh t + l.val))
    (hkc : ∀ n l : Fin 128, kc (ix2 n l) = K (gs t * L + n.val) (128 * gh t + l.val))
    (hvc : ∀ n l : Fin 128, vc (ix2 n l) = V (gs t * L + n.val) (128 * gh t + l.val))
    (hkp : 0 < gs t → ∀ n l : Fin 128, kp (ix2 n l) = K (gs t * L + n.val - 128) (128 * gh t + l.val))
    (hvp : 0 < gs t → ∀ n l : Fin 128, vp (ix2 n l) = V (gs t * L + n.val - 128) (128 * gh t + l.val)) :
    Operands Q K V (gh t) (gs t * L) (k0_pay3 (grid0.coords t)) q
      (concatenate S256x128 0 [⟨S128x128, kp⟩, ⟨S128x128, kc⟩] concatenates_S128x128_S128x128_S256x128_d0)
      (concatenate S256x128 0 [⟨S128x128, vp⟩, ⟨S128x128, vc⟩] concatenates_S128x128_S128x128_S256x128_d0) where
  dvd := hL.mul_left _
  hq := hq
  hk k l hk := by
    rw [window_first]
    split
    · refine hkp (Nat.pos_of_ne_zero fun h0 => ?_) _ l
      rw [h0] at hk
      omega
    · rw [hkc]
      exact congrArg (K · _) (by dsimp only; omega)
  hv k l hk := by
    rw [window_first]
    split
    · refine hvp (Nat.pos_of_ne_zero fun h0 => ?_) _ l
      rw [h0] at hk
      omega
    · rw [hvc]
      exact congrArg (V · _) (by dsimp only; omega)
  hb := band_first t h

/-! ## The undilated pattern -/

section

variable (a : Memref sig .tc .vmem S1x2048x128 .bf16) (ha : a.IsWhole) (b : Memref sig .tc .vmem S1x2048x128 .bf16) (hb : b.IsWhole)
  (d : Memref sig .tc .vmem S1x2048x128 .bf16) (hd : d.IsWhole)

theorem later1 (o o' : ℕ) (h : o' + 128 = o) (hdv : 128 ∣ o) (ho : o + 128 ≤ 2048)
    (h1 : ∀ d, (![0, o, 0] : Fin 3 → ℕ) d + (![1, 128, 128] : Fin 3 → ℕ) d ≤ (![1, 2048, 128] : Fin 3 → ℕ) d)
    (h2 h3 : ∀ d, (![0, o', 0] : Fin 3 → ℕ) d + (![1, 256, 128] : Fin 3 → ℕ) d ≤ (![1, 2048, 128] : Fin 3 → ℕ) d) :
    Operands ((arrays m c).q 0 (gb t) 0) ((arrays m c).k 0 (gb t) 0) ((arrays m c).v 0 (gb t) 0) (gh t) (gs t * 2048 + o) k0_pay2
      (shapeCast S128x128 (View.readAt (Elt Ideal) a.view (Rect.unit (s := S1x2048x128) ![0, o, 0] ![1, 128, 128] h1).toLoadRect
        (ha.unread (iblk m c 0 t))) shapeCasts_S1x128x128_S128x128)
      (shapeCast S256x128 (View.readAt (Elt Ideal) b.view (Rect.unit (s := S1x2048x128) ![0, o', 0] ![1, 256, 128] h2).toLoadRect
        (hb.unread (iblk m c 1 t))) shapeCasts_S1x256x128_S256x128)
      (shapeCast S256x128 (View.readAt (Elt Ideal) d.view (Rect.unit (s := S1x2048x128) ![0, o', 0] ![1, 256, 128] h3).toLoadRect
        (hd.unread (iblk m c 3 t))) shapeCasts_S1x256x128_S256x128) where
  dvd := Nat.dvd_add (Dvd.dvd.mul_left (by decide) _) hdv
  hq i l := by
    rw [cast3_128]
    refine (load3 (R := 128) a ha _ h1 i l ⟨o + i.val, by omega⟩ rfl).trans ?_
    rw [(cur1 m c t _ l).1, Nat.add_assoc]
  hk k l hk := by
    rw [cast3_256]
    refine (load3 (R := 256) b hb _ h2 k l ⟨o' + k.val, by omega⟩ rfl).trans ?_
    rw [(cur1 m c t _ l).2.1]
    exact congrArg (fun n => (arrays m c).k 0 (gb t) 0 n _) (by dsimp only; omega)
  hv k l hk := by
    rw [cast3_256]
    refine (load3 (R := 256) d hd _ h3 k l ⟨o' + k.val, by omega⟩ rfl).trans ?_
    rw [(cur1 m c t _ l).2.2]
    exact congrArg (fun n => (arrays m c).v 0 (gb t) 0 n _) (by dsimp only; omega)
  hb := band_later (by omega)

variable (bp : Memref sig .tc .vmem S1x128x128 .bf16) (hbp : bp.IsWhole) (dp : Memref sig .tc .vmem S1x128x128 .bf16) (hdp : dp.IsWhole)

theorem first1 (h1 h2 h3 : ∀ d, (![0, 0, 0] : Fin 3 → ℕ) d + (![1, 128, 128] : Fin 3 → ℕ) d ≤ (![1, 2048, 128] : Fin 3 → ℕ) d)
    (h4 h5 : ∀ d, (![0, 0, 0] : Fin 3 → ℕ) d + (![1, 128, 128] : Fin 3 → ℕ) d ≤ (![1, 128, 128] : Fin 3 → ℕ) d) :
    Operands ((arrays m c).q 0 (gb t) 0) ((arrays m c).k 0 (gb t) 0) ((arrays m c).v 0 (gb t) 0) (gh t) (gs t * 2048) (k0_pay3 (grid0.coords t))
      (shapeCast S128x128 (View.readAt (Elt Ideal) a.view (Rect.unit (s := S1x2048x128) ![0, 0, 0] ![1, 128, 128] h1).toLoadRect
        (ha.unread (iblk m c 0 t))) shapeCasts_S1x128x128_S128x128)
      (concatenate S256x128 0
        [⟨S128x128, shapeCast S128x128 (View.readAt (Elt Ideal) bp.view (Rect.unit (s := S1x128x128) ![0, 0, 0] ![1, 128, 128] h4).toLoadRect
            (hbp.unread (iblk m c 2 t))) shapeCasts_S1x128x128_S128x128⟩,
          ⟨S128x128, shapeCast S128x128 (View.readAt (Elt Ideal) b.view (Rect.unit (s := S1x2048x128) ![0, 0, 0] ![1, 128, 128] h2).toLoadRect
            (hb.unread (iblk m c 1 t))) shapeCasts_S1x128x128_S128x128⟩] concatenates_S128x128_S128x128_S256x128_d0)
      (concatenate S256x128 0
        [⟨S128x128, shapeCast S128x128 (View.readAt (Elt Ideal) dp.view (Rect.unit (s := S1x128x128) ![0, 0, 0] ![1, 128, 128] h5).toLoadRect
            (hdp.unread (iblk m c 4 t))) shapeCasts_S1x128x128_S128x128⟩,
          ⟨S128x128, shapeCast S128x128 (View.readAt (Elt Ideal) d.view (Rect.unit (s := S1x2048x128) ![0, 0, 0] ![1, 128, 128] h3).toLoadRect
            (hd.unread (iblk m c 3 t))) shapeCasts_S1x128x128_S128x128⟩] concatenates_S128x128_S128x128_S256x128_d0) := by
  refine operands_first t (by decide) (by decide) ?_ ?_ ?_ ?_ ?_ <;> intros <;> rw [cast3_128]
  · exact (load3 (R := 128) a ha _ h1 _ _ (Fin.castLE (n := 128) (by decide) _) (Nat.zero_add _).symm).trans (cur1 m c t _ _).1
  · exact (load3 (R := 128) b hb _ h2 _ _ (Fin.castLE (n := 128) (by decide) _) (Nat.zero_add _).symm).trans (cur1 m c t _ _).2.1
  · exact (load3 (R := 128) d hd _ h3 _ _ (Fin.castLE (n := 128) (by decide) _) (Nat.zero_add _).symm).trans (cur1 m c t _ _).2.2
  · exact (load3 (R := 128) bp hbp _ h4 _ _ _ (Nat.zero_add _).symm).trans (prev1 m c t ‹_› _ _).1
  · exact (load3 (R := 128) dp hdp _ h5 _ _ _ (Nat.zero_add _).symm).trans (prev1 m c t ‹_› _ _).2

end

/-! ## Dilation 4 -/

section

variable (a : Memref sig .tc .vmem S1x4x512x128 .bf16) (ha : a.IsWhole) (b : Memref sig .tc .vmem S1x4x512x128 .bf16) (hb : b.IsWhole)
  (d : Memref sig .tc .vmem S1x4x512x128 .bf16) (hd : d.IsWhole)

theorem later4 (r o o' : ℕ) (hr : r < 4) (h : o' + 128 = o) (hdv : 128 ∣ o) (ho : o + 128 ≤ 512)
    (h1 : ∀ d, (![0, r, o, 0] : Fin 4 → ℕ) d + (![1, 1, 128, 128] : Fin 4 → ℕ) d ≤ (![1, 4, 512, 128] : Fin 4 → ℕ) d)
    (h2 h3 : ∀ d, (![0, r, o', 0] : Fin 4 → ℕ) d + (![1, 1, 256, 128] : Fin 4 → ℕ) d ≤ (![1, 4, 512, 128] : Fin 4 → ℕ) d) :
    Operands ((arrays m c).q 1 (gb t) r) ((arrays m c).k 1 (gb t) r) ((arrays m c).v 1 (gb t) r) (gh t) (gs t * 512 + o) k0_pay2
      (shapeCast S128x128 (View.readAt (Elt Ideal) a.view (Rect.unit (s := S1x4x512x128) ![0, r, o, 0] ![1, 1, 128, 128] h1).toLoadRect
        (ha.unread (iblk m c 5 t))) shapeCasts_S1x1x128x128_S128x128)
      (shapeCast S256x128 (View.readAt (Elt Ideal) b.view (Rect.unit (s := S1x4x512x128) ![0, r, o', 0] ![1, 1, 256, 128] h2).toLoadRect
        (hb.unread (iblk m c 6 t))) shapeCasts_S1x1x256x128_S256x128)
      (shapeCast S256x128 (View.readAt (Elt Ideal) d.view (Rect.unit (s := S1x4x512x128) ![0, r, o', 0] ![1, 1, 256, 128] h3).toLoadRect
        (hd.unread (iblk m c 8 t))) shapeCasts_S1x1x256x128_S256x128) where
  dvd := Nat.dvd_add (Dvd.dvd.mul_left (by decide) _) hdv
  hq i l := by
    rw [cast4_128]
    refine (load4 (R := 128) a ha _ h1 i l ⟨r, hr⟩ rfl ⟨o + i.val, by omega⟩ rfl).trans ?_
    rw [(cur4 m c t _ _ l).1, Nat.add_assoc]
  hk k l hk := by
    rw [cast4_256]
    refine (load4 (R := 256) b hb _ h2 k l ⟨r, hr⟩ rfl ⟨o' + k.val, by omega⟩ rfl).trans ?_
    rw [(cur4 m c t _ _ l).2.1]
    exact congrArg (fun n => (arrays m c).k 1 (gb t) r n _) (by dsimp only; omega)
  hv k l hk := by
    rw [cast4_256]
    refine (load4 (R := 256) d hd _ h3 k l ⟨r, hr⟩ rfl ⟨o' + k.val, by omega⟩ rfl).trans ?_
    rw [(cur4 m c t _ _ l).2.2]
    exact congrArg (fun n => (arrays m c).v 1 (gb t) r n _) (by dsimp only; omega)
  hb := band_later (by omega)

variable (bp : Memref sig .tc .vmem S1x4x128x128 .bf16) (hbp : bp.IsWhole) (dp : Memref sig .tc .vmem S1x4x128x128 .bf16) (hdp : dp.IsWhole)

theorem first4 (r : ℕ) (hr : r < 4)
    (h1 h2 h3 : ∀ d, (![0, r, 0, 0] : Fin 4 → ℕ) d + (![1, 1, 128, 128] : Fin 4 → ℕ) d ≤ (![1, 4, 512, 128] : Fin 4 → ℕ) d)
    (h4 h5 : ∀ d, (![0, r, 0, 0] : Fin 4 → ℕ) d + (![1, 1, 128, 128] : Fin 4 → ℕ) d ≤ (![1, 4, 128, 128] : Fin 4 → ℕ) d) :
    Operands ((arrays m c).q 1 (gb t) r) ((arrays m c).k 1 (gb t) r) ((arrays m c).v 1 (gb t) r) (gh t) (gs t * 512) (k0_pay3 (grid0.coords t))
      (shapeCast S128x128 (View.readAt (Elt Ideal) a.view (Rect.unit (s := S1x4x512x128) ![0, r, 0, 0] ![1, 1, 128, 128] h1).toLoadRect
            (ha.unread (iblk m c 5 t))) shapeCasts_S1x1x128x128_S128x128)
      (concatenate S256x128 0
        [⟨S128x128, shapeCast S128x128 (View.readAt (Elt Ideal) bp.view (Rect.unit (s := S1x4x128x128) ![0, r, 0, 0] ![1, 1, 128, 128] h4).toLoadRect
            (hbp.unread (iblk m c 7 t))) shapeCasts_S1x1x128x128_S128x128⟩,
          ⟨S128x128, shapeCast S128x128 (View.readAt (Elt Ideal) b.view (Rect.unit (s := S1x4x512x128) ![0, r, 0, 0] ![1, 1, 128, 128] h2).toLoadRect
            (hb.unread (iblk m c 6 t))) shapeCasts_S1x1x128x128_S128x128⟩] concatenates_S128x128_S128x128_S256x128_d0)
      (concatenate S256x128 0
        [⟨S128x128, shapeCast S128x128 (View.readAt (Elt Ideal) dp.view (Rect.unit (s := S1x4x128x128) ![0, r, 0, 0] ![1, 1, 128, 128] h5).toLoadRect
            (hdp.unread (iblk m c 9 t))) shapeCasts_S1x1x128x128_S128x128⟩,
          ⟨S128x128, shapeCast S128x128 (View.readAt (Elt Ideal) d.view (Rect.unit (s := S1x4x512x128) ![0, r, 0, 0] ![1, 1, 128, 128] h3).toLoadRect
            (hd.unread (iblk m c 8 t))) shapeCasts_S1x1x128x128_S128x128⟩] concatenates_S128x128_S128x128_S256x128_d0) := by
  refine operands_first t (by decide) (by decide) ?_ ?_ ?_ ?_ ?_ <;> intros <;> rw [cast4_128]
  · exact (load4 (R := 128) a ha _ h1 _ _ ⟨r, hr⟩ rfl (Fin.castLE (n := 128) (by decide) _) (Nat.zero_add _).symm).trans (cur4 m c t _ _ _).1
  · exact (load4 (R := 128) b hb _ h2 _ _ ⟨r, hr⟩ rfl (Fin.castLE (n := 128) (by decide) _) (Nat.zero_add _).symm).trans (cur4 m c t _ _ _).2.1
  · exact (load4 (R := 128) d hd _ h3 _ _ ⟨r, hr⟩ rfl (Fin.castLE (n := 128) (by decide) _) (Nat.zero_add _).symm).trans (cur4 m c t _ _ _).2.2
  · exact (load4 (R := 128) bp hbp _ h4 _ _ ⟨r, hr⟩ rfl _ (Nat.zero_add _).symm).trans (prev4 m c t ‹_› _ _ _).1
  · exact (load4 (R := 128) dp hdp _ h5 _ _ ⟨r, hr⟩ rfl _ (Nat.zero_add _).symm).trans (prev4 m c t ‹_› _ _ _).2

end

/-! ## Dilation 16 -/

section

variable (a : Memref sig .tc .vmem S1x16x128x128 .bf16) (ha : a.IsWhole) (b : Memref sig .tc .vmem S1x16x128x128 .bf16) (hb : b.IsWhole)
  (d : Memref sig .tc .vmem S1x16x128x128 .bf16) (hd : d.IsWhole)

variable (bp : Memref sig .tc .vmem S1x16x128x128 .bf16) (hbp : bp.IsWhole) (dp : Memref sig .tc .vmem S1x16x128x128 .bf16) (hdp : dp.IsWhole)

theorem first16 (r : ℕ) (hr : r < 16)
    (h1 h2 h3 : ∀ d, (![0, r, 0, 0] : Fin 4 → ℕ) d + (![1, 1, 128, 128] : Fin 4 → ℕ) d ≤ (![1, 16, 128, 128] : Fin 4 → ℕ) d)
    (h4 h5 : ∀ d, (![0, r, 0, 0] : Fin 4 → ℕ) d + (![1, 1, 128, 128] : Fin 4 → ℕ) d ≤ (![1, 16, 128, 128] : Fin 4 → ℕ) d) :
    Operands ((arrays m c).q 2 (gb t) r) ((arrays m c).k 2 (gb t) r) ((arrays m c).v 2 (gb t) r) (gh t) (gs t * 128) (k0_pay3 (grid0.coords t))
      (shapeCast S128x128 (View.readAt (Elt Ideal) a.view (Rect.unit (s := S1x16x128x128) ![0, r, 0, 0] ![1, 1, 128, 128] h1).toLoadRect
            (ha.unread (iblk m c 10 t))) shapeCasts_S1x1x128x128_S128x128)
      (concatenate S256x128 0
        [⟨S128x128, shapeCast S128x128 (View.readAt (Elt Ideal) bp.view (Rect.unit (s := S1x16x128x128) ![0, r, 0, 0] ![1, 1, 128, 128] h4).toLoadRect
            (hbp.unread (iblk m c 12 t))) shapeCasts_S1x1x128x128_S128x128⟩,
          ⟨S128x128, shapeCast S128x128 (View.readAt (Elt Ideal) b.view (Rect.unit (s := S1x16x128x128) ![0, r, 0, 0] ![1, 1, 128, 128] h2).toLoadRect
            (hb.unread (iblk m c 11 t))) shapeCasts_S1x1x128x128_S128x128⟩] concatenates_S128x128_S128x128_S256x128_d0)
      (concatenate S256x128 0
        [⟨S128x128, shapeCast S128x128 (View.readAt (Elt Ideal) dp.view (Rect.unit (s := S1x16x128x128) ![0, r, 0, 0] ![1, 1, 128, 128] h5).toLoadRect
            (hdp.unread (iblk m c 14 t))) shapeCasts_S1x1x128x128_S128x128⟩,
          ⟨S128x128, shapeCast S128x128 (View.readAt (Elt Ideal) d.view (Rect.unit (s := S1x16x128x128) ![0, r, 0, 0] ![1, 1, 128, 128] h3).toLoadRect
            (hd.unread (iblk m c 13 t))) shapeCasts_S1x1x128x128_S128x128⟩] concatenates_S128x128_S128x128_S256x128_d0) := by
  refine operands_first t (by decide) (by decide) ?_ ?_ ?_ ?_ ?_ <;> intros <;> rw [cast4_128]
  · exact (load4 (R := 128) a ha _ h1 _ _ ⟨r, hr⟩ rfl (Fin.castLE (n := 128) (by decide) _) (Nat.zero_add _).symm).trans (cur16 m c t _ _ _).1
  · exact (load4 (R := 128) b hb _ h2 _ _ ⟨r, hr⟩ rfl (Fin.castLE (n := 128) (by decide) _) (Nat.zero_add _).symm).trans (cur16 m c t _ _ _).2.1
  · exact (load4 (R := 128) d hd _ h3 _ _ ⟨r, hr⟩ rfl (Fin.castLE (n := 128) (by decide) _) (Nat.zero_add _).symm).trans (cur16 m c t _ _ _).2.2
  · exact (load4 (R := 128) bp hbp _ h4 _ _ ⟨r, hr⟩ rfl _ (Nat.zero_add _).symm).trans (prev16 m c t ‹_› _ _ _).1
  · exact (load4 (R := 128) dp hdp _ h5 _ _ ⟨r, hr⟩ rfl _ (Nat.zero_add _).symm).trans (prev16 m c t ‹_› _ _ _).2

end

/-! ## The units of a grid point -/

section

theorem inb3 {o R N : ℕ} (h : o + R ≤ N) : ∀ d, (![0, o, 0] : Fin 3 → ℕ) d + (![1, R, 128] : Fin 3 → ℕ) d ≤ (![1, N, 128] : Fin 3 → ℕ) d := by
  intro d
  fin_cases d <;> simp [h]

theorem inb4 {r o C R N : ℕ} (hr : r < C) (h : o + R ≤ N) :
    ∀ d, (![0, r, o, 0] : Fin 4 → ℕ) d + (![1, 1, R, 128] : Fin 4 → ℕ) d ≤ (![1, C, N, 128] : Fin 4 → ℕ) d := by
  intro d
  fin_cases d <;> simp [h] <;> omega

/-- Query rows, a later window of keys or values, and a first one, undilated. -/
def q1 (o : ℕ) (ho : o + 128 ≤ 2048) : FVec Ideal S128x128 .bf16 :=
  shapeCast S128x128 (View.readAt (Elt Ideal) (ms0_0 t).view (Rect.unit (s := S1x2048x128) ![0, o, 0] ![1, 128, 128] (inb3 (by omega))).toLoadRect
      ((hs0_0 t).unread (iblk m c 0 t))) shapeCasts_S1x128x128_S128x128

def k1 (o : ℕ) (ho : o + 256 ≤ 2048) : FVec Ideal S256x128 .bf16 :=
  shapeCast S256x128 (View.readAt (Elt Ideal) (ms0_1 t).view (Rect.unit (s := S1x2048x128) ![0, o, 0] ![1, 256, 128] (inb3 (by omega))).toLoadRect
      ((hs0_1 t).unread (iblk m c 1 t))) shapeCasts_S1x256x128_S256x128

def v1 (o : ℕ) (ho : o + 256 ≤ 2048) : FVec Ideal S256x128 .bf16 :=
  shapeCast S256x128 (View.readAt (Elt Ideal) (ms0_3 t).view (Rect.unit (s := S1x2048x128) ![0, o, 0] ![1, 256, 128] (inb3 (by omega))).toLoadRect
      ((hs0_3 t).unread (iblk m c 3 t))) shapeCasts_S1x256x128_S256x128

def kFirst1 : FVec Ideal S256x128 .bf16 :=
  concatenate S256x128 0
    [⟨S128x128, shapeCast S128x128 (View.readAt (Elt Ideal) (ms0_2 t).view (Rect.unit (s := S1x128x128) ![0, 0, 0] ![1, 128, 128] (inb3 (by omega))).toLoadRect
      ((hs0_2 t).unread (iblk m c 2 t))) shapeCasts_S1x128x128_S128x128⟩,
      ⟨S128x128, shapeCast S128x128 (View.readAt (Elt Ideal) (ms0_1 t).view (Rect.unit (s := S1x2048x128) ![0, 0, 0] ![1, 128, 128] (inb3 (by omega))).toLoadRect
      ((hs0_1 t).unread (iblk m c 1 t))) shapeCasts_S1x128x128_S128x128⟩] concatenates_S128x128_S128x128_S256x128_d0

def vFirst1 : FVec Ideal S256x128 .bf16 :=
  concatenate S256x128 0
    [⟨S128x128, shapeCast S128x128 (View.readAt (Elt Ideal) (ms0_4 t).view (Rect.unit (s := S1x128x128) ![0, 0, 0] ![1, 128, 128] (inb3 (by omega))).toLoadRect
      ((hs0_4 t).unread (iblk m c 4 t))) shapeCasts_S1x128x128_S128x128⟩,
      ⟨S128x128, shapeCast S128x128 (View.readAt (Elt Ideal) (ms0_3 t).view (Rect.unit (s := S1x2048x128) ![0, 0, 0] ![1, 128, 128] (inb3 (by omega))).toLoadRect
      ((hs0_3 t).unread (iblk m c 3 t))) shapeCasts_S1x128x128_S128x128⟩] concatenates_S128x128_S128x128_S256x128_d0

/-- The same of class `r` at dilation 4. -/
def q4 (r o : ℕ) (hr : r < 4) (ho : o + 128 ≤ 512) : FVec Ideal S128x128 .bf16 :=
  shapeCast S128x128 (View.readAt (Elt Ideal) (ms0_5 t).view (Rect.unit (s := S1x4x512x128) ![0, r, o, 0] ![1, 1, 128, 128] (inb4 hr (by omega))).toLoadRect
      ((hs0_5 t).unread (iblk m c 5 t))) shapeCasts_S1x1x128x128_S128x128

def k4 (r o : ℕ) (hr : r < 4) (ho : o + 256 ≤ 512) : FVec Ideal S256x128 .bf16 :=
  shapeCast S256x128 (View.readAt (Elt Ideal) (ms0_6 t).view (Rect.unit (s := S1x4x512x128) ![0, r, o, 0] ![1, 1, 256, 128] (inb4 hr (by omega))).toLoadRect
      ((hs0_6 t).unread (iblk m c 6 t))) shapeCasts_S1x1x256x128_S256x128

def v4 (r o : ℕ) (hr : r < 4) (ho : o + 256 ≤ 512) : FVec Ideal S256x128 .bf16 :=
  shapeCast S256x128 (View.readAt (Elt Ideal) (ms0_8 t).view (Rect.unit (s := S1x4x512x128) ![0, r, o, 0] ![1, 1, 256, 128] (inb4 hr (by omega))).toLoadRect
      ((hs0_8 t).unread (iblk m c 8 t))) shapeCasts_S1x1x256x128_S256x128

def kFirst4 (r : ℕ) (hr : r < 4) : FVec Ideal S256x128 .bf16 :=
  concatenate S256x128 0
    [⟨S128x128, shapeCast S128x128 (View.readAt (Elt Ideal) (ms0_7 t).view (Rect.unit (s := S1x4x128x128) ![0, r, 0, 0] ![1, 1, 128, 128] (inb4 hr (by omega))).toLoadRect
      ((hs0_7 t).unread (iblk m c 7 t))) shapeCasts_S1x1x128x128_S128x128⟩,
      ⟨S128x128, shapeCast S128x128 (View.readAt (Elt Ideal) (ms0_6 t).view (Rect.unit (s := S1x4x512x128) ![0, r, 0, 0] ![1, 1, 128, 128] (inb4 hr (by omega))).toLoadRect
      ((hs0_6 t).unread (iblk m c 6 t))) shapeCasts_S1x1x128x128_S128x128⟩] concatenates_S128x128_S128x128_S256x128_d0

def vFirst4 (r : ℕ) (hr : r < 4) : FVec Ideal S256x128 .bf16 :=
  concatenate S256x128 0
    [⟨S128x128, shapeCast S128x128 (View.readAt (Elt Ideal) (ms0_9 t).view (Rect.unit (s := S1x4x128x128) ![0, r, 0, 0] ![1, 1, 128, 128] (inb4 hr (by omega))).toLoadRect
      ((hs0_9 t).unread (iblk m c 9 t))) shapeCasts_S1x1x128x128_S128x128⟩,
      ⟨S128x128, shapeCast S128x128 (View.readAt (Elt Ideal) (ms0_8 t).view (Rect.unit (s := S1x4x512x128) ![0, r, 0, 0] ![1, 1, 128, 128] (inb4 hr (by omega))).toLoadRect
      ((hs0_8 t).unread (iblk m c 8 t))) shapeCasts_S1x1x128x128_S128x128⟩] concatenates_S128x128_S128x128_S256x128_d0

/-- The same of class `r` at dilation 16, where every window is a first one. -/
def q16 (r : ℕ) (hr : r < 16) : FVec Ideal S128x128 .bf16 :=
  shapeCast S128x128 (View.readAt (Elt Ideal) (ms0_10 t).view (Rect.unit (s := S1x16x128x128) ![0, r, 0, 0] ![1, 1, 128, 128] (inb4 hr (by omega))).toLoadRect
      ((hs0_10 t).unread (iblk m c 10 t))) shapeCasts_S1x1x128x128_S128x128

def kFirst16 (r : ℕ) (hr : r < 16) : FVec Ideal S256x128 .bf16 :=
  concatenate S256x128 0
    [⟨S128x128, shapeCast S128x128 (View.readAt (Elt Ideal) (ms0_12 t).view (Rect.unit (s := S1x16x128x128) ![0, r, 0, 0] ![1, 1, 128, 128] (inb4 hr (by omega))).toLoadRect
      ((hs0_12 t).unread (iblk m c 12 t))) shapeCasts_S1x1x128x128_S128x128⟩,
      ⟨S128x128, shapeCast S128x128 (View.readAt (Elt Ideal) (ms0_11 t).view (Rect.unit (s := S1x16x128x128) ![0, r, 0, 0] ![1, 1, 128, 128] (inb4 hr (by omega))).toLoadRect
      ((hs0_11 t).unread (iblk m c 11 t))) shapeCasts_S1x1x128x128_S128x128⟩] concatenates_S128x128_S128x128_S256x128_d0

def vFirst16 (r : ℕ) (hr : r < 16) : FVec Ideal S256x128 .bf16 :=
  concatenate S256x128 0
    [⟨S128x128, shapeCast S128x128 (View.readAt (Elt Ideal) (ms0_14 t).view (Rect.unit (s := S1x16x128x128) ![0, r, 0, 0] ![1, 1, 128, 128] (inb4 hr (by omega))).toLoadRect
      ((hs0_14 t).unread (iblk m c 14 t))) shapeCasts_S1x1x128x128_S128x128⟩,
      ⟨S128x128, shapeCast S128x128 (View.readAt (Elt Ideal) (ms0_13 t).view (Rect.unit (s := S1x16x128x128) ![0, r, 0, 0] ![1, 1, 128, 128] (inb4 hr (by omega))).toLoadRect
      ((hs0_13 t).unread (iblk m c 13 t))) shapeCasts_S1x1x128x128_S128x128⟩] concatenates_S128x128_S128x128_S256x128_d0

theorem unit1 (o o' : ℕ) (h : o' + 128 = o) (hdv : 128 ∣ o) (ho : o + 128 ≤ 2048) :
    Operands ((arrays m c).q 0 (gb t) 0) ((arrays m c).k 0 (gb t) 0) ((arrays m c).v 0 (gb t) 0) (gh t) (gs t * 2048 + o)
      k0_pay2 (q1 m c t o ho) (k1 m c t o' (by omega)) (v1 m c t o' (by omega)) :=
  later1 m c t _ _ _ _ _ _ o o' h hdv ho _ _ _

theorem unitFirst1 :
    Operands ((arrays m c).q 0 (gb t) 0) ((arrays m c).k 0 (gb t) 0) ((arrays m c).v 0 (gb t) 0) (gh t) (gs t * 2048)
      (k0_pay3 (grid0.coords t)) (q1 m c t 0 (by decide)) (kFirst1 m c t) (vFirst1 m c t) :=
  first1 m c t _ _ _ _ _ _ _ _ _ _ _ _ _ _ _

theorem unit4 (r o o' : ℕ) (hr : r < 4) (h : o' + 128 = o) (hdv : 128 ∣ o) (ho : o + 128 ≤ 512) :
    Operands ((arrays m c).q 1 (gb t) r) ((arrays m c).k 1 (gb t) r) ((arrays m c).v 1 (gb t) r) (gh t) (gs t * 512 + o)
      k0_pay2 (q4 m c t r o hr ho) (k4 m c t r o' hr (by omega)) (v4 m c t r o' hr (by omega)) :=
  later4 m c t _ _ _ _ _ _ r o o' hr h hdv ho _ _ _

theorem unitFirst4 (r : ℕ) (hr : r < 4) :
    Operands ((arrays m c).q 1 (gb t) r) ((arrays m c).k 1 (gb t) r) ((arrays m c).v 1 (gb t) r) (gh t) (gs t * 512)
      (k0_pay3 (grid0.coords t)) (q4 m c t r 0 hr (by decide)) (kFirst4 m c t r hr) (vFirst4 m c t r hr) :=
  first4 m c t _ _ _ _ _ _ _ _ _ _ r hr _ _ _ _ _

theorem unitFirst16 (r : ℕ) (hr : r < 16) :
    Operands ((arrays m c).q 2 (gb t) r) ((arrays m c).k 2 (gb t) r) ((arrays m c).v 2 (gb t) r) (gh t) (gs t * 128)
      (k0_pay3 (grid0.coords t)) (q16 m c t r hr) (kFirst16 m c t r hr) (vFirst16 m c t r hr) :=
  first16 m c t _ _ _ _ _ _ _ _ _ _ r hr _ _ _ _ _

end

end Cert.KernelIdeal
-- ==== Proof.Stores.lean ====
/-
  What the units store. The output scratch holds each pattern's output at each of the super block's 2048 positions, the
  log-sum-exp scratch their log-sum-exps, and the third scratch the two for dilation 16 in the order of its first
  deinterleaving. Every unit's store is a strided piece of these.
-/
module

public import proofs.«01_k».proof.Proof.Windows

@[expose] public section

set_option maxRecDepth 16384

noncomputable section

namespace Cert.KernelIdeal

open Idealize.ShloMosaic Idealize.ShloMosaic.TcCoe Idealize.SL.Sem Gen Attention

variable (m : (ℓ : Loc nD τ sig) → Buf (Elt Ideal) ℓ) (c : Dev nD) (t : Fin cfg0.N)

/-- Pattern `p`'s output at position `s` of the super block, lane `l`. -/
def outOf (p : Fin 3) (s l : ℕ) : EReal := (arrays m c).out p (gb t) (gs t * 2048 + s) (128 * gh t + l)

/-- Pattern `p`'s log-sum-exp there. -/
def lseOf (p : Fin 3) (s l : ℕ) : EReal := (arrays m c).lse p (gb t) (gs t * 2048 + s) (128 * gh t + l)

/-- The output scratch. -/
def outs : Vec Ideal S3x2048x128 .f32 := fun y => outOf m c t (y 0) (y 1).val (y 2).val

/-- The log-sum-exp scratch. -/
def lses : Vec Ideal S3x2048x128 .f32 := fun y => lseOf m c t (y 0) (y 1).val (y 2).val

/-- The third scratch: row `512 a + b` is position `4 b + a`. -/
def mids : Vec Ideal S2x2048x128 .f32 := fun y =>
  if (y 0).val = 0 then outOf m c t 2 (4 * ((y 1).val % 512) + (y 1).val / 512) (y 2).val
  else lseOf m c t 2 (4 * ((y 1).val % 512) + (y 1).val / 512) (y 2).val

variable {m c t}

theorem outs_eq {p : Fin 3} {y : S3x2048x128.Idx} (h : (y 0).val = p.val) : outs m c t y = outOf m c t p (y 1).val (y 2).val :=
  congrArg (fun p => outOf m c t p _ _) (Fin.ext h : (y 0 : Fin 3) = p)

theorem lses_eq {p : Fin 3} {y : S3x2048x128.Idx} (h : (y 0).val = p.val) : lses m c t y = lseOf m c t p (y 1).val (y 2).val :=
  congrArg (fun p => lseOf m c t p _ _) (Fin.ext h : (y 0 : Fin 3) = p)

theorem mids_eq_out {y : S2x2048x128.Idx} (h : (y 0).val = 0) :
    mids m c t y = outOf m c t 2 (4 * ((y 1).val % 512) + (y 1).val / 512) (y 2).val := if_pos h

theorem mids_eq_lse {y : S2x2048x128.Idx} (h : (y 0).val = 1) :
    mids m c t y = lseOf m c t 2 (4 * ((y 1).val % 512) + (y 1).val / 512) (y 2).val := if_neg (by omega)

/-- Where the third scratch's row of class `r`'s position `i` is in the sequence. -/
theorem mid_row {r w : ℕ} (hr : r < 16) (hw : w = r % 4 * 512 + r / 4) (g : ℕ) (i : Fin 128) :
    (g * 2048 + (4 * ((w + 4 * i.val) % 512) + (w + 4 * i.val) / 512)) % 16 = r
      ∧ (g * 2048 + (4 * ((w + 4 * i.val) % 512) + (w + 4 * i.val) / 512)) / 16 = g * 128 + i.val := by
  have h1 : (w + 4 * i.val) % 512 = r / 4 + 4 * i.val := by omega
  have h2 : (w + 4 * i.val) / 512 = r % 4 := by omega
  rw [h1, h2]
  omega

/-- A unit's output and log-sum-exp are pattern `p`'s at the positions of its class. -/
theorem Operands.outOf_eq {p : Fin 3} {r base : ℕ} {bias q kw vw}
    (o : Operands ((arrays m c).q p (gb t) r) ((arrays m c).k p (gb t) r) ((arrays m c).v p (gb t) r) (gh t) base bias q kw vw)
    (hf : (arrays m c).FiniteQK) (i l : Fin 128) (s : ℕ) (hr : (gs t * 2048 + s) % dil p = r) (hs : (gs t * 2048 + s) / dil p = base + i.val) :
    unitOut bias q kw vw (ix3 0 i l) = outOf m c t p s l.val := by
  rw [o.out (hf.1 p _ r) (hf.2 p _ r)]
  unfold outOf Arrays.out
  rw [hr, hs]

theorem Operands.lseOf_eq {p : Fin 3} {r base : ℕ} {bias q kw vw}
    (o : Operands ((arrays m c).q p (gb t) r) ((arrays m c).k p (gb t) r) ((arrays m c).v p (gb t) r) (gh t) base bias q kw vw)
    (i l : Fin 128) (s : ℕ) (hr : (gs t * 2048 + s) % dil p = r) (hs : (gs t * 2048 + s) / dil p = base + i.val) :
    unitLse bias q kw (ix3 0 i l) = lseOf m c t p s l.val := by
  rw [o.lse]
  unfold lseOf Arrays.lse
  rw [hr, hs]

/-- A strided piece of a function of a scratch's index, from its value at each row and lane. -/
theorem piece_of {P n : ℕ} {off stride : Fin 3 → ℕ} (inb : ∀ a, (![1, n, 128] : Fin 3 → ℕ) a = 0 ∨ off a + stride a * ((![1, n, 128] : Fin 3 → ℕ) a - 1) < (![P, 2048, 128] : Fin 3 → ℕ) a)
    (pos : ∀ a, 0 < stride a) (f : Vec Ideal ⟨3, ![1, n, 128]⟩ .f32) (G : Vec Ideal ⟨3, ![P, 2048, 128]⟩ .f32) (hl : off 2 = 0) (hs : stride 2 = 1)
    (g : ℕ → ℕ → EReal) (hG : ∀ y, (y 0).val = off 0 → G y = g (y 1).val (y 2).val)
    (h : ∀ (i : Fin n) (l : Fin 128), f (ix3 0 i l) = g (off 1 + stride 1 * i.val) l.val)
    (x : (⟨⟨off, ![1, n, 128], stride, inb⟩, pos⟩ : Rect ⟨3, ![P, 2048, 128]⟩).shape.Idx) :
    f x = G ((⟨⟨off, ![1, n, 128], stride, inb⟩, pos⟩ : Rect ⟨3, ![P, 2048, 128]⟩).emb x) := by
  have h0 : (x 0).val = 0 := Nat.lt_one_iff.mp (x 0).isLt
  rw [hG _ (by rw [Rect.emb_apply, h0]; rfl)]
  have hx : x = (ix3 0 (x 1) (x 2) : (⟨3, ![1, n, 128]⟩ : Shape).Idx) := by
    refine (eq_ix3 (n0 := 1) (n1 := n) (n2 := 128) x).trans ?_
    exact congrArg (fun z : Fin 1 => (ix3 z (x 1) (x 2) : (⟨3, ![1, n, 128]⟩ : Shape).Idx)) (Subsingleton.elim (α := Fin 1) _ _)
  refine ((congrArg f hx).trans (h (x 1) (x 2))).trans ?_
  rw [Rect.emb_apply, Rect.emb_apply]
  exact congrArg (g _) (by change _ = off 2 + stride 2 * (x 2).val; rw [hl, hs]; omega)

variable {bias : FVec Ideal S128x256 .f32} {q : FVec Ideal S128x128 .bf16} {kw vw : FVec Ideal S256x128 .bf16} {r base : ℕ}

section

variable {n : ℕ} (hb : base = gs t * 2048 + n)
  (o : Operands ((arrays m c).q 0 (gb t) 0) ((arrays m c).k 0 (gb t) 0) ((arrays m c).v 0 (gb t) 0) (gh t) base bias q kw vw)
  (inb : ∀ a, (![0, n, 0] : Fin 3 → ℕ) a + (![1, 128, 128] : Fin 3 → ℕ) a ≤ (![3, 2048, 128] : Fin 3 → ℕ) a)
  (x : (Rect.unit (s := S3x2048x128) ![0, n, 0] ![1, 128, 128] inb).shape.Idx)

include hb o

theorem Operands.store1_out (hf : (arrays m c).FiniteQK) :
    unitOut bias q kw vw x = outs m c t ((Rect.unit (s := S3x2048x128) ![0, n, 0] ![1, 128, 128] inb).emb x) := by
  refine piece_of (P := 3) _ _ _ (outs m c t) rfl rfl (outOf m c t 0) (fun y hy => ?_) (fun i l => ?_) x
  · exact outs_eq (p := 0) hy
  · refine o.outOf_eq hf i l _ (Nat.mod_one _) ((Nat.div_one _).trans ?_)
    change gs t * 2048 + (n + 1 * i.val) = _
    omega

theorem Operands.store1_lse :
    unitLse bias q kw x = lses m c t ((Rect.unit (s := S3x2048x128) ![0, n, 0] ![1, 128, 128] inb).emb x) := by
  refine piece_of (P := 3) _ _ _ (lses m c t) rfl rfl (lseOf m c t 0) (fun y hy => ?_) (fun i l => ?_) x
  · exact lses_eq (p := 0) hy
  · refine o.lseOf_eq i l _ (Nat.mod_one _) ((Nat.div_one _).trans ?_)
    change gs t * 2048 + (n + 1 * i.val) = _
    omega

end

section

variable {n w : ℕ} (hr : r < 4) (hw : w = 4 * n + r) (hb : base = gs t * 512 + n)
  (o : Operands ((arrays m c).q 1 (gb t) r) ((arrays m c).k 1 (gb t) r) ((arrays m c).v 1 (gb t) r) (gh t) base bias q kw vw)
  (inb : ∀ a, (![1, 128, 128] : Fin 3 → ℕ) a = 0 ∨ (![1, w, 0] : Fin 3 → ℕ) a + (![1, 4, 1] : Fin 3 → ℕ) a * ((![1, 128, 128] : Fin 3 → ℕ) a - 1) < (![3, 2048, 128] : Fin 3 → ℕ) a)
  (pos : ∀ a, 0 < (![1, 4, 1] : Fin 3 → ℕ) a)
  (x : (⟨⟨![1, w, 0], ![1, 128, 128], ![1, 4, 1], inb⟩, pos⟩ : Rect S3x2048x128).shape.Idx)

include hr hw hb o

theorem Operands.store4_out (hf : (arrays m c).FiniteQK) :
    unitOut bias q kw vw x = outs m c t ((⟨⟨![1, w, 0], ![1, 128, 128], ![1, 4, 1], inb⟩, pos⟩ : Rect S3x2048x128).emb x) := by
  refine piece_of (P := 3) _ _ _ (outs m c t) rfl rfl (outOf m c t 1) (fun y hy => ?_) (fun i l => ?_) x
  · exact outs_eq (p := 1) hy
  · refine o.outOf_eq hf i l _ ?_ ?_
    · change (gs t * 2048 + (w + 4 * i.val)) % 4 = _; omega
    · change (gs t * 2048 + (w + 4 * i.val)) / 4 = _; omega

theorem Operands.store4_lse :
    unitLse bias q kw x = lses m c t ((⟨⟨![1, w, 0], ![1, 128, 128], ![1, 4, 1], inb⟩, pos⟩ : Rect S3x2048x128).emb x) := by
  refine piece_of (P := 3) _ _ _ (lses m c t) rfl rfl (lseOf m c t 1) (fun y hy => ?_) (fun i l => ?_) x
  · exact lses_eq (p := 1) hy
  · refine o.lseOf_eq i l _ ?_ ?_
    · change (gs t * 2048 + (w + 4 * i.val)) % 4 = _; omega
    · change (gs t * 2048 + (w + 4 * i.val)) / 4 = _; omega

end

section

variable {w : ℕ} (hr : r < 16) (hw : w = r % 4 * 512 + r / 4)
  (o : Operands ((arrays m c).q 2 (gb t) r) ((arrays m c).k 2 (gb t) r) ((arrays m c).v 2 (gb t) r) (gh t) (gs t * 128) bias q kw vw)
  (pos : ∀ a, 0 < (![1, 4, 1] : Fin 3 → ℕ) a)

include hr hw o

theorem Operands.store16_out
    (inb : ∀ a, (![1, 128, 128] : Fin 3 → ℕ) a = 0 ∨ (![0, w, 0] : Fin 3 → ℕ) a + (![1, 4, 1] : Fin 3 → ℕ) a * ((![1, 128, 128] : Fin 3 → ℕ) a - 1) < (![2, 2048, 128] : Fin 3 → ℕ) a)
    (x : (⟨⟨![0, w, 0], ![1, 128, 128], ![1, 4, 1], inb⟩, pos⟩ : Rect S2x2048x128).shape.Idx)
    (hf : (arrays m c).FiniteQK) :
    unitOut bias q kw vw x = mids m c t ((⟨⟨![0, w, 0], ![1, 128, 128], ![1, 4, 1], inb⟩, pos⟩ : Rect S2x2048x128).emb x) := by
  refine piece_of (P := 2) _ _ _ (mids m c t) rfl rfl (fun s => outOf m c t 2 (4 * (s % 512) + s / 512)) (fun y hy => mids_eq_out hy) (fun i l => ?_) x
  exact o.outOf_eq hf i l _ (mid_row hr hw _ i).1 (mid_row hr hw _ i).2

theorem Operands.store16_lse
    (inb : ∀ a, (![1, 128, 128] : Fin 3 → ℕ) a = 0 ∨ (![1, w, 0] : Fin 3 → ℕ) a + (![1, 4, 1] : Fin 3 → ℕ) a * ((![1, 128, 128] : Fin 3 → ℕ) a - 1) < (![2, 2048, 128] : Fin 3 → ℕ) a)
    (x : (⟨⟨![1, w, 0], ![1, 128, 128], ![1, 4, 1], inb⟩, pos⟩ : Rect S2x2048x128).shape.Idx) :
    unitLse bias q kw x = mids m c t ((⟨⟨![1, w, 0], ![1, 128, 128], ![1, 4, 1], inb⟩, pos⟩ : Rect S2x2048x128).emb x) := by
  refine piece_of (P := 2) _ _ _ (mids m c t) rfl rfl (fun s => lseOf m c t 2 (4 * (s % 512) + s / 512))
    (fun y hy => mids_eq_lse hy) (fun i l => ?_) x
  exact o.lseOf_eq i l _ (mid_row hr hw _ i).1 (mid_row hr hw _ i).2

end

end Cert.KernelIdeal
-- ==== Proof.Pieces.lean ====
/-
  What the three scratches hold when the units are done. The run's lists of stores are pieces of the functions of
  `Stores`, and they cover the scratches, so a scratch read anywhere is that function.
-/
module

public import proofs.«01_k».proof.Proof.Stores
public import Idealize.ShloMosaic.Lib.Pipeline.ReadBack

@[expose] public section

set_option maxRecDepth 16384

noncomputable section

namespace Cert.KernelIdeal

open Idealize.ShloMosaic Idealize.ShloMosaic.TcCoe Idealize.SL.Sem Gen Attention

/-! ## Coverage -/

/-- Where a store goes: its offsets, sizes and strides. -/
def place {P : ℕ} (p : View.Piece (Elt Ideal) ⟨3, ![P, 2048, 128]⟩ .f32) : List ℕ :=
  [p.1.off 0, p.1.off 1, p.1.off 2, p.1.size 0, p.1.size 1, p.1.size 2, p.1.stride 0, p.1.stride 1, p.1.stride 2]

/-- An index is stored if a store of its plane reaches its row. -/
theorem stored_of {P : ℕ} {L : List (View.Piece (Elt Ideal) ⟨3, ![P, 2048, 128]⟩ .f32)} {K : List (List ℕ)} (hK : L.map place = K)
    (a b n st : ℕ) (h : [a, b, 0, 1, n, 128, 1, st, 1] ∈ K) (y : (⟨3, ![P, 2048, 128]⟩ : Shape).Idx) (h0 : (y 0).val = a) (k : ℕ) (hk : k < n)
    (h1 : (y 1).val = b + st * k) : ∃ p ∈ L, y ∈ p.1.set := by
  subst hK
  obtain ⟨p, hp, e⟩ := List.mem_map.mp h
  refine ⟨p, hp, p.1.mem_set.mpr ?_⟩
  simp only [place, List.cons.injEq, and_true] at e
  obtain ⟨e0, e1, e2, e3, e4, e5, e6, e7, e8⟩ := e
  have h2 : (y 2).val < 128 := (y 2).isLt
  intro d
  fin_cases d
  · refine ⟨0, lt_of_lt_of_eq Nat.one_pos e3.symm, ?_⟩
    change (y 0).val = p.1.off 0 + p.1.stride 0 * 0
    rw [h0, e0]; rfl
  · refine ⟨k, lt_of_lt_of_eq hk e4.symm, ?_⟩
    change (y 1).val = p.1.off 1 + p.1.stride 1 * k
    rw [h1, e1, e7]
  · refine ⟨(y 2).val, lt_of_lt_of_eq h2 e5.symm, ?_⟩
    change (y 2).val = p.1.off 2 + p.1.stride 2 * (y 2).val
    rw [e2, e8]; omega

/-- The places of the third scratch's stores. -/
def midPlaces : List (List ℕ) :=
  [3, 2, 1, 0].flatMap fun q => [3, 2, 1, 0].flatMap fun r => [1, 0].map fun a => [a, 512 * r + q, 0, 1, 128, 128, 1, 4, 1]

/-- The places of the other two scratches' stores. -/
def outPlaces : List (List ℕ) :=
  ([3, 2, 1, 0].map fun r => [2, r, 0, 1, 512, 128, 1, 4, 1])
    ++ ([3, 2, 1, 0].flatMap fun j => [3, 2, 1, 0].map fun r => [1, 512 * j + r, 0, 1, 128, 128, 1, 4, 1])
    ++ ((List.range 16).reverse.map fun j => [0, 128 * j, 0, 1, 128, 128, 1, 1, 1])

theorem mid_stored {L : List (View.Piece (Elt Ideal) S2x2048x128 .f32)} (hL : L.map (place (P := 2)) = midPlaces) (y : S2x2048x128.Idx) :
    ∃ p ∈ L, y ∈ p.1.set := by
  have ha : (y 0).val < 2 := (y 0).isLt
  have hn : (y 1).val < 2048 := (y 1).isLt
  have h : ∀ a < 2, ∀ r < 4, ∀ q < 4, [a, 512 * r + q, 0, 1, 128, 128, 1, 4, 1] ∈ midPlaces := by decide
  exact stored_of (P := 2) hL _ _ _ _ (h _ ha ((y 1).val / 512) (by omega) ((y 1).val % 4) (by omega)) y rfl ((y 1).val % 512 / 4) (by omega) (by omega)

theorem out_stored {L : List (View.Piece (Elt Ideal) S3x2048x128 .f32)} (hL : L.map (place (P := 3)) = outPlaces) (y : S3x2048x128.Idx) :
    ∃ p ∈ L, y ∈ p.1.set := by
  have ha : (y 0).val < 3 := (y 0).isLt
  have hn : (y 1).val < 2048 := (y 1).isLt
  have h0 : ∀ j < 16, [0, 128 * j, 0, 1, 128, 128, 1, 1, 1] ∈ outPlaces := by decide
  have h1 : ∀ j < 4, ∀ r < 4, [1, 512 * j + r, 0, 1, 128, 128, 1, 4, 1] ∈ outPlaces := by decide
  have h2 : ∀ r < 4, [2, r, 0, 1, 512, 128, 1, 4, 1] ∈ outPlaces := by decide
  obtain e | e | e : (y 0).val = 0 ∨ (y 0).val = 1 ∨ (y 0).val = 2 := by omega
  · exact stored_of (P := 3) hL _ _ _ _ (h0 ((y 1).val / 128) (by omega)) y e ((y 1).val % 128) (by omega) (by omega)
  · exact stored_of (P := 3) hL _ _ _ _ (h1 ((y 1).val / 512) (by omega) ((y 1).val % 4) (by omega)) y e ((y 1).val % 512 / 4) (by omega) (by omega)
  · exact stored_of (P := 3) hL _ _ _ _ (h2 ((y 1).val % 4) (by omega)) y e ((y 1).val / 4) (by omega) (by omega)

/-! ## The stores -/

variable (m : (ℓ : Loc nD τ sig) → Buf (Elt Ideal) ℓ) (c : Dev nD) (t : Fin cfg0.N)

/-- What the run stored in the third scratch. -/
abbrev midPieces : List (View.Piece (Elt Ideal) S2x2048x128 .f32) :=
  kernelRun0_A.sl.HS2_32 c (grid0.coords t) (ms0_10 t) (hs0_10 t) (ms0_11 t) (hs0_11 t) (ms0_12 t) (hs0_12 t) (ms0_13 t) (hs0_13 t) (ms0_14 t) (hs0_14 t) (iblk m c 10 t) (iblk m c 11 t) (iblk m c 12 t) (iblk m c 13 t) (iblk m c 14 t)

/-- What it stored in the output scratch. -/
abbrev outPieces : List (View.Piece (Elt Ideal) S3x2048x128 .f32) :=
  kernelRun0_A.sl.HS0_36 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What it stored in the log-sum-exp scratch. -/
abbrev lsePieces : List (View.Piece (Elt Ideal) S3x2048x128 .f32) :=
  kernelRun0_A.sl.HS1_36 c (grid0.coords t) (ms0_0 t) (hs0_0 t) (ms0_1 t) (hs0_1 t) (ms0_2 t) (hs0_2 t) (ms0_5 t) (hs0_5 t) (ms0_6 t) (hs0_6 t) (ms0_7 t) (hs0_7 t) (ms0_10 t) (hs0_10 t) (ms0_11 t) (hs0_11 t) (ms0_12 t) (hs0_12 t) (ms0_13 t) (hs0_13 t) (ms0_14 t) (hs0_14 t) scM0_2 (iblk m c 0 t) (iblk m c 1 t) (iblk m c 2 t) (iblk m c 5 t) (iblk m c 6 t) (iblk m c 7 t) (iblk m c 10 t) (iblk m c 11 t) (iblk m c 12 t) (iblk m c 13 t) (iblk m c 14 t)

variable {m c t}

set_option maxHeartbeats 1000000 in
theorem mid_pieces (hf : (arrays m c).FiniteQK) : View.PiecesOf (mids m c t) (midPieces m c t) := by
  unfold midPieces kernelRun0_A.sl.HS2_32 kernelRun0_A.sl.HS2_31 kernelRun0_A.sl.HS2_30 kernelRun0_A.sl.HS2_29 kernelRun0_A.sl.HS2_28 kernelRun0_A.sl.HS2_27 kernelRun0_A.sl.HS2_26 kernelRun0_A.sl.HS2_25 kernelRun0_A.sl.HS2_24 kernelRun0_A.sl.HS2_23 kernelRun0_A.sl.HS2_22 kernelRun0_A.sl.HS2_21 kernelRun0_A.sl.HS2_20 kernelRun0_A.sl.HS2_19 kernelRun0_A.sl.HS2_18 kernelRun0_A.sl.HS2_17 kernelRun0_A.sl.HS2_16 kernelRun0_A.sl.HS2_15 kernelRun0_A.sl.HS2_14 kernelRun0_A.sl.HS2_13 kernelRun0_A.sl.HS2_12 kernelRun0_A.sl.HS2_11 kernelRun0_A.sl.HS2_10 kernelRun0_A.sl.HS2_9 kernelRun0_A.sl.HS2_8
  exact ⟨(unitFirst16 m c t 15 (by decide)).store16_lse (by decide) rfl _ _,
    fun x => (unitFirst16 m c t 15 (by decide)).store16_out (by decide) rfl _ _ x hf,
    (unitFirst16 m c t 14 (by decide)).store16_lse (by decide) rfl _ _,
    fun x => (unitFirst16 m c t 14 (by decide)).store16_out (by decide) rfl _ _ x hf,
    (unitFirst16 m c t 13 (by decide)).store16_lse (by decide) rfl _ _,
    fun x => (unitFirst16 m c t 13 (by decide)).store16_out (by decide) rfl _ _ x hf,
    (unitFirst16 m c t 12 (by decide)).store16_lse (by decide) rfl _ _,
    fun x => (unitFirst16 m c t 12 (by decide)).store16_out (by decide) rfl _ _ x hf,
    (unitFirst16 m c t 11 (by decide)).store16_lse (by decide) rfl _ _,
    fun x => (unitFirst16 m c t 11 (by decide)).store16_out (by decide) rfl _ _ x hf,
    (unitFirst16 m c t 10 (by decide)).store16_lse (by decide) rfl _ _,
    fun x => (unitFirst16 m c t 10 (by decide)).store16_out (by decide) rfl _ _ x hf,
    (unitFirst16 m c t 9 (by decide)).store16_lse (by decide) rfl _ _,
    fun x => (unitFirst16 m c t 9 (by decide)).store16_out (by decide) rfl _ _ x hf,
    (unitFirst16 m c t 8 (by decide)).store16_lse (by decide) rfl _ _,
    fun x => (unitFirst16 m c t 8 (by decide)).store16_out (by decide) rfl _ _ x hf,
    (unitFirst16 m c t 7 (by decide)).store16_lse (by decide) rfl _ _,
    fun x => (unitFirst16 m c t 7 (by decide)).store16_out (by decide) rfl _ _ x hf,
    (unitFirst16 m c t 6 (by decide)).store16_lse (by decide) rfl _ _,
    fun x => (unitFirst16 m c t 6 (by decide)).store16_out (by decide) rfl _ _ x hf,
    (unitFirst16 m c t 5 (by decide)).store16_lse (by decide) rfl _ _,
    fun x => (unitFirst16 m c t 5 (by decide)).store16_out (by decide) rfl _ _ x hf,
    (unitFirst16 m c t 4 (by decide)).store16_lse (by decide) rfl _ _,
    fun x => (unitFirst16 m c t 4 (by decide)).store16_out (by decide) rfl _ _ x hf,
    (unitFirst16 m c t 3 (by decide)).store16_lse (by decide) rfl _ _,
    fun x => (unitFirst16 m c t 3 (by decide)).store16_out (by decide) rfl _ _ x hf,
    (unitFirst16 m c t 2 (by decide)).store16_lse (by decide) rfl _ _,
    fun x => (unitFirst16 m c t 2 (by decide)).store16_out (by decide) rfl _ _ x hf,
    (unitFirst16 m c t 1 (by decide)).store16_lse (by decide) rfl _ _,
    fun x => (unitFirst16 m c t 1 (by decide)).store16_out (by decide) rfl _ _ x hf,
    (unitFirst16 m c t 0 (by decide)).store16_lse (by decide) rfl _ _,
    fun x => (unitFirst16 m c t 0 (by decide)).store16_out (by decide) rfl _ _ x hf,
    trivial⟩

theorem mid_canon (hf : (arrays m c).FiniteQK) (y : S2x2048x128.Idx) : View.canon (midPieces m c t) y = mids m c t y :=
  View.canon_apply_of_pieces _ _ (mid_pieces hf).mem y (mid_stored rfl y)

/-- Rows of the third scratch as the last stores load them. -/
def midRows (a : Memref sig .tc .vmem S2x2048x128 .f32) (p b : ℕ)
    (h : ∀ d, (![p, b, 0] : Fin 3 → ℕ) d + (![1, 512, 128] : Fin 3 → ℕ) d ≤ (![2, 2048, 128] : Fin 3 → ℕ) d) : FVec Ideal S1x512x128 .f32 :=
  shapeCast S1x512x128 (shapeCast S512x128 (a.view.readCov (midPieces m c t) (Rect.unit (s := S2x2048x128) ![p, b, 0] ![1, 512, 128] h).toLoadRect)
    shapeCasts_S1x512x128_S512x128) shapeCasts_S512x128_S1x512x128

theorem cast_cast (v : FVec Ideal S1x512x128 .f32) (n : Fin 512) (l : Fin 128) :
    shapeCast S1x512x128 (shapeCast S512x128 v shapeCasts_S1x512x128_S512x128) shapeCasts_S512x128_S1x512x128 (ix3 0 n l) = v (ix3 0 n l) := by
  pointwise

theorem midRows_apply (hf : (arrays m c).FiniteQK) (a : Memref sig .tc .vmem S2x2048x128 .f32) (p b : ℕ)
    (h : ∀ d, (![p, b, 0] : Fin 3 → ℕ) d + (![1, 512, 128] : Fin 3 → ℕ) d ≤ (![2, 2048, 128] : Fin 3 → ℕ) d) (n : Fin 512) (l : Fin 128) :
    midRows (m := m) (c := c) (t := t) a p b h (ix3 0 n l) = mids m c t ((Rect.unit (s := S2x2048x128) ![p, b, 0] ![1, 512, 128] h).idx (ix3 0 n l : S1x512x128.Idx)) := by
  unfold midRows
  rw [cast_cast, View.readCov_eq_canon']
  exact mid_canon hf _

section

variable (hf : (arrays m c).FiniteQK) {r b : ℕ} (hr : r < 4) (hb : b = 512 * r) (a : Memref sig .tc .vmem S2x2048x128 .f32)
  (inb : ∀ a, (![1, 512, 128] : Fin 3 → ℕ) a = 0 ∨ (![2, r, 0] : Fin 3 → ℕ) a + (![1, 4, 1] : Fin 3 → ℕ) a * ((![1, 512, 128] : Fin 3 → ℕ) a - 1) < (![3, 2048, 128] : Fin 3 → ℕ) a)
  (pos : ∀ a, 0 < (![1, 4, 1] : Fin 3 → ℕ) a)

include hf hr hb

theorem mid_out (h : ∀ d, (![0, b, 0] : Fin 3 → ℕ) d + (![1, 512, 128] : Fin 3 → ℕ) d ≤ (![2, 2048, 128] : Fin 3 → ℕ) d)
    (x : (⟨⟨![2, r, 0], ![1, 512, 128], ![1, 4, 1], inb⟩, pos⟩ : Rect S3x2048x128).shape.Idx) :
    midRows (m := m) (c := c) (t := t) a 0 b h x = outs m c t ((⟨⟨![2, r, 0], ![1, 512, 128], ![1, 4, 1], inb⟩, pos⟩ : Rect S3x2048x128).emb x) := by
  refine piece_of (P := 3) _ _ _ (outs m c t) rfl rfl (outOf m c t 2) (fun y hy => outs_eq (p := 2) hy) (fun i l => ?_) x
  rw [midRows_apply hf, mids_eq_out rfl]
  change outOf m c t 2 (4 * ((b + 1 * i.val) % 512) + (b + 1 * i.val) / 512) (0 + 1 * l.val) = outOf m c t 2 (r + 4 * i.val) l.val
  exact congrArg₂ (outOf m c t 2) (by omega) (by omega)

theorem mid_lse (h : ∀ d, (![1, b, 0] : Fin 3 → ℕ) d + (![1, 512, 128] : Fin 3 → ℕ) d ≤ (![2, 2048, 128] : Fin 3 → ℕ) d)
    (x : (⟨⟨![2, r, 0], ![1, 512, 128], ![1, 4, 1], inb⟩, pos⟩ : Rect S3x2048x128).shape.Idx) :
    midRows (m := m) (c := c) (t := t) a 1 b h x = lses m c t ((⟨⟨![2, r, 0], ![1, 512, 128], ![1, 4, 1], inb⟩, pos⟩ : Rect S3x2048x128).emb x) := by
  refine piece_of (P := 3) _ _ _ (lses m c t) rfl rfl (lseOf m c t 2) (fun y hy => lses_eq (p := 2) hy) (fun i l => ?_) x
  rw [midRows_apply hf, mids_eq_lse rfl]
  change lseOf m c t 2 (4 * ((b + 1 * i.val) % 512) + (b + 1 * i.val) / 512) (0 + 1 * l.val) = lseOf m c t 2 (r + 4 * i.val) l.val
  exact congrArg₂ (lseOf m c t 2) (by omega) (by omega)

end

set_option maxHeartbeats 1000000 in
theorem out_pieces (hf : (arrays m c).FiniteQK) : View.PiecesOf (outs m c t) (outPieces m c t) := by
  unfold outPieces kernelRun0_A.sl.HS0_36 kernelRun0_A.sl.HS0_35 kernelRun0_A.sl.HS0_34 kernelRun0_A.sl.HS0_33 kernelRun0_A.sl.HS0_31 kernelRun0_A.sl.HS0_30 kernelRun0_A.sl.HS0_29 kernelRun0_A.sl.HS0_27 kernelRun0_A.sl.HS0_26 kernelRun0_A.sl.HS0_25 kernelRun0_A.sl.HS0_23 kernelRun0_A.sl.HS0_22 kernelRun0_A.sl.HS0_21 kernelRun0_A.sl.HS0_19 kernelRun0_A.sl.HS0_18 kernelRun0_A.sl.HS0_17
  unfold kernelRun0_A.sl.v2869 kernelRun0_A.sl.v2866 kernelRun0_A.sl.v2865 kernelRun0_A.sl.v2859 kernelRun0_A.sl.v2856 kernelRun0_A.sl.v2855 kernelRun0_A.sl.v2849 kernelRun0_A.sl.v2846 kernelRun0_A.sl.v2845 kernelRun0_A.sl.v2839 kernelRun0_A.sl.v2836 kernelRun0_A.sl.v2835
  refine ⟨fun x => ?_,
    fun x => ?_,
    fun x => ?_,
    fun x => ?_,
    fun x => (unit4 m c t 3 384 256 (by decide) rfl (by decide) (by decide)).store4_out (by decide) rfl rfl (by decide) (by decide) x hf,
    fun x => (unit4 m c t 2 384 256 (by decide) rfl (by decide) (by decide)).store4_out (by decide) rfl rfl (by decide) (by decide) x hf,
    fun x => (unit4 m c t 1 384 256 (by decide) rfl (by decide) (by decide)).store4_out (by decide) rfl rfl (by decide) (by decide) x hf,
    fun x => (unit4 m c t 0 384 256 (by decide) rfl (by decide) (by decide)).store4_out (by decide) rfl rfl (by decide) (by decide) x hf,
    fun x => (unit4 m c t 3 256 128 (by decide) rfl (by decide) (by decide)).store4_out (by decide) rfl rfl (by decide) (by decide) x hf,
    fun x => (unit4 m c t 2 256 128 (by decide) rfl (by decide) (by decide)).store4_out (by decide) rfl rfl (by decide) (by decide) x hf,
    fun x => (unit4 m c t 1 256 128 (by decide) rfl (by decide) (by decide)).store4_out (by decide) rfl rfl (by decide) (by decide) x hf,
    fun x => (unit4 m c t 0 256 128 (by decide) rfl (by decide) (by decide)).store4_out (by decide) rfl rfl (by decide) (by decide) x hf,
    fun x => (unit4 m c t 3 128 0 (by decide) rfl (by decide) (by decide)).store4_out (by decide) rfl rfl (by decide) (by decide) x hf,
    fun x => (unit4 m c t 2 128 0 (by decide) rfl (by decide) (by decide)).store4_out (by decide) rfl rfl (by decide) (by decide) x hf,
    fun x => (unit4 m c t 1 128 0 (by decide) rfl (by decide) (by decide)).store4_out (by decide) rfl rfl (by decide) (by decide) x hf,
    fun x => (unit4 m c t 0 128 0 (by decide) rfl (by decide) (by decide)).store4_out (by decide) rfl rfl (by decide) (by decide) x hf,
    fun x => (unitFirst4 m c t 3 (by decide)).store4_out (n := 0) (by decide) rfl rfl (by decide) (by decide) x hf,
    fun x => (unitFirst4 m c t 2 (by decide)).store4_out (n := 0) (by decide) rfl rfl (by decide) (by decide) x hf,
    fun x => (unitFirst4 m c t 1 (by decide)).store4_out (n := 0) (by decide) rfl rfl (by decide) (by decide) x hf,
    fun x => (unitFirst4 m c t 0 (by decide)).store4_out (n := 0) (by decide) rfl rfl (by decide) (by decide) x hf,
    fun x => (unit1 m c t 1920 1792 rfl (by decide) (by decide)).store1_out rfl (by decide) x hf,
    fun x => (unit1 m c t 1792 1664 rfl (by decide) (by decide)).store1_out rfl (by decide) x hf,
    fun x => (unit1 m c t 1664 1536 rfl (by decide) (by decide)).store1_out rfl (by decide) x hf,
    fun x => (unit1 m c t 1536 1408 rfl (by decide) (by decide)).store1_out rfl (by decide) x hf,
    fun x => (unit1 m c t 1408 1280 rfl (by decide) (by decide)).store1_out rfl (by decide) x hf,
    fun x => (unit1 m c t 1280 1152 rfl (by decide) (by decide)).store1_out rfl (by decide) x hf,
    fun x => (unit1 m c t 1152 1024 rfl (by decide) (by decide)).store1_out rfl (by decide) x hf,
    fun x => (unit1 m c t 1024 896 rfl (by decide) (by decide)).store1_out rfl (by decide) x hf,
    fun x => (unit1 m c t 896 768 rfl (by decide) (by decide)).store1_out rfl (by decide) x hf,
    fun x => (unit1 m c t 768 640 rfl (by decide) (by decide)).store1_out rfl (by decide) x hf,
    fun x => (unit1 m c t 640 512 rfl (by decide) (by decide)).store1_out rfl (by decide) x hf,
    fun x => (unit1 m c t 512 384 rfl (by decide) (by decide)).store1_out rfl (by decide) x hf,
    fun x => (unit1 m c t 384 256 rfl (by decide) (by decide)).store1_out rfl (by decide) x hf,
    fun x => (unit1 m c t 256 128 rfl (by decide) (by decide)).store1_out rfl (by decide) x hf,
    fun x => (unit1 m c t 128 0 rfl (by decide) (by decide)).store1_out rfl (by decide) x hf,
    fun x => (unitFirst1 m c t).store1_out (n := 0) rfl (by decide) x hf,
    trivial⟩
  · dsimp only
    exact mid_out (t := t) hf (r := 3) (b := 1536) (by decide) rfl scM0_2 (by decide) (by decide) (by decide) x
  · dsimp only
    exact mid_out (t := t) hf (r := 2) (b := 1024) (by decide) rfl scM0_2 (by decide) (by decide) (by decide) x
  · dsimp only
    exact mid_out (t := t) hf (r := 1) (b := 512) (by decide) rfl scM0_2 (by decide) (by decide) (by decide) x
  · dsimp only
    exact mid_out (t := t) hf (r := 0) (b := 0) (by decide) rfl scM0_2 (by decide) (by decide) (by decide) x

set_option maxHeartbeats 1000000 in
theorem lse_pieces (hf : (arrays m c).FiniteQK) : View.PiecesOf (lses m c t) (lsePieces m c t) := by
  unfold lsePieces kernelRun0_A.sl.HS1_36 kernelRun0_A.sl.HS1_35 kernelRun0_A.sl.HS1_34 kernelRun0_A.sl.HS1_33 kernelRun0_A.sl.HS1_31 kernelRun0_A.sl.HS1_30 kernelRun0_A.sl.HS1_29 kernelRun0_A.sl.HS1_27 kernelRun0_A.sl.HS1_26 kernelRun0_A.sl.HS1_25 kernelRun0_A.sl.HS1_23 kernelRun0_A.sl.HS1_22 kernelRun0_A.sl.HS1_21 kernelRun0_A.sl.HS1_19 kernelRun0_A.sl.HS1_18 kernelRun0_A.sl.HS1_17
  unfold kernelRun0_A.sl.v2874 kernelRun0_A.sl.v2871 kernelRun0_A.sl.v2870 kernelRun0_A.sl.v2864 kernelRun0_A.sl.v2861 kernelRun0_A.sl.v2860 kernelRun0_A.sl.v2854 kernelRun0_A.sl.v2851 kernelRun0_A.sl.v2850 kernelRun0_A.sl.v2844 kernelRun0_A.sl.v2841 kernelRun0_A.sl.v2840
  refine ⟨fun x => ?_,
    fun x => ?_,
    fun x => ?_,
    fun x => ?_,
    fun x => (unit4 m c t 3 384 256 (by decide) rfl (by decide) (by decide)).store4_lse (by decide) rfl rfl (by decide) (by decide) x,
    fun x => (unit4 m c t 2 384 256 (by decide) rfl (by decide) (by decide)).store4_lse (by decide) rfl rfl (by decide) (by decide) x,
    fun x => (unit4 m c t 1 384 256 (by decide) rfl (by decide) (by decide)).store4_lse (by decide) rfl rfl (by decide) (by decide) x,
    fun x => (unit4 m c t 0 384 256 (by decide) rfl (by decide) (by decide)).store4_lse (by decide) rfl rfl (by decide) (by decide) x,
    fun x => (unit4 m c t 3 256 128 (by decide) rfl (by decide) (by decide)).store4_lse (by decide) rfl rfl (by decide) (by decide) x,
    fun x => (unit4 m c t 2 256 128 (by decide) rfl (by decide) (by decide)).store4_lse (by decide) rfl rfl (by decide) (by decide) x,
    fun x => (unit4 m c t 1 256 128 (by decide) rfl (by decide) (by decide)).store4_lse (by decide) rfl rfl (by decide) (by decide) x,
    fun x => (unit4 m c t 0 256 128 (by decide) rfl (by decide) (by decide)).store4_lse (by decide) rfl rfl (by decide) (by decide) x,
    fun x => (unit4 m c t 3 128 0 (by decide) rfl (by decide) (by decide)).store4_lse (by decide) rfl rfl (by decide) (by decide) x,
    fun x => (unit4 m c t 2 128 0 (by decide) rfl (by decide) (by decide)).store4_lse (by decide) rfl rfl (by decide) (by decide) x,
    fun x => (unit4 m c t 1 128 0 (by decide) rfl (by decide) (by decide)).store4_lse (by decide) rfl rfl (by decide) (by decide) x,
    fun x => (unit4 m c t 0 128 0 (by decide) rfl (by decide) (by decide)).store4_lse (by decide) rfl rfl (by decide) (by decide) x,
    fun x => (unitFirst4 m c t 3 (by decide)).store4_lse (n := 0) (by decide) rfl rfl (by decide) (by decide) x,
    fun x => (unitFirst4 m c t 2 (by decide)).store4_lse (n := 0) (by decide) rfl rfl (by decide) (by decide) x,
    fun x => (unitFirst4 m c t 1 (by decide)).store4_lse (n := 0) (by decide) rfl rfl (by decide) (by decide) x,
    fun x => (unitFirst4 m c t 0 (by decide)).store4_lse (n := 0) (by decide) rfl rfl (by decide) (by decide) x,
    fun x => (unit1 m c t 1920 1792 rfl (by decide) (by decide)).store1_lse rfl (by decide) x,
    fun x => (unit1 m c t 1792 1664 rfl (by decide) (by decide)).store1_lse rfl (by decide) x,
    fun x => (unit1 m c t 1664 1536 rfl (by decide) (by decide)).store1_lse rfl (by decide) x,
    fun x => (unit1 m c t 1536 1408 rfl (by decide) (by decide)).store1_lse rfl (by decide) x,
    fun x => (unit1 m c t 1408 1280 rfl (by decide) (by decide)).store1_lse rfl (by decide) x,
    fun x => (unit1 m c t 1280 1152 rfl (by decide) (by decide)).store1_lse rfl (by decide) x,
    fun x => (unit1 m c t 1152 1024 rfl (by decide) (by decide)).store1_lse rfl (by decide) x,
    fun x => (unit1 m c t 1024 896 rfl (by decide) (by decide)).store1_lse rfl (by decide) x,
    fun x => (unit1 m c t 896 768 rfl (by decide) (by decide)).store1_lse rfl (by decide) x,
    fun x => (unit1 m c t 768 640 rfl (by decide) (by decide)).store1_lse rfl (by decide) x,
    fun x => (unit1 m c t 640 512 rfl (by decide) (by decide)).store1_lse rfl (by decide) x,
    fun x => (unit1 m c t 512 384 rfl (by decide) (by decide)).store1_lse rfl (by decide) x,
    fun x => (unit1 m c t 384 256 rfl (by decide) (by decide)).store1_lse rfl (by decide) x,
    fun x => (unit1 m c t 256 128 rfl (by decide) (by decide)).store1_lse rfl (by decide) x,
    fun x => (unit1 m c t 128 0 rfl (by decide) (by decide)).store1_lse rfl (by decide) x,
    fun x => (unitFirst1 m c t).store1_lse (n := 0) rfl (by decide) x,
    trivial⟩
  · dsimp only
    exact mid_lse (t := t) hf (r := 3) (b := 1536) (by decide) rfl scM0_2 (by decide) (by decide) (by decide) x
  · dsimp only
    exact mid_lse (t := t) hf (r := 2) (b := 1024) (by decide) rfl scM0_2 (by decide) (by decide) (by decide) x
  · dsimp only
    exact mid_lse (t := t) hf (r := 1) (b := 512) (by decide) rfl scM0_2 (by decide) (by decide) (by decide) x
  · dsimp only
    exact mid_lse (t := t) hf (r := 0) (b := 0) (by decide) rfl scM0_2 (by decide) (by decide) (by decide) x

theorem out_canon (hf : (arrays m c).FiniteQK) (y : S3x2048x128.Idx) : View.canon (outPieces m c t) y = outs m c t y :=
  View.canon_apply_of_pieces _ _ (out_pieces hf).mem y (out_stored rfl y)

theorem lse_canon (hf : (arrays m c).FiniteQK) (y : S3x2048x128.Idx) : View.canon (lsePieces m c t) y = lses m c t y :=
  View.canon_apply_of_pieces _ _ (lse_pieces hf).mem y (out_stored rfl y)

end Cert.KernelIdeal
-- ==== Proof.Output.lean ====
/-
  What a grid point writes: the attention at the super block's positions and the pair's lanes. The body weights the three
  patterns' outputs by the exponentials of their log-sum-exps less the greatest, and divides by the sum of those.
-/
module

public import proofs.«01_k».proof.Proof.Pieces

@[expose] public section

set_option maxRecDepth 16384

noncomputable section

namespace Cert.KernelIdeal

open Idealize.ShloMosaic Idealize.ShloMosaic.TcCoe Idealize.SL.Sem Gen Attention

variable {m : (ℓ : Loc nD τ sig) → Buf (Elt Ideal) ℓ} {c : Dev nD} {t : Fin cfg0.N}

/-- The body's last payload, at a row and a lane. -/
theorem merge_apply (a b d x y z : FVec Ideal S1x2048x128 .f32) (n : Fin 2048) (l : Fin 128) :
    k0_pay1 (F := Ideal) (k0_pay874 a b d x y z) (k0_pay875 a b d) (ix3 0 n l)
      = Ideal.div (Ideal.exp (a (ix3 0 n l) - max (max (a (ix3 0 n l)) (b (ix3 0 n l))) (d (ix3 0 n l))) * x (ix3 0 n l)
          + Ideal.exp (b (ix3 0 n l) - max (max (a (ix3 0 n l)) (b (ix3 0 n l))) (d (ix3 0 n l))) * y (ix3 0 n l)
          + Ideal.exp (d (ix3 0 n l) - max (max (a (ix3 0 n l)) (b (ix3 0 n l))) (d (ix3 0 n l))) * z (ix3 0 n l))
        (Ideal.exp (a (ix3 0 n l) - max (max (a (ix3 0 n l)) (b (ix3 0 n l))) (d (ix3 0 n l)))
          + Ideal.exp (b (ix3 0 n l) - max (max (a (ix3 0 n l)) (b (ix3 0 n l))) (d (ix3 0 n l)))
          + Ideal.exp (d (ix3 0 n l) - max (max (a (ix3 0 n l)) (b (ix3 0 n l))) (d (ix3 0 n l)))) := by
  pointwise [k0_pay1, k0_pay874, k0_pay875, k0_pay871, k0_pay872, k0_pay873, k0_pay870, k0_pay869, k0_pay868, k0_pay867]

/-- What one grid point leaves in its block of the result: the attention at the block's positions and lanes. -/
theorem outsAt_apply (hf : (arrays m c).FiniteQK) (n : Fin 2048) (l : Fin 128) :
    outsAt0 m c t (ix3 0 n l) = (arrays m c).attn (gb t) (gs t * 2048 + n.val) (128 * gh t + l.val) := by
  unfold outsAt0 out0_A_15 kernelRun0_A
  dsimp only
  rw [View.read_writes_junk_eq_canon]
  unfold kernelRun0_A.sl.r_4 kernelRun0_A.sl.r_5 kernelRun0_A.sl.v2875 kernelRun0_A.sl.v2877 kernelRun0_A.sl.v2879 kernelRun0_A.sl.v2889 kernelRun0_A.sl.v2892 kernelRun0_A.sl.v2896
  simp only [View.readCov_eq_canon']
  have hL : ∀ y, View.canon (lsePieces m c t) y = lses m c t y := lse_canon hf
  have hO : ∀ y, View.canon (outPieces m c t) y = outs m c t y := out_canon hf
  simp only [hL, hO]
  have he : (ix3 0 n l : S1x2048x128.Idx) = (Rect.unit (s := S1x2048x128) ![0, 0, 0] ![1, 2048, 128] inb_S1x2048x128_S1x2048x128_0_0_0).emb
      (ix3 0 n l : S1x2048x128.Idx) := by
    funext d
    refine Fin.ext ?_
    rw [Rect.emb_apply]
    fin_cases d <;> simp [Rect.unit]
  refine (congrArg _ he).trans ((View.canon_cons_emb _ _ _ _).trans ((merge_apply _ _ _ _ _ _ n l).trans ?_))
  have hl : ∀ (p : Fin 3) (h : ∀ d, (![p.val, 0, 0] : Fin 3 → ℕ) d + (![1, 2048, 128] : Fin 3 → ℕ) d ≤ (![3, 2048, 128] : Fin 3 → ℕ) d),
      lses m c t ((Rect.unit (s := S3x2048x128) ![p.val, 0, 0] ![1, 2048, 128] h).idx (ix3 0 n l : S1x2048x128.Idx))
        = (arrays m c).lse p (gb t) (gs t * 2048 + n.val) (128 * gh t + l.val) := fun p h => by
    rw [lses_eq (p := p) rfl]
    change lseOf m c t p (0 + 1 * n.val) (0 + 1 * l.val) = _
    rw [Nat.zero_add, Nat.one_mul, Nat.zero_add, Nat.one_mul]; rfl
  have ho : ∀ (p : Fin 3) (h : ∀ d, (![p.val, 0, 0] : Fin 3 → ℕ) d + (![1, 2048, 128] : Fin 3 → ℕ) d ≤ (![3, 2048, 128] : Fin 3 → ℕ) d),
      outs m c t ((Rect.unit (s := S3x2048x128) ![p.val, 0, 0] ![1, 2048, 128] h).idx (ix3 0 n l : S1x2048x128.Idx))
        = (arrays m c).out p (gb t) (gs t * 2048 + n.val) (128 * gh t + l.val) := fun p h => by
    rw [outs_eq (p := p) rfl]
    change outOf m c t p (0 + 1 * n.val) (0 + 1 * l.val) = _
    rw [Nat.zero_add, Nat.one_mul, Nat.zero_add, Nat.one_mul]; rfl
  rw [← hf.attn_eq, ← hl 0 inb_S3x2048x128_S1x2048x128_0_0_0, ← hl 1 inb_S3x2048x128_S1x2048x128_1_0_0, ← hl 2 inb_S3x2048x128_S1x2048x128_2_0_0,
    ← ho 0 inb_S3x2048x128_S1x2048x128_0_0_0, ← ho 1 inb_S3x2048x128_S1x2048x128_1_0_0, ← ho 2 inb_S3x2048x128_S1x2048x128_2_0_0]
  rfl

end Cert.KernelIdeal
-- ==== Proof.Result.lean ====
/-
  The kernel's result array: the grid's blocks cover it, and each holds the attention at its positions and lanes.
-/
module

public import proofs.«01_k».proof.Proof.Output
public import proofs.«01_k».proof.Proof.Gen.KernelIdeal.Value

@[expose] public section

set_option maxRecDepth 16384

noncomputable section

namespace Cert.KernelIdeal

open Idealize.ShloMosaic Idealize.ShloMosaic.TcCoe Idealize.SL.Sem Gen Attention

/-- The result is the attention of the nine arguments, at every index. -/
theorem result_eq (m : (ℓ : Loc nD τ sig) → Buf (Elt Ideal) ℓ) (c : Dev nD) (hf : (arrays m c).FiniteQK) :
    (dats m 0 c).arrAt 15 cfg0.N = fun y : S4x8192x512.Idx => (arrays m c).attn (y 0).val (y 1).val (y 2).val := by
  refine (dats m 0 c).arrAt_eq_of_covers 15 _ (by decide +kernel) fun t ht y => ?_
  change (dats m 0 c).after 15 t ((cfg0.win 15).xinj (cfg0.grid.coords t) y) = _
  rw [after0_15]
  have hy : (cfg0.win 15).xinj (cfg0.grid.coords t) y = ix3 (n0 := 1) (n1 := 2048) (n2 := 128) 0 ⟨(y 1).val, (y 1).isLt⟩ ⟨(y 2).val, (y 2).isLt⟩ := by
    refine (eq_ix3 _).trans ?_
    congr 1
    exact Subsingleton.elim (α := Fin 1) _ _
  have e0 : (((cfg0.win 15).blk t).view.emb y 0).val = gb t := by
    blk_simp
    rw [(idx3 t).2.2]
    rfl
  have e1 : (((cfg0.win 15).blk t).view.emb y 1).val = gs t * 2048 + (y 1).val := by
    blk_simp
    rw [(idx3 t).2.2]
    change gs t * 2048 + _ = _
    rfl
  have e2 : (((cfg0.win 15).blk t).view.emb y 2).val = 128 * gh t + (y 2).val := by
    blk_simp
    rw [(idx3 t).2.2]
    change gh t * 128 + _ = _
    rw [Nat.mul_comm]
  rw [e0, e1, e2, hy]
  exact outsAt_apply hf _ _

end Cert.KernelIdeal
-- ==== Proof.Stack.lean ====
/-
  Three arrays stacked on a new first axis, and the greatest along it.
-/
module

public import proofs.«01_k».proof.Proof.Spec
public import Idealize.ShloMosaic.Lib.Pipeline.Value
public import Idealize.ShloMosaic.Lib.KernelVsHost

@[expose] public section

set_option maxRecDepth 16384

noncomputable section

namespace Attention

open Idealize.ShloMosaic Idealize.ShloMosaic.TcCoe

/-- Three stacked arrays of rank 3. -/
theorem stack_apply (x y z : (⟨4, ![1, 4, 8, 8192]⟩ : Shape).Idx → EReal)
    (hc : Shape.Concatenates [⟨4, ![1, 4, 8, 8192]⟩, ⟨4, ![1, 4, 8, 8192]⟩, ⟨4, ![1, 4, 8, 8192]⟩] ⟨4, ![3, 4, 8, 8192]⟩ 0)
    (p : Fin 3) (b : Fin 4) (h : Fin 8) (s : Fin 8192) (f : Fin 3 → EReal)
    (hx : x (ix4 0 b h s) = f 0) (hy : y (ix4 0 b h s) = f 1) (hz : z (ix4 0 b h s) = f 2) :
    concatenate ⟨4, ![3, 4, 8, 8192]⟩ 0 [⟨⟨4, ![1, 4, 8, 8192]⟩, x⟩, ⟨⟨4, ![1, 4, 8, 8192]⟩, y⟩, ⟨⟨4, ![1, 4, 8, 8192]⟩, z⟩] hc (ix4 p b h s) = f p := by
  have off (a : Fin 4) (ha : a ≠ 0) : (ix4 (0 : Fin 1) b h s a).val = (ix4 p b h s a).val := by
    match a with
    | ⟨0, _⟩ => exact absurd rfl ha
    | ⟨1, _⟩ => rfl
    | ⟨2, _⟩ => rfl
    | ⟨3, _⟩ => rfl
  match p with
  | ⟨0, _⟩ => exact (concatenate_apply_piece (t := ⟨4, ![3, 4, 8, 8192]⟩) 0 [⟨⟨4, ![1, 4, 8, 8192]⟩, x⟩, ⟨⟨4, ![1, 4, 8, 8192]⟩, y⟩, ⟨⟨4, ![1, 4, 8, 8192]⟩, z⟩]
      hc _ 0 (by decide : 0 < 3) ⟨4, ![1, 4, 8, 8192]⟩ x rfl rfl 0 rfl (ix4 0 b h s) (fun a ha => off a ha) rfl).trans hx
  | ⟨1, _⟩ => exact (concatenate_apply_piece (t := ⟨4, ![3, 4, 8, 8192]⟩) 0 [⟨⟨4, ![1, 4, 8, 8192]⟩, x⟩, ⟨⟨4, ![1, 4, 8, 8192]⟩, y⟩, ⟨⟨4, ![1, 4, 8, 8192]⟩, z⟩]
      hc _ 1 (by decide : 1 < 3) ⟨4, ![1, 4, 8, 8192]⟩ y rfl rfl 1 rfl (ix4 0 b h s) (fun a ha => off a ha) rfl).trans hy
  | ⟨2, _⟩ => exact (concatenate_apply_piece (t := ⟨4, ![3, 4, 8, 8192]⟩) 0 [⟨⟨4, ![1, 4, 8, 8192]⟩, x⟩, ⟨⟨4, ![1, 4, 8, 8192]⟩, y⟩, ⟨⟨4, ![1, 4, 8, 8192]⟩, z⟩]
      hc _ 2 (by decide : 2 < 3) ⟨4, ![1, 4, 8, 8192]⟩ z rfl rfl 2 rfl (ix4 0 b h s) (fun a ha => off a ha) rfl).trans hz

/-- Three stacked arrays of rank 4. -/
theorem stack_out_apply (x y z : (⟨5, ![1, 4, 8, 8192, 64]⟩ : Shape).Idx → EReal)
    (hc : Shape.Concatenates [⟨5, ![1, 4, 8, 8192, 64]⟩, ⟨5, ![1, 4, 8, 8192, 64]⟩, ⟨5, ![1, 4, 8, 8192, 64]⟩] ⟨5, ![3, 4, 8, 8192, 64]⟩ 0)
    (p : Fin 3) (b : Fin 4) (h : Fin 8) (s : Fin 8192) (e : Fin 64) (f : Fin 3 → EReal)
    (hx : x (ix5 0 b h s e) = f 0) (hy : y (ix5 0 b h s e) = f 1) (hz : z (ix5 0 b h s e) = f 2) :
    concatenate ⟨5, ![3, 4, 8, 8192, 64]⟩ 0 [⟨⟨5, ![1, 4, 8, 8192, 64]⟩, x⟩, ⟨⟨5, ![1, 4, 8, 8192, 64]⟩, y⟩, ⟨⟨5, ![1, 4, 8, 8192, 64]⟩, z⟩] hc (ix5 p b h s e) = f p := by
  have off (a : Fin 5) (ha : a ≠ 0) : (ix5 (0 : Fin 1) b h s e a).val = (ix5 p b h s e a).val := by
    match a with
    | ⟨0, _⟩ => exact absurd rfl ha
    | ⟨1, _⟩ => rfl
    | ⟨2, _⟩ => rfl
    | ⟨3, _⟩ => rfl
    | ⟨4, _⟩ => rfl
  match p with
  | ⟨0, _⟩ => exact (concatenate_apply_piece (t := ⟨5, ![3, 4, 8, 8192, 64]⟩) 0 [⟨⟨5, ![1, 4, 8, 8192, 64]⟩, x⟩, ⟨⟨5, ![1, 4, 8, 8192, 64]⟩, y⟩, ⟨⟨5, ![1, 4, 8, 8192, 64]⟩, z⟩]
      hc _ 0 (by decide : 0 < 3) ⟨5, ![1, 4, 8, 8192, 64]⟩ x rfl rfl 0 rfl (ix5 0 b h s e) (fun a ha => off a ha) rfl).trans hx
  | ⟨1, _⟩ => exact (concatenate_apply_piece (t := ⟨5, ![3, 4, 8, 8192, 64]⟩) 0 [⟨⟨5, ![1, 4, 8, 8192, 64]⟩, x⟩, ⟨⟨5, ![1, 4, 8, 8192, 64]⟩, y⟩, ⟨⟨5, ![1, 4, 8, 8192, 64]⟩, z⟩]
      hc _ 1 (by decide : 1 < 3) ⟨5, ![1, 4, 8, 8192, 64]⟩ y rfl rfl 1 rfl (ix5 0 b h s e) (fun a ha => off a ha) rfl).trans hy
  | ⟨2, _⟩ => exact (concatenate_apply_piece (t := ⟨5, ![3, 4, 8, 8192, 64]⟩) 0 [⟨⟨5, ![1, 4, 8, 8192, 64]⟩, x⟩, ⟨⟨5, ![1, 4, 8, 8192, 64]⟩, y⟩, ⟨⟨5, ![1, 4, 8, 8192, 64]⟩, z⟩]
      hc _ 2 (by decide : 2 < 3) ⟨5, ![1, 4, 8, 8192, 64]⟩ z rfl rfl 2 rfl (ix5 0 b h s e) (fun a ha => off a ha) rfl).trans hz

/-- The greatest along the first axis. -/
theorem top_first_apply (x : (⟨4, ![3, 4, 8, 8192]⟩ : Shape).Idx → EReal) {u : Shape} (z : u.Idx → EReal) (hu : 0 < u.numel)
    (hz : z (Shape.Idx.first hu) = ⊥) (hr : (⟨4, ![3, 4, 8, 8192]⟩ : Shape).ReducesTo [0] ⟨3, ![4, 8, 8192]⟩)
    (b : Fin 4) (h : Fin 8) (s : Fin 8192) :
    Host.reduce (FloatOps.maximumf (F := Ideal) (φ := .f32)) x z hr hu (ix3 b h s) = top fun p => x (ix4 p b h s) := by
  have h' : (⟨4, ![3, 4, 8, 8192]⟩ : Shape).Reduces [0] ⟨3, ![4, 8, 8192]⟩ := ⟨hr.1, (by decide : 0 < 3), hr.2⟩
  rw [Host.reduce_eq_fold_single (FloatOps.maximumf (F := Ideal) (φ := .f32)) x z hr h' hu, hz]
  refine congrArg (Finset.univ.fold max ⊥) (funext fun p => congrArg x (funext fun a => Fin.ext ?_))
  match a with
  | ⟨0, _⟩ => rfl
  | ⟨1, _⟩ => rfl
  | ⟨2, _⟩ => rfl
  | ⟨3, _⟩ => rfl

end Attention
-- ==== Proof.Band.lean ====
/-
  The reference's arrays of blocks, read at an index, for a pattern of `d` classes of `nb` blocks of 128 positions: the heads
  split out of the columns, a block's window (the block before and the block itself), and the way back to positions.
-/
module

public import proofs.«01_k».proof.Proof.Spec
public import Idealize.ShloMosaic.Lib.ValueIdxRank6
public import Idealize.ShloMosaic.Lib.KernelVsHost
public import Idealize.ShloMosaic.Lib.Pointwise

@[expose] public section

noncomputable section

namespace Attention

open Idealize.ShloMosaic

variable {d nb nb' Q : ℕ}

/-- An array read at an index is read at the index of its coordinates. -/
theorem read_ix6 {α : Type} {a b c d e f : ℕ} (x : (⟨6, ![a, b, c, d, e, f]⟩ : Shape).Idx → α) (i : (⟨6, ![a, b, c, d, e, f]⟩ : Shape).Idx) :
    x i = x (ix6 (i 0) (i 1) (i 2) (i 3) (i 4) (i 5)) := congrArg x (eq_ix6 i)

/-- Positions cut into blocks and columns into heads, the heads brought forward. -/
theorem blocks_apply (hQ : Q = nb * 128) (x : (⟨4, ![4, d, Q, 512]⟩ : Shape).Idx → EReal)
    (hc : (⟨4, ![4, d, Q, 512]⟩ : Shape).ShapeCasts ⟨6, ![4, d, nb, 128, 8, 64]⟩)
    (ht : (⟨6, ![4, d, nb, 128, 8, 64]⟩ : Shape).Transposes [0, 4, 1, 2, 3, 5] ⟨6, ![4, 8, d, nb, 128, 64]⟩)
    (b : Fin 4) (h : Fin 8) (r : Fin d) (n : Fin nb) (i : Fin 128) (e : Fin 64) :
    transpose ⟨6, ![4, 8, d, nb, 128, 64]⟩ [0, 4, 1, 2, 3, 5] (shapeCast ⟨6, ![4, d, nb, 128, 8, 64]⟩ x hc) ht (ix6 b h r n i e)
      = at4 x b.val r.val (n.val * 128 + i.val) (64 * h.val + e.val) := by
  subst hQ
  have hn : n.val * 128 + i.val < nb * 128 := by have := n.isLt; have := i.isLt; omega
  have hw : 64 * h.val + e.val < 512 := by omega
  refine (transpose_apply [0, 4, 1, 2, 3, 5] _ ht _ (ix6 b r n i h e) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  · refine (shapeCast_apply x hc _ (ix4 b r ⟨n.val * 128 + i.val, hn⟩ ⟨64 * h.val + e.val, hw⟩) ?_).trans
      (at4_ix x b r ⟨n.val * 128 + i.val, hn⟩ ⟨64 * h.val + e.val, hw⟩).symm
    rw [Shape.rowMajor_val_four, Shape.rowMajor_val_six]
    change ((b.val * d + r.val) * (nb * 128) + (n.val * 128 + i.val)) * 512 + (64 * h.val + e.val)
      = ((((b.val * d + r.val) * nb + n.val) * 128 + i.val) * 8 + h.val) * 64 + e.val
    ring

/-- A block's window: the block before it (padding before the first) and the block. -/
theorem window_apply {y : (⟨6, ![4, 8, d, nb, 128, 64]⟩ : Shape).Idx → EReal} {g : ℕ → ℕ → ℕ → ℕ → EReal}
    (hy : ∀ b h r n i e, y (ix6 b h r n i e) = g b.val r.val (n.val * 128 + i.val) (64 * h.val + e.val)) {u : Shape} (z : u.Idx → EReal)
    (hp : (⟨6, ![4, 8, d, nb, 128, 64]⟩ : Shape).Pads ![0, 0, 0, 1, 0, 0] ![0, 0, 0, 0, 0, 0] ![0, 0, 0, 0, 0, 0] ⟨6, ![4, 8, d, nb', 128, 64]⟩)
    (hu : 0 < u.numel)
    (hs : (⟨6, ![4, 8, d, nb', 128, 64]⟩ : Shape).Slices ![0, 0, 0, 0, 0, 0] ⟨6, ![4, 8, d, nb, 128, 64]⟩)
    (hc : Shape.Concatenates [⟨6, ![4, 8, d, nb, 128, 64]⟩, ⟨6, ![4, 8, d, nb, 128, 64]⟩] ⟨6, ![4, 8, d, nb, 256, 64]⟩ 4)
    (hn : nb ≤ nb')
    (b : Fin 4) (h : Fin 8) (r : Fin d) (n : Fin nb) (k : Fin 256) (e : Fin 64) :
    concatenate ⟨6, ![4, 8, d, nb, 256, 64]⟩ 4
        [⟨⟨6, ![4, 8, d, nb, 128, 64]⟩, extractStridedSlice ⟨6, ![4, 8, d, nb, 128, 64]⟩ ![0, 0, 0, 0, 0, 0]
          (pad ⟨6, ![4, 8, d, nb', 128, 64]⟩ ![0, 0, 0, 1, 0, 0] ![0, 0, 0, 0, 0, 0] ![0, 0, 0, 0, 0, 0] y z hp hu) hs⟩,
          ⟨⟨6, ![4, 8, d, nb, 128, 64]⟩, y⟩] hc (ix6 b h r n k e)
      = if 128 ≤ n.val * 128 + k.val then g b.val r.val (n.val * 128 + k.val - 128) (64 * h.val + e.val) else z (Shape.Idx.first hu) := by
  have hk := k.isLt
  rcases Nat.lt_or_ge k.val 128 with h1 | h1
  · refine (concatenate_pair_apply_left (t := ⟨6, ![4, 8, d, nb, 256, 64]⟩) (4 : Fin 6) _ y hc _ rfl (ix6 (n3 := nb) b h r n ⟨k.val, h1⟩ e) fun a => ?_).trans ?_
    · match a with
      | ⟨0, _⟩ => rfl
      | ⟨1, _⟩ => rfl
      | ⟨2, _⟩ => rfl
      | ⟨3, _⟩ => rfl
      | ⟨4, _⟩ => rfl
      | ⟨5, _⟩ => rfl
    refine (extractStridedSlice_apply ![0, 0, 0, 0, 0, 0] _ hs _ (ix6 b h r ⟨n.val, lt_of_lt_of_le n.isLt hn⟩ ⟨k.val, h1⟩ e) fun a => ?_).trans ?_
    · match a with
      | ⟨0, _⟩ => exact (Nat.zero_add _).symm
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
    rcases Nat.eq_zero_or_pos n.val with h0 | h0
    · rw [if_neg (by omega)]
      refine pad_apply_of_not_inside _ _ _ y z hp hu _ (3 : Fin 6) fun hin => ?_
      have : 1 ≤ n.val := hin.1
      omega
    · rw [if_pos (by omega)]
      refine (pad_apply_of_inside _ _ _ y z hp hu _ (ix6 b h r ⟨n.val - 1, by have := n.isLt; omega⟩ ⟨k.val, h1⟩ e) fun a => ?_).trans ?_
      · match a with
        | ⟨0, _⟩ => change b.val = 0 + b.val * 1; omega
        | ⟨1, _⟩ => change h.val = 0 + h.val * 1; omega
        | ⟨2, _⟩ => change r.val = 0 + r.val * 1; omega
        | ⟨3, _⟩ => change n.val = 1 + (n.val - 1) * 1; omega
        | ⟨4, _⟩ => change k.val = 0 + k.val * 1; omega
        | ⟨5, _⟩ => change e.val = 0 + e.val * 1; omega
      · rw [hy]
        change g _ _ ((n.val - 1) * 128 + k.val) _ = _
        rw [show (n.val - 1) * 128 + k.val = n.val * 128 + k.val - 128 by omega]
  · refine (concatenate_pair_apply_right (t := ⟨6, ![4, 8, d, nb, 256, 64]⟩) (4 : Fin 6) _ y hc _ rfl rfl (ix6 (n3 := nb) b h r n ⟨k.val - 128, by omega⟩ e) (fun a ha => ?_) ?_).trans ?_
    · match a with
      | ⟨0, _⟩ => rfl
      | ⟨1, _⟩ => rfl
      | ⟨2, _⟩ => rfl
      | ⟨3, _⟩ => rfl
      | ⟨4, _⟩ => exact absurd rfl ha
      | ⟨5, _⟩ => rfl
    · change k.val - 128 + 128 = k.val; omega
    · rw [hy, if_pos (by omega)]
      change g _ _ (n.val * 128 + (k.val - 128)) _ = _
      rw [show n.val * 128 + (k.val - 128) = n.val * 128 + k.val - 128 by omega]

/-- The greatest over a window. -/
theorem top_apply (x : (⟨6, ![4, 8, d, nb, 128, 256]⟩ : Shape).Idx → EReal) {u : Shape} (z : u.Idx → EReal) (hu : 0 < u.numel)
    (hz : z (Shape.Idx.first hu) = ⊥) (hr : (⟨6, ![4, 8, d, nb, 128, 256]⟩ : Shape).ReducesTo [5] ⟨5, ![4, 8, d, nb, 128]⟩)
    (b : Fin 4) (h : Fin 8) (r : Fin d) (n : Fin nb) (i : Fin 128) :
    Host.reduce (FloatOps.maximumf (F := Ideal) (φ := .f32)) x z hr hu (ix5 b h r n i) = top fun j => x (ix6 b h r n i j) := by
  have h' : (⟨6, ![4, 8, d, nb, 128, 256]⟩ : Shape).Reduces [5] ⟨5, ![4, 8, d, nb, 128]⟩ := ⟨hr.1, (by decide : 0 < 5), hr.2⟩
  rw [Host.reduce_eq_fold_single (FloatOps.maximumf (F := Ideal) (φ := .f32)) x z hr h' hu, hz]
  refine congrArg (Finset.univ.fold max ⊥) (funext fun j => congrArg x (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

/-- A pattern's outputs put back in order: position `s` is position `s / d` of class `s % d`. -/
theorem order_apply (hQ : Q = nb * 128) (hd : Q * d = 8192) (x : (⟨6, ![4, 8, d, nb, 128, 64]⟩ : Shape).Idx → EReal)
    (h1 : (⟨6, ![4, 8, d, nb, 128, 64]⟩ : Shape).ShapeCasts ⟨5, ![4, 8, d, Q, 64]⟩)
    (h2 : (⟨5, ![4, 8, d, Q, 64]⟩ : Shape).Transposes [0, 1, 3, 2, 4] ⟨5, ![4, 8, Q, d, 64]⟩)
    (h3 : (⟨5, ![4, 8, Q, d, 64]⟩ : Shape).ShapeCasts ⟨4, ![4, 8, 8192, 64]⟩)
    (b : Fin 4) (h : Fin 8) (s : Fin 8192) (e : Fin 64) (r : Fin d) (n : Fin nb) (i : Fin 128)
    (hr : r.val = s.val % d) (hi : n.val * 128 + i.val = s.val / d) :
    shapeCast ⟨4, ![4, 8, 8192, 64]⟩ (transpose ⟨5, ![4, 8, Q, d, 64]⟩ [0, 1, 3, 2, 4] (shapeCast ⟨5, ![4, 8, d, Q, 64]⟩ x h1) h2) h3
      (ix4 b h s e) = x (ix6 b h r n i e) := by
  have hn : n.val * 128 + i.val < Q := by have := n.isLt; have := i.isLt; omega
  have hs : s.val = d * (n.val * 128 + i.val) + r.val := by rw [hr, hi]; exact (Nat.div_add_mod _ _).symm
  refine (shapeCast_apply _ h3 _ (ix5 b h ⟨n.val * 128 + i.val, hn⟩ r e) ?_).trans ?_
  · rw [Shape.rowMajor_val_four, Shape.rowMajor_val_five]
    change (((b.val * 8 + h.val) * Q + (n.val * 128 + i.val)) * d + r.val) * 64 + e.val = ((b.val * 8 + h.val) * 8192 + s.val) * 64 + e.val
    rw [hs, ← hd]
    ring
  refine (transpose_apply [0, 1, 3, 2, 4] _ h2 _ (ix5 b h r ⟨n.val * 128 + i.val, hn⟩ e) fun a => ?_).trans ?_
  · match a with
    | ⟨0, _⟩ => rfl
    | ⟨1, _⟩ => rfl
    | ⟨2, _⟩ => rfl
    | ⟨3, _⟩ => rfl
    | ⟨4, _⟩ => rfl
  refine shapeCast_apply x h1 _ (ix6 b h r n i e) ?_
  rw [Shape.rowMajor_val_six, Shape.rowMajor_val_five]
  change ((((b.val * 8 + h.val) * d + r.val) * nb + n.val) * 128 + i.val) * 64 + e.val
    = (((b.val * 8 + h.val) * d + r.val) * Q + (n.val * 128 + i.val)) * 64 + e.val
  rw [hQ]
  ring

/-- A pattern's log-sum-exps put back in order. -/
theorem order_lse_apply (hQ : Q = nb * 128) (hd : Q * d = 8192) (x : (⟨5, ![4, 8, d, nb, 128]⟩ : Shape).Idx → EReal)
    (h1 : (⟨5, ![4, 8, d, nb, 128]⟩ : Shape).ShapeCasts ⟨4, ![4, 8, d, Q]⟩)
    (h2 : (⟨4, ![4, 8, d, Q]⟩ : Shape).Transposes [0, 1, 3, 2] ⟨4, ![4, 8, Q, d]⟩)
    (h3 : (⟨4, ![4, 8, Q, d]⟩ : Shape).ShapeCasts ⟨3, ![4, 8, 8192]⟩)
    (b : Fin 4) (h : Fin 8) (s : Fin 8192) (r : Fin d) (n : Fin nb) (i : Fin 128)
    (hr : r.val = s.val % d) (hi : n.val * 128 + i.val = s.val / d) :
    shapeCast ⟨3, ![4, 8, 8192]⟩ (transpose ⟨4, ![4, 8, Q, d]⟩ [0, 1, 3, 2] (shapeCast ⟨4, ![4, 8, d, Q]⟩ x h1) h2) h3
      (ix3 b h s) = x (ix5 b h r n i) := by
  have hn : n.val * 128 + i.val < Q := by have := n.isLt; have := i.isLt; omega
  have hs : s.val = d * (n.val * 128 + i.val) + r.val := by rw [hr, hi]; exact (Nat.div_add_mod _ _).symm
  refine (shapeCast_apply _ h3 _ (ix4 b h ⟨n.val * 128 + i.val, hn⟩ r) ?_).trans ?_
  · rw [Shape.rowMajor_val_three, Shape.rowMajor_val_four]
    change ((b.val * 8 + h.val) * Q + (n.val * 128 + i.val)) * d + r.val = (b.val * 8 + h.val) * 8192 + s.val
    rw [hs, ← hd]
    ring
  refine (transpose_apply [0, 1, 3, 2] _ h2 _ (ix4 b h r ⟨n.val * 128 + i.val, hn⟩) fun a => ?_).trans ?_
  · match a with
    | ⟨0, _⟩ => rfl
    | ⟨1, _⟩ => rfl
    | ⟨2, _⟩ => rfl
    | ⟨3, _⟩ => rfl
  refine shapeCast_apply x h1 _ (ix5 b h r n i) ?_
  rw [Shape.rowMajor_val_five, Shape.rowMajor_val_four]
  change (((b.val * 8 + h.val) * d + r.val) * nb + n.val) * 128 + i.val = ((b.val * 8 + h.val) * d + r.val) * Q + (n.val * 128 + i.val)
  rw [hQ]
  ring

/-- A last axis of one dropped. -/
theorem drop_apply (x : (⟨6, ![4, 8, d, nb, 128, 1]⟩ : Shape).Idx → EReal)
    (h1 : (⟨6, ![4, 8, d, nb, 128, 1]⟩ : Shape).ShapeCasts ⟨5, ![4, 8, d, nb, 128]⟩)
    (b : Fin 4) (h : Fin 8) (r : Fin d) (n : Fin nb) (i : Fin 128) :
    shapeCast ⟨5, ![4, 8, d, nb, 128]⟩ x h1 (ix5 b h r n i) = x (ix6 b h r n i 0) := by
  refine shapeCast_apply x h1 _ (ix6 b h r n i 0) ?_
  rw [Shape.rowMajor_val_six, Shape.rowMajor_val_five]
  change ((((b.val * 8 + h.val) * d + r.val) * nb + n.val) * 128 + i.val) * 1 + 0 = (((b.val * 8 + h.val) * d + r.val) * nb + n.val) * 128 + i.val
  rw [Nat.mul_one, Nat.add_zero]

/-- The class, the block and the row of a sequence position. -/
theorem place (hQ : Q = nb * 128) (hd : Q * d = 8192) (s : Fin 8192) :
    ∃ (r : Fin d) (n : Fin nb) (i : Fin 128), r.val = s.val % d ∧ n.val * 128 + i.val = s.val / d := by
  have h0 : 0 < d := Nat.pos_of_ne_zero fun h => by rw [h] at hd; omega
  have hs : s.val / d < nb * 128 := (Nat.div_lt_iff_lt_mul h0).2 (by have := s.isLt; rw [← hQ, hd]; exact this)
  exact ⟨⟨s.val % d, Nat.mod_lt _ h0⟩, ⟨s.val / d / 128, by omega⟩, ⟨s.val / d % 128, Nat.mod_lt _ (by omega)⟩, rfl, by
    change s.val / d / 128 * 128 + s.val / d % 128 = s.val / d
    omega⟩

/-- A column's head. -/
theorem column_head (h : Fin 8) (e : Fin 64) : (64 * h.val + e.val) / 64 = h.val := by have := e.isLt; omega

/-- An array with one class, read as one without the class axis. -/
theorem unit_at (x : (⟨3, ![4, 8192, 512]⟩ : Shape).Idx → EReal)
    (hc : (⟨3, ![4, 8192, 512]⟩ : Shape).ShapeCasts ⟨4, ![4, 1, 8192, 512]⟩) (b : ℕ) (r : Fin 1) (s w : ℕ) :
    at4 (shapeCast ⟨4, ![4, 1, 8192, 512]⟩ x hc) b r.val s w = at3 x b s w := by
  have hy : ∀ b s w, shapeCast ⟨4, ![4, 1, 8192, 512]⟩ x hc (ix4 b 0 s w) = x (ix3 b s w) := fun b s w => by
    refine shapeCast_apply x hc _ (ix3 b s w) ?_
    rw [Shape.rowMajor_val_three, Shape.rowMajor_val_four]
    change (b.val * 8192 + s.val) * 512 + w.val = ((b.val * 1 + 0) * 8192 + s.val) * 512 + w.val
    ring
  unfold at4 at3
  by_cases hc : b < 4 ∧ s < 8192 ∧ w < 512
  · rw [dif_pos ⟨hc.1, r.isLt, hc.2⟩, dif_pos hc, ← hy, Subsingleton.elim (⟨r.val, r.isLt⟩ : Fin 1) 0]
  · rw [dif_neg fun h => hc ⟨h.1, h.2.2⟩, dif_neg hc]

/-- The padding value, the integer zero as a float, is zero. -/
theorem pad_zero : FloatOps.sitofp (F := Ideal) .f32 0#32 = (0 : EReal) := by
  show (((0#32 : BitVec 32).toInt : ℝ) : EReal) = 0
  simp

/-- The bit of the mask at block `n`, query `i`, key `k`: within the last 129 positions, and no key before the first block. -/
theorem seen_bit {n : ℕ} (hn : n ≤ 64) (i : Fin 128) (k : Fin 256) :
    IntOp.andi
        (IntOp.andi
          (IntOp.cmpi .sge (IntOp.subi (IntOp.addi (BitVec.ofNat 32 i.val) 128#32) (BitVec.ofNat 32 k.val)) 0#32)
          (IntOp.cmpi .sle (IntOp.subi (IntOp.addi (BitVec.ofNat 32 i.val) 128#32) (BitVec.ofNat 32 k.val)) 128#32))
        (IntOp.ori (IntOp.cmpi .sgt (BitVec.ofNat 32 n) 0#32) (IntOp.cmpi .sge (BitVec.ofNat 32 k.val) 128#32)) = 1#1
      ↔ Sees (n * 128 + i.val) k := by
  have hi := i.isLt
  have hk := k.isLt
  have bm : ∀ x : ℤ, -1000 ≤ x → x < 1000 → x.bmod (2 ^ 32) = x := fun x h1 h2 =>
    Int.bmod_eq_of_le_mul_two (by norm_num; linarith) (by norm_num; linarith)
  have hs : (IntOp.subi (IntOp.addi (BitVec.ofNat 32 i.val) 128#32) (BitVec.ofNat 32 k.val)).toInt = (i.val : ℤ) + 128 - k.val := by
    change ((BitVec.ofNat 32 i.val + 128#32) - BitVec.ofNat 32 k.val).toInt = _
    rw [BitVec.toInt_sub, BitVec.toInt_add, show (128#32).toInt = 128 from rfl, BitVec.toInt_ofNat', BitVec.toInt_ofNat',
      bm i.val (by omega) (by omega), bm k.val (by omega) (by omega), bm (i.val + 128) (by omega) (by omega), bm _ (by omega) (by omega)]
  have hk' : (BitVec.ofNat 32 k.val).toInt = k.val := by rw [BitVec.toInt_ofNat', bm _ (by omega) (by omega)]
  have hn' : (BitVec.ofNat 32 n).toInt = n := by rw [BitVec.toInt_ofNat', bm _ (by omega) (by omega)]
  unfold Sees keyPos
  rw [show (n * 128 + i.val) % 128 = i.val by omega, show (n * 128 + i.val) / 128 = n by omega]
  simp only [IntOp.andi, IntOp.ori, IntOp.cmpi, BitVec.sle, BitVec.slt, hs, hk', hn', show (0#32).toInt = 0 from rfl, show (128#32).toInt = 128 from rfl]
  have hb : ∀ p q r s : Bool, (BitVec.ofBool p &&& BitVec.ofBool q) &&& (BitVec.ofBool r ||| BitVec.ofBool s) = 1#1
      ↔ (p = true ∧ q = true) ∧ (r = true ∨ s = true) := by decide
  rw [hb]
  simp only [decide_eq_true_eq]
  omega

/-- The steps of one pattern of the reference, for classes of blocks read at their indices. -/
structure Steps (q k v : ℕ → ℕ → ℕ → ℕ → EReal) (Qs : (⟨6, ![4, 8, d, nb, 128, 64]⟩ : Shape).Idx → EReal)
    (Ks Vs : (⟨6, ![4, 8, d, nb, 256, 64]⟩ : Shape).Idx → EReal) (B : (⟨6, ![4, 8, d, nb, 128, 256]⟩ : Shape).Idx → BitVec 1)
    (S E : (⟨6, ![4, 8, d, nb, 128, 256]⟩ : Shape).Idx → EReal) (M T L : (⟨5, ![4, 8, d, nb, 128]⟩ : Shape).Idx → EReal)
    (O : (⟨6, ![4, 8, d, nb, 128, 64]⟩ : Shape).Idx → EReal) : Prop where
  queries : ∀ b h r n i e, Qs (ix6 b h r n i e) = q b.val r.val (n.val * 128 + i.val) (64 * h.val + e.val)
  keys : ∀ b h r n j e, Ks (ix6 b h r n j e)
    = if 128 ≤ n.val * 128 + j.val then k b.val r.val (n.val * 128 + j.val - 128) (64 * h.val + e.val) else 0
  values : ∀ b h r n j e, Vs (ix6 b h r n j e)
    = if 128 ≤ n.val * 128 + j.val then v b.val r.val (n.val * 128 + j.val - 128) (64 * h.val + e.val) else 0
  seen : ∀ b h r n i j, B (ix6 b h r n i j) = 1#1 ↔ Sees (n.val * 128 + i.val) j
  scores : ∀ b h r n i j, S (ix6 b h r n i j)
    = if B (ix6 b h r n i j) = 1#1 then ∑ e : Fin 64, Qs (ix6 b h r n i e) * Ks (ix6 b h r n j e) else ⊥
  greatest : ∀ b h r n i, M (ix5 b h r n i) = top fun j => S (ix6 b h r n i j)
  weights : ∀ b h r n i j, E (ix6 b h r n i j) = Ideal.exp (S (ix6 b h r n i j) - M (ix5 b h r n i))
  totals : ∀ b h r n i, T (ix5 b h r n i) = ∑ j : Fin 256, E (ix6 b h r n i j)
  lses : ∀ b h r n i, L (ix5 b h r n i) = M (ix5 b h r n i) + Ideal.log (T (ix5 b h r n i))
  outs : ∀ b h r n i e, O (ix6 b h r n i e)
    = Ideal.div (∑ j : Fin 256, E (ix6 b h r n i j) * Vs (ix6 b h r n j e)) (T (ix5 b h r n i))

namespace Steps

variable {q k v : ℕ → ℕ → ℕ → ℕ → EReal} {Qs : (⟨6, ![4, 8, d, nb, 128, 64]⟩ : Shape).Idx → EReal}
    {Ks Vs : (⟨6, ![4, 8, d, nb, 256, 64]⟩ : Shape).Idx → EReal} {B : (⟨6, ![4, 8, d, nb, 128, 256]⟩ : Shape).Idx → BitVec 1}
    {S E : (⟨6, ![4, 8, d, nb, 128, 256]⟩ : Shape).Idx → EReal} {M T L : (⟨5, ![4, 8, d, nb, 128]⟩ : Shape).Idx → EReal}
    {O : (⟨6, ![4, 8, d, nb, 128, 64]⟩ : Shape).Idx → EReal} (w : Steps q k v Qs Ks Vs B S E M T L O)
    (b : Fin 4) (h : Fin 8) (r : Fin d) (n : Fin nb) (i : Fin 128)

include w

theorem score_eq (j : Fin 256) : S (ix6 b h r n i j) = scoreRow (q b.val r.val) (k b.val r.val) h.val (n.val * 128 + i.val) j := by
  rw [w.scores]
  unfold scoreRow
  refine if_ctx_congr (w.seen b h r n i j) (fun hs => Finset.sum_congr rfl fun e _ => ?_) fun _ => rfl
  have hp : keyPos (n.val * 128 + i.val) j = n.val * 128 + j.val := by unfold keyPos; omega
  have h2 := hs.2.2
  rw [hp] at h2 ⊢
  rw [w.queries, w.keys, if_pos h2]

theorem weight_eq (j : Fin 256) : E (ix6 b h r n i j) = weight (scoreRow (q b.val r.val) (k b.val r.val) h.val (n.val * 128 + i.val)) j := by
  rw [w.weights, w.greatest]
  simp only [w.score_eq]
  rfl

theorem total_eq : T (ix5 b h r n i) = total (scoreRow (q b.val r.val) (k b.val r.val) h.val (n.val * 128 + i.val)) := by
  rw [w.totals]
  exact Finset.sum_congr rfl fun j _ => w.weight_eq b h r n i j

theorem lse_eq : L (ix5 b h r n i) = lse (scoreRow (q b.val r.val) (k b.val r.val) h.val (n.val * 128 + i.val)) := by
  rw [w.lses, w.total_eq, w.greatest]
  simp only [w.score_eq]
  rfl

theorem out_eq (e : Fin 64) : O (ix6 b h r n i e)
    = Ideal.div (mix (scoreRow (q b.val r.val) (k b.val r.val) h.val (n.val * 128 + i.val)) (valRow (v b.val r.val) (n.val * 128 + i.val) (64 * h.val + e.val)))
        (total (scoreRow (q b.val r.val) (k b.val r.val) h.val (n.val * 128 + i.val))) := by
  rw [w.outs, w.total_eq]
  congr 1
  refine Finset.sum_congr rfl fun j _ => ?_
  rw [w.weight_eq, w.values]
  have hp : keyPos (n.val * 128 + i.val) j = n.val * 128 + j.val := by unfold keyPos; omega
  by_cases hj : 128 ≤ n.val * 128 + j.val
  · rw [if_pos hj]
    unfold valRow
    rw [hp]
  · have hw : weight (scoreRow (q b.val r.val) (k b.val r.val) h.val (n.val * 128 + i.val)) j = 0 := by
      have hb : scoreRow (q b.val r.val) (k b.val r.val) h.val (n.val * 128 + i.val) j = ⊥ :=
        if_neg fun hs => hj (hp ▸ hs.2.2)
      unfold weight
      rw [hb, sub_eq_add_neg, EReal.bot_add]
      rfl
    rw [hw, zero_mul, zero_mul]

omit b h r n i

/-- The outputs, put back in the order of the sequence. -/
theorem out_at (hQ : Q = nb * 128) (hd : Q * d = 8192)
    (h1 : (⟨6, ![4, 8, d, nb, 128, 64]⟩ : Shape).ShapeCasts ⟨5, ![4, 8, d, Q, 64]⟩)
    (h2 : (⟨5, ![4, 8, d, Q, 64]⟩ : Shape).Transposes [0, 1, 3, 2, 4] ⟨5, ![4, 8, Q, d, 64]⟩)
    (h3 : (⟨5, ![4, 8, Q, d, 64]⟩ : Shape).ShapeCasts ⟨4, ![4, 8, 8192, 64]⟩) (b : Fin 4) (h : Fin 8) (s : Fin 8192) (e : Fin 64) :
    shapeCast ⟨4, ![4, 8, 8192, 64]⟩ (transpose ⟨5, ![4, 8, Q, d, 64]⟩ [0, 1, 3, 2, 4] (shapeCast ⟨5, ![4, 8, d, Q, 64]⟩ O h1) h2) h3
      (ix4 b h s e)
      = outAt (q b.val (s.val % d)) (k b.val (s.val % d)) (v b.val (s.val % d)) (s.val / d) (64 * h.val + e.val) := by
  obtain ⟨r, n, i, hr, hi⟩ := place hQ hd s
  rw [order_apply hQ hd O h1 h2 h3 b h s e r n i hr hi, w.out_eq, hr, hi, outAt, column_head]

/-- The log-sum-exps, put back in the order of the sequence. -/
theorem lse_at (hQ : Q = nb * 128) (hd : Q * d = 8192)
    (h1 : (⟨5, ![4, 8, d, nb, 128]⟩ : Shape).ShapeCasts ⟨4, ![4, 8, d, Q]⟩)
    (h2 : (⟨4, ![4, 8, d, Q]⟩ : Shape).Transposes [0, 1, 3, 2] ⟨4, ![4, 8, Q, d]⟩)
    (h3 : (⟨4, ![4, 8, Q, d]⟩ : Shape).ShapeCasts ⟨3, ![4, 8, 8192]⟩) (b : Fin 4) (h : Fin 8) (s : Fin 8192) (e : Fin 64) :
    shapeCast ⟨3, ![4, 8, 8192]⟩ (transpose ⟨4, ![4, 8, Q, d]⟩ [0, 1, 3, 2] (shapeCast ⟨4, ![4, 8, d, Q]⟩ L h1) h2) h3 (ix3 b h s)
      = lseAt (q b.val (s.val % d)) (k b.val (s.val % d)) (s.val / d) (64 * h.val + e.val) := by
  obtain ⟨r, n, i, hr, hi⟩ := place hQ hd s
  rw [order_lse_apply hQ hd L h1 h2 h3 b h s r n i hr hi, w.lse_eq, hr, hi, lseAt, column_head]

end Steps

end Attention
-- ==== Proof.RefD1.lean ====
/-
  The reference's first pattern (dilation 1), step by step.
-/
module

public import proofs.«01_k».proof.Proof.Band
public import proofs.«01_k».proof.Proof.Gen.ReferenceIdeal.Read

@[expose] public section

set_option maxRecDepth 16384

noncomputable section

namespace Cert.ReferenceIdeal

open Idealize.ShloMosaic Idealize.ShloMosaic.TcCoe Idealize.SL.Sem Gen Read Attention

variable (x0 x1 x2 : (⟨S4x8192x512, .bf16⟩ : BufTy).Contents (Elt Ideal))

/-- The pattern's arrays, each computed from the ones before it. -/
theorem steps1 : Steps (d := 1) (nb := 64) (fun b _ n w => at3 x0 b n w) (fun b _ n w => at3 x1 b n w) (fun b _ n w => at3 x2 b n w)
    (val_main_v5 (F := Ideal) x0) (val_main_v11 (F := Ideal) x1) (val_main_v17 (F := Ideal) x2) (val_main_call2_v1 (F := Ideal))
    (val_main_v47 (F := Ideal) x0 x1) (val_main_v52 (F := Ideal) x0 x1) (val_main_v48 (F := Ideal) x0 x1) (val_main_v53 (F := Ideal) x0 x1)
    (val_main_v60 (F := Ideal) x0 x1) (val_main_v57 (F := Ideal) x0 x1 x2) where
  queries b h r n i e := (blocks_apply (d := 1) (nb := 64) (Q := 8192) rfl (val_main_v0 (F := Ideal) x0)
    shapeCasts_S4x1x8192x512_S4x1x64x128x8x64 transposes_S4x1x64x128x8x64_S4x8x1x64x128x64_0_4_1_2_3_5 b h r n i e).trans
    (unit_at x0 shapeCasts_S4x8192x512_S4x1x8192x512 _ _ _ _)
  keys b h r n j e := by
    refine (window_apply (d := 1) (nb := 64) (nb' := 65) (g := fun b _ n w => at3 x1 b n w)
      (fun b h r n i e => (blocks_apply (d := 1) (nb := 64) (Q := 8192) rfl (val_main_v1 (F := Ideal) x1)
        shapeCasts_S4x1x8192x512_S4x1x64x128x8x64 transposes_S4x1x64x128x8x64_S4x8x1x64x128x64_0_4_1_2_3_5 b h r n i e).trans
        (unit_at x1 shapeCasts_S4x8192x512_S4x1x8192x512 _ _ _ _)) (val_main_call0_v0 (F := Ideal)) _ _ _ _ (by decide) b h r n j e).trans ?_
    rw [val_main_call0_v0_apply, val_main_c_apply]
    exact if_congr Iff.rfl rfl pad_zero
  values b h r n j e := by
    refine (window_apply (d := 1) (nb := 64) (nb' := 65) (g := fun b _ n w => at3 x2 b n w)
      (fun b h r n i e => (blocks_apply (d := 1) (nb := 64) (Q := 8192) rfl (val_main_v2 (F := Ideal) x2)
        shapeCasts_S4x1x8192x512_S4x1x64x128x8x64 transposes_S4x1x64x128x8x64_S4x8x1x64x128x64_0_4_1_2_3_5 b h r n i e).trans
        (unit_at x2 shapeCasts_S4x8192x512_S4x1x8192x512 _ _ _ _)) (val_main_call1_v0 (F := Ideal)) _ _ _ _ (by decide) b h r n j e).trans ?_
    rw [val_main_call1_v0_apply, val_main_c_0_apply]
    exact if_congr Iff.rfl rfl pad_zero
  seen b h r n i j := by
    rw [val_main_call2_v1_apply, val_main_v46_apply, val_main_v44_apply, val_main_v43_apply, val_main_v32_apply, val_main_v29_apply, val_main_v31_apply,
      val_main_v27_apply, val_main_v25_apply, val_main_v24_apply, val_main_v20_apply, val_main_v19_apply, val_main_v23_apply, val_main_v26_apply, val_main_v22_apply, val_main_v21_apply,
      val_main_v28_apply, val_main_v30_apply, val_main_v45_apply, val_main_v42_apply, val_main_v40_apply, val_main_v36_apply, val_main_v34_apply, val_main_v33_apply, val_main_v35_apply,
      val_main_v41_apply, val_main_v39_apply, val_main_v38_apply]
    exact seen_bit (n := n) (by omega) i j
  scores b h r n i j := by
    rw [val_main_v47_apply, val_main_v18_apply, val_main_call2_v2_apply, val_main_call2_v0_apply, val_main_cst_apply]
    refine if_congr Iff.rfl (Finset.sum_congr rfl fun e _ => ?_) (by simp [Ideal.ofBits, Ideal.ieee])
    rw [eq_ix6 (lidx_main_v18 (ix6 b h r n i j) e), eq_ix6 (ridx_main_v18 (ix6 b h r n i j) e)]
    rfl
  greatest b h r n i := top_apply _ _ _ (by rw [val_main_cst_6_apply]; simp [Ideal.ofBits, Ideal.ieee]) _ b h r n i
  weights b h r n i j := by
    have h0 : r = 0 := Subsingleton.elim _ _
    subst h0
    rw [val_main_v52_apply, val_main_v51_apply, val_main_v50_apply, val_main_v49_apply,
      eq_ix5 (idx_main_v49 _)]
    rfl
  totals b h r n i := by
    rw [val_main_v53_apply, val_main_cst_7_apply]
    refine (congrArg (· + _) Ideal.ofBits_zero_f32).trans ((zero_add _).trans (Finset.sum_congr rfl fun j _ => ?_))
    rw [eq_ix6 (idx_main_v53 (ix5 b h r n i) j)]
    rfl
  lses b h r n i := by
    have h0 : r = 0 := Subsingleton.elim _ _
    subst h0
    rw [val_main_v60_apply, val_main_v59_apply]
    have hd : val_main_v58 (F := Ideal) x0 x1 (ix5 b h 0 n i) = val_main_v49 (F := Ideal) x0 x1 (ix6 b h 0 n i 0) :=
      drop_apply (d := 1) (nb := 64) (val_main_v49 (F := Ideal) x0 x1) shapeCasts_S4x8x1x64x128x1_S4x8x1x64x128 b h 0 n i
    rw [hd, val_main_v49_apply, eq_ix5 (idx_main_v49 _)]
    rfl
  outs b h r n i e := by
    have h0 : r = 0 := Subsingleton.elim _ _
    subst h0
    rw [val_main_v57_apply, val_main_v56_apply, val_main_v55_apply, val_main_v54_apply, eq_ix5 (idx_main_v55 _)]
    refine congrArg₂ Ideal.div (Finset.sum_congr rfl fun j _ => ?_) rfl
    rw [eq_ix6 (lidx_main_v54 (ix6 b h 0 n i e) j), eq_ix6 (ridx_main_v54 (ix6 b h 0 n i e) j)]
    rfl

/-- Pattern 1's outputs, in the order of the sequence. -/
theorem out1 (b : Fin 4) (h : Fin 8) (s : Fin 8192) (e : Fin 64) : val_main_v63 (F := Ideal) x0 x1 x2 (ix4 b h s e)
    = outAt (fun n w => at3 x0 b n w) (fun n w => at3 x1 b n w) (fun n w => at3 x2 b n w)
        (s.val / 1) (64 * h.val + e.val) :=
  (steps1 x0 x1 x2).out_at rfl rfl shapeCasts_S4x8x1x64x128x64_S4x8x1x8192x64 transposes_S4x8x1x8192x64_S4x8x8192x1x64_0_1_3_2_4
    shapeCasts_S4x8x8192x1x64_S4x8x8192x64 b h s e

/-- Pattern 1's log-sum-exps, in the order of the sequence. -/
theorem lse1 (b : Fin 4) (h : Fin 8) (s : Fin 8192) (e : Fin 64) : val_main_v66 (F := Ideal) x0 x1 (ix3 b h s)
    = lseAt (fun n w => at3 x0 b n w) (fun n w => at3 x1 b n w) (s.val / 1) (64 * h.val + e.val) :=
  (steps1 x0 x1 x0).lse_at rfl rfl shapeCasts_S4x8x1x64x128_S4x8x1x8192 transposes_S4x8x1x8192_S4x8x8192x1_0_1_3_2
    shapeCasts_S4x8x8192x1_S4x8x8192 b h s e

end Cert.ReferenceIdeal
-- ==== Proof.RefD4.lean ====
/-
  The reference's second pattern (dilation 4), step by step.
-/
module

public import proofs.«01_k».proof.Proof.Band
public import proofs.«01_k».proof.Proof.Gen.ReferenceIdeal.Read

@[expose] public section

set_option maxRecDepth 16384

noncomputable section

namespace Cert.ReferenceIdeal

open Idealize.ShloMosaic Idealize.ShloMosaic.TcCoe Idealize.SL.Sem Gen Read Attention

variable (x3 x4 x5 : (⟨S4x4x2048x512, .bf16⟩ : BufTy).Contents (Elt Ideal))

/-- The pattern's arrays, each computed from the ones before it. -/
theorem steps4 : Steps (d := 4) (nb := 16) (fun b r n w => at4 x3 b r n w) (fun b r n w => at4 x4 b r n w) (fun b r n w => at4 x5 b r n w)
    (val_main_v69 (F := Ideal) x3) (val_main_v75 (F := Ideal) x4) (val_main_v81 (F := Ideal) x5) (val_main_call5_v1 (F := Ideal))
    (val_main_v111 (F := Ideal) x3 x4) (val_main_v116 (F := Ideal) x3 x4) (val_main_v112 (F := Ideal) x3 x4) (val_main_v117 (F := Ideal) x3 x4)
    (val_main_v124 (F := Ideal) x3 x4) (val_main_v121 (F := Ideal) x3 x4 x5) where
  queries b h r n i e := blocks_apply (d := 4) (nb := 16) (Q := 2048) rfl x3 shapeCasts_S4x4x2048x512_S4x4x16x128x8x64 _ b h r n i e
  keys b h r n j e := by
    refine (window_apply (d := 4) (nb := 16) (nb' := 17) (g := fun b r n w => at4 x4 b r n w)
      (blocks_apply (d := 4) (nb := 16) (Q := 2048) rfl x4 shapeCasts_S4x4x2048x512_S4x4x16x128x8x64
        transposes_S4x4x16x128x8x64_S4x8x4x16x128x64_0_4_1_2_3_5) (val_main_call3_v0 (F := Ideal)) _ _ _ _ (by decide) b h r n j e).trans ?_
    rw [val_main_call3_v0_apply, val_main_c_8_apply]
    exact if_congr Iff.rfl rfl pad_zero
  values b h r n j e := by
    refine (window_apply (d := 4) (nb := 16) (nb' := 17) (g := fun b r n w => at4 x5 b r n w)
      (blocks_apply (d := 4) (nb := 16) (Q := 2048) rfl x5 shapeCasts_S4x4x2048x512_S4x4x16x128x8x64
        transposes_S4x4x16x128x8x64_S4x8x4x16x128x64_0_4_1_2_3_5) (val_main_call4_v0 (F := Ideal)) _ _ _ _ (by decide) b h r n j e).trans ?_
    rw [val_main_call4_v0_apply, val_main_c_9_apply]
    exact if_congr Iff.rfl rfl pad_zero
  seen b h r n i j := by
    rw [val_main_call5_v1_apply, val_main_v110_apply, val_main_v108_apply, val_main_v107_apply, val_main_v96_apply, val_main_v93_apply, val_main_v95_apply,
      val_main_v91_apply, val_main_v89_apply, val_main_v88_apply, val_main_v84_apply, val_main_v83_apply, val_main_v87_apply, val_main_v90_apply, val_main_v86_apply, val_main_v85_apply,
      val_main_v92_apply, val_main_v94_apply, val_main_v109_apply, val_main_v106_apply, val_main_v104_apply, val_main_v100_apply, val_main_v98_apply, val_main_v97_apply, val_main_v99_apply,
      val_main_v105_apply, val_main_v103_apply, val_main_v102_apply]
    exact seen_bit (n := n) (by omega) i j
  scores b h r n i j := by
    rw [val_main_v111_apply, val_main_v82_apply, val_main_call5_v2_apply, val_main_call5_v0_apply, val_main_cst_15_apply]
    refine if_congr Iff.rfl (Finset.sum_congr rfl fun e _ => ?_) (by simp [Ideal.ofBits, Ideal.ieee])
    rw [eq_ix6 (lidx_main_v82 (ix6 b h r n i j) e), eq_ix6 (ridx_main_v82 (ix6 b h r n i j) e)]
    rfl
  greatest b h r n i := top_apply _ _ _ (by rw [val_main_cst_16_apply]; simp [Ideal.ofBits, Ideal.ieee]) _ b h r n i
  weights b h r n i j := by
    rw [val_main_v116_apply, val_main_v115_apply, val_main_v114_apply, val_main_v113_apply,
      eq_ix5 (idx_main_v113 _)]
    rfl
  totals b h r n i := by
    rw [val_main_v117_apply, val_main_cst_17_apply]
    refine (congrArg (· + _) Ideal.ofBits_zero_f32).trans ((zero_add _).trans (Finset.sum_congr rfl fun j _ => ?_))
    rw [eq_ix6 (idx_main_v117 (ix5 b h r n i) j)]
    rfl
  lses b h r n i := by
    rw [val_main_v124_apply, val_main_v123_apply]
    have hd : val_main_v122 (F := Ideal) x3 x4 (ix5 b h r n i) = val_main_v113 (F := Ideal) x3 x4 (ix6 b h r n i 0) :=
      drop_apply (d := 4) (nb := 16) (val_main_v113 (F := Ideal) x3 x4) shapeCasts_S4x8x4x16x128x1_S4x8x4x16x128 b h r n i
    rw [hd, val_main_v113_apply, eq_ix5 (idx_main_v113 _)]
    rfl
  outs b h r n i e := by
    rw [val_main_v121_apply, val_main_v120_apply, val_main_v119_apply, val_main_v118_apply, eq_ix5 (idx_main_v119 _)]
    refine congrArg₂ Ideal.div (Finset.sum_congr rfl fun j _ => ?_) rfl
    rw [eq_ix6 (lidx_main_v118 (ix6 b h r n i e) j), eq_ix6 (ridx_main_v118 (ix6 b h r n i e) j)]
    rfl

/-- Pattern 4's outputs, in the order of the sequence. -/
theorem out4 (b : Fin 4) (h : Fin 8) (s : Fin 8192) (e : Fin 64) : val_main_v127 (F := Ideal) x3 x4 x5 (ix4 b h s e)
    = outAt (fun n w => at4 x3 b (s.val % 4) n w) (fun n w => at4 x4 b (s.val % 4) n w) (fun n w => at4 x5 b (s.val % 4) n w)
        (s.val / 4) (64 * h.val + e.val) :=
  (steps4 x3 x4 x5).out_at rfl rfl shapeCasts_S4x8x4x16x128x64_S4x8x4x2048x64 transposes_S4x8x4x2048x64_S4x8x2048x4x64_0_1_3_2_4
    shapeCasts_S4x8x2048x4x64_S4x8x8192x64 b h s e

/-- Pattern 4's log-sum-exps, in the order of the sequence. -/
theorem lse4 (b : Fin 4) (h : Fin 8) (s : Fin 8192) (e : Fin 64) : val_main_v130 (F := Ideal) x3 x4 (ix3 b h s)
    = lseAt (fun n w => at4 x3 b (s.val % 4) n w) (fun n w => at4 x4 b (s.val % 4) n w) (s.val / 4) (64 * h.val + e.val) :=
  (steps4 x3 x4 x3).lse_at rfl rfl shapeCasts_S4x8x4x16x128_S4x8x4x2048 transposes_S4x8x4x2048_S4x8x2048x4_0_1_3_2
    shapeCasts_S4x8x2048x4_S4x8x8192 b h s e

end Cert.ReferenceIdeal
-- ==== Proof.RefD16.lean ====
/-
  The reference's third pattern (dilation 16), step by step.
-/
module

public import proofs.«01_k».proof.Proof.Band
public import proofs.«01_k».proof.Proof.Gen.ReferenceIdeal.Read

@[expose] public section

set_option maxRecDepth 16384

noncomputable section

namespace Cert.ReferenceIdeal

open Idealize.ShloMosaic Idealize.ShloMosaic.TcCoe Idealize.SL.Sem Gen Read Attention

variable (x6 x7 x8 : (⟨S4x16x512x512, .bf16⟩ : BufTy).Contents (Elt Ideal))

/-- The pattern's arrays, each computed from the ones before it. -/
theorem steps16 : Steps (d := 16) (nb := 4) (fun b r n w => at4 x6 b r n w) (fun b r n w => at4 x7 b r n w) (fun b r n w => at4 x8 b r n w)
    (val_main_v133 (F := Ideal) x6) (val_main_v139 (F := Ideal) x7) (val_main_v145 (F := Ideal) x8) (val_main_call8_v1 (F := Ideal))
    (val_main_v175 (F := Ideal) x6 x7) (val_main_v180 (F := Ideal) x6 x7) (val_main_v176 (F := Ideal) x6 x7) (val_main_v181 (F := Ideal) x6 x7)
    (val_main_v188 (F := Ideal) x6 x7) (val_main_v185 (F := Ideal) x6 x7 x8) where
  queries b h r n i e := blocks_apply (d := 16) (nb := 4) (Q := 512) rfl x6 shapeCasts_S4x16x512x512_S4x16x4x128x8x64 _ b h r n i e
  keys b h r n j e := by
    refine (window_apply (d := 16) (nb := 4) (nb' := 5) (g := fun b r n w => at4 x7 b r n w)
      (blocks_apply (d := 16) (nb := 4) (Q := 512) rfl x7 shapeCasts_S4x16x512x512_S4x16x4x128x8x64
        transposes_S4x16x4x128x8x64_S4x8x16x4x128x64_0_4_1_2_3_5) (val_main_call6_v0 (F := Ideal)) _ _ _ _ (by decide) b h r n j e).trans ?_
    rw [val_main_call6_v0_apply, val_main_c_18_apply]
    exact if_congr Iff.rfl rfl pad_zero
  values b h r n j e := by
    refine (window_apply (d := 16) (nb := 4) (nb' := 5) (g := fun b r n w => at4 x8 b r n w)
      (blocks_apply (d := 16) (nb := 4) (Q := 512) rfl x8 shapeCasts_S4x16x512x512_S4x16x4x128x8x64
        transposes_S4x16x4x128x8x64_S4x8x16x4x128x64_0_4_1_2_3_5) (val_main_call7_v0 (F := Ideal)) _ _ _ _ (by decide) b h r n j e).trans ?_
    rw [val_main_call7_v0_apply, val_main_c_19_apply]
    exact if_congr Iff.rfl rfl pad_zero
  seen b h r n i j := by
    rw [val_main_call8_v1_apply, val_main_v174_apply, val_main_v172_apply, val_main_v171_apply, val_main_v160_apply, val_main_v157_apply, val_main_v159_apply,
      val_main_v155_apply, val_main_v153_apply, val_main_v152_apply, val_main_v148_apply, val_main_v147_apply, val_main_v151_apply, val_main_v154_apply, val_main_v150_apply, val_main_v149_apply,
      val_main_v156_apply, val_main_v158_apply, val_main_v173_apply, val_main_v170_apply, val_main_v168_apply, val_main_v164_apply, val_main_v162_apply, val_main_v161_apply, val_main_v163_apply,
      val_main_v169_apply, val_main_v167_apply, val_main_v166_apply]
    exact seen_bit (n := n) (by omega) i j
  scores b h r n i j := by
    rw [val_main_v175_apply, val_main_v146_apply, val_main_call8_v2_apply, val_main_call8_v0_apply, val_main_cst_25_apply]
    refine if_congr Iff.rfl (Finset.sum_congr rfl fun e _ => ?_) (by simp [Ideal.ofBits, Ideal.ieee])
    rw [eq_ix6 (lidx_main_v146 (ix6 b h r n i j) e), eq_ix6 (ridx_main_v146 (ix6 b h r n i j) e)]
    rfl
  greatest b h r n i := top_apply _ _ _ (by rw [val_main_cst_26_apply]; simp [Ideal.ofBits, Ideal.ieee]) _ b h r n i
  weights b h r n i j := by
    rw [val_main_v180_apply, val_main_v179_apply, val_main_v178_apply, val_main_v177_apply,
      eq_ix5 (idx_main_v177 _)]
    rfl
  totals b h r n i := by
    rw [val_main_v181_apply, val_main_cst_27_apply]
    refine (congrArg (· + _) Ideal.ofBits_zero_f32).trans ((zero_add _).trans (Finset.sum_congr rfl fun j _ => ?_))
    rw [eq_ix6 (idx_main_v181 (ix5 b h r n i) j)]
    rfl
  lses b h r n i := by
    rw [val_main_v188_apply, val_main_v187_apply]
    have hd : val_main_v186 (F := Ideal) x6 x7 (ix5 b h r n i) = val_main_v177 (F := Ideal) x6 x7 (ix6 b h r n i 0) :=
      drop_apply (d := 16) (nb := 4) (val_main_v177 (F := Ideal) x6 x7) shapeCasts_S4x8x16x4x128x1_S4x8x16x4x128 b h r n i
    rw [hd, val_main_v177_apply, eq_ix5 (idx_main_v177 _)]
    rfl
  outs b h r n i e := by
    rw [val_main_v185_apply, val_main_v184_apply, val_main_v183_apply, val_main_v182_apply, eq_ix5 (idx_main_v183 _)]
    refine congrArg₂ Ideal.div (Finset.sum_congr rfl fun j _ => ?_) rfl
    rw [eq_ix6 (lidx_main_v182 (ix6 b h r n i e) j), eq_ix6 (ridx_main_v182 (ix6 b h r n i e) j)]
    rfl

/-- Pattern 16's outputs, in the order of the sequence. -/
theorem out16 (b : Fin 4) (h : Fin 8) (s : Fin 8192) (e : Fin 64) : val_main_v191 (F := Ideal) x6 x7 x8 (ix4 b h s e)
    = outAt (fun n w => at4 x6 b (s.val % 16) n w) (fun n w => at4 x7 b (s.val % 16) n w) (fun n w => at4 x8 b (s.val % 16) n w)
        (s.val / 16) (64 * h.val + e.val) :=
  (steps16 x6 x7 x8).out_at rfl rfl shapeCasts_S4x8x16x4x128x64_S4x8x16x512x64 transposes_S4x8x16x512x64_S4x8x512x16x64_0_1_3_2_4
    shapeCasts_S4x8x512x16x64_S4x8x8192x64 b h s e

/-- Pattern 16's log-sum-exps, in the order of the sequence. -/
theorem lse16 (b : Fin 4) (h : Fin 8) (s : Fin 8192) (e : Fin 64) : val_main_v194 (F := Ideal) x6 x7 (ix3 b h s)
    = lseAt (fun n w => at4 x6 b (s.val % 16) n w) (fun n w => at4 x7 b (s.val % 16) n w) (s.val / 16) (64 * h.val + e.val) :=
  (steps16 x6 x7 x6).lse_at rfl rfl shapeCasts_S4x8x16x4x128_S4x8x16x512 transposes_S4x8x16x512_S4x8x512x16_0_1_3_2
    shapeCasts_S4x8x512x16_S4x8x8192 b h s e

end Cert.ReferenceIdeal
-- ==== Proof.Merge.lean ====
/-
  The reference's merge of the three patterns: its result is the attention of the nine arrays.
-/
module

public import proofs.«01_k».proof.Proof.Stack
public import proofs.«01_k».proof.Proof.RefD1
public import proofs.«01_k».proof.Proof.RefD4
public import proofs.«01_k».proof.Proof.RefD16

@[expose] public section

set_option maxRecDepth 16384

noncomputable section

namespace Attention

open Idealize.ShloMosaic

section

variable (q1 k1 v1 : (⟨3, ![4, 8192, 512]⟩ : Shape).Idx → EReal) (q4 k4 v4 : (⟨4, ![4, 4, 2048, 512]⟩ : Shape).Idx → EReal)
  (q16 k16 v16 : (⟨4, ![4, 16, 512, 512]⟩ : Shape).Idx → EReal) (b s w : ℕ)

/-! The three patterns' log-sum-exps and outputs, over the arguments. -/

theorem ofArgs_lse0 : (ofArgs q1 k1 v1 q4 k4 v4 q16 k16 v16).lse 0 b s w
    = lseAt (fun n w => at3 q1 b n w) (fun n w => at3 k1 b n w) (s / 1) w := rfl

theorem ofArgs_out0 : (ofArgs q1 k1 v1 q4 k4 v4 q16 k16 v16).out 0 b s w
    = outAt (fun n w => at3 q1 b n w) (fun n w => at3 k1 b n w) (fun n w => at3 v1 b n w) (s / 1) w := rfl

theorem ofArgs_lse1 : (ofArgs q1 k1 v1 q4 k4 v4 q16 k16 v16).lse 1 b s w
    = lseAt (fun n w => at4 q4 b (s % 4) n w) (fun n w => at4 k4 b (s % 4) n w) (s / 4) w := rfl

theorem ofArgs_out1 : (ofArgs q1 k1 v1 q4 k4 v4 q16 k16 v16).out 1 b s w
    = outAt (fun n w => at4 q4 b (s % 4) n w) (fun n w => at4 k4 b (s % 4) n w) (fun n w => at4 v4 b (s % 4) n w) (s / 4) w := rfl

theorem ofArgs_lse2 : (ofArgs q1 k1 v1 q4 k4 v4 q16 k16 v16).lse 2 b s w
    = lseAt (fun n w => at4 q16 b (s % 16) n w) (fun n w => at4 k16 b (s % 16) n w) (s / 16) w := rfl

theorem ofArgs_out2 : (ofArgs q1 k1 v1 q4 k4 v4 q16 k16 v16).out 2 b s w
    = outAt (fun n w => at4 q16 b (s % 16) n w) (fun n w => at4 k16 b (s % 16) n w) (fun n w => at4 v16 b (s % 16) n w) (s / 16) w := rfl

end

end Attention

namespace Cert.ReferenceIdeal

open Idealize.ShloMosaic Idealize.ShloMosaic.TcCoe Idealize.SL.Sem Gen Read Attention

variable (x0 x1 x2 : (⟨S4x8192x512, .bf16⟩ : BufTy).Contents (Elt Ideal)) (x3 x4 x5 : (⟨S4x4x2048x512, .bf16⟩ : BufTy).Contents (Elt Ideal))
  (x6 x7 x8 : (⟨S4x16x512x512, .bf16⟩ : BufTy).Contents (Elt Ideal))

/-- The stacked log-sum-exps. -/
theorem lses_eq (p : Fin 3) (b : Fin 4) (h : Fin 8) (s : Fin 8192) (e : Fin 64) :
    val_main_v198 (F := Ideal) x0 x1 x3 x4 x6 x7 (ix4 p b h s) = (ofArgs x0 x1 x2 x3 x4 x5 x6 x7 x8).lse p b s (64 * h.val + e.val) := by
  have h0 : val_main_v195 (F := Ideal) x0 x1 (ix4 0 b h s) = (ofArgs x0 x1 x2 x3 x4 x5 x6 x7 x8).lse 0 b s (64 * h.val + e.val) := by
    rw [val_main_v195_apply, eq_ix3 (idx_main_v195 _)]
    exact (lse1 x0 x1 b h s e).trans (ofArgs_lse0 ..).symm
  have h1 : val_main_v196 (F := Ideal) x3 x4 (ix4 0 b h s) = (ofArgs x0 x1 x2 x3 x4 x5 x6 x7 x8).lse 1 b s (64 * h.val + e.val) := by
    rw [val_main_v196_apply, eq_ix3 (idx_main_v196 _)]
    exact (lse4 x3 x4 b h s e).trans (ofArgs_lse1 ..).symm
  have h2 : val_main_v197 (F := Ideal) x6 x7 (ix4 0 b h s) = (ofArgs x0 x1 x2 x3 x4 x5 x6 x7 x8).lse 2 b s (64 * h.val + e.val) := by
    rw [val_main_v197_apply, eq_ix3 (idx_main_v197 _)]
    exact (lse16 x6 x7 b h s e).trans (ofArgs_lse2 ..).symm
  exact stack_apply (val_main_v195 (F := Ideal) x0 x1) (val_main_v196 (F := Ideal) x3 x4) (val_main_v197 (F := Ideal) x6 x7)
    concatenates_S1x4x8x8192_S1x4x8x8192_S1x4x8x8192_S3x4x8x8192_d0 p b h s
    (fun p => (ofArgs x0 x1 x2 x3 x4 x5 x6 x7 x8).lse p b s (64 * h.val + e.val)) h0 h1 h2

/-- The stacked outputs. -/
theorem outs_eq (p : Fin 3) (b : Fin 4) (h : Fin 8) (s : Fin 8192) (e : Fin 64) :
    val_main_v213 (F := Ideal) x0 x1 x2 x3 x4 x5 x6 x7 x8 (ix5 p b h s e) = (ofArgs x0 x1 x2 x3 x4 x5 x6 x7 x8).out p b s (64 * h.val + e.val) := by
  have h0 : val_main_v210 (F := Ideal) x0 x1 x2 (ix5 0 b h s e) = (ofArgs x0 x1 x2 x3 x4 x5 x6 x7 x8).out 0 b s (64 * h.val + e.val) := by
    rw [val_main_v210_apply, eq_ix4 (idx_main_v210 _)]
    exact (out1 x0 x1 x2 b h s e).trans (ofArgs_out0 ..).symm
  have h1 : val_main_v211 (F := Ideal) x3 x4 x5 (ix5 0 b h s e) = (ofArgs x0 x1 x2 x3 x4 x5 x6 x7 x8).out 1 b s (64 * h.val + e.val) := by
    rw [val_main_v211_apply, eq_ix4 (idx_main_v211 _)]
    exact (out4 x3 x4 x5 b h s e).trans (ofArgs_out1 ..).symm
  have h2 : val_main_v212 (F := Ideal) x6 x7 x8 (ix5 0 b h s e) = (ofArgs x0 x1 x2 x3 x4 x5 x6 x7 x8).out 2 b s (64 * h.val + e.val) := by
    rw [val_main_v212_apply, eq_ix4 (idx_main_v212 _)]
    exact (out16 x6 x7 x8 b h s e).trans (ofArgs_out2 ..).symm
  exact stack_out_apply (val_main_v210 (F := Ideal) x0 x1 x2) (val_main_v211 (F := Ideal) x3 x4 x5) (val_main_v212 (F := Ideal) x6 x7 x8)
    concatenates_S1x4x8x8192x64_S1x4x8x8192x64_S1x4x8x8192x64_S3x4x8x8192x64_d0 p b h s e
    (fun p => (ofArgs x0 x1 x2 x3 x4 x5 x6 x7 x8).out p b s (64 * h.val + e.val)) h0 h1 h2

/-- The greatest log-sum-exp. -/
theorem peak_eq (b : Fin 4) (h : Fin 8) (s : Fin 8192) (e : Fin 64) :
    val_main_v201 (F := Ideal) x0 x1 x3 x4 x6 x7 (ix3 b h s) = (ofArgs x0 x1 x2 x3 x4 x5 x6 x7 x8).peak b s (64 * h.val + e.val) := by
  rw [val_main_v201_apply, val_main_v200_apply, val_main_cst_29_apply]
  have ht := top_first_apply (val_main_v198 (F := Ideal) x0 x1 x3 x4 x6 x7) (val_main_cst_28 (F := Ideal)) h_S_
    (by rw [val_main_cst_28_apply]; simp [Ideal.ofBits, Ideal.ieee]) reducesTo_S3x4x8x8192_S4x8x8192_d0 b h s
  rw [show val_main_v199 (F := Ideal) x0 x1 x3 x4 x6 x7 (ix3 b h s) = _ from ht]
  simp only [lses_eq x0 x1 x2 x3 x4 x5 x6 x7 x8 _ b h s e]
  have hb : (FloatOps.ofBits (F := Ideal) FTy.f32 0xFF800000#32 : EReal) = ⊥ := by simp [Ideal.ofBits, Ideal.ieee]
  refine (congrArg (fun t : EReal => max t _) hb).trans ?_
  exact max_eq_right bot_le

/-- A pattern's weight before the division. -/
theorem raised_eq (p : Fin 3) (b : Fin 4) (h : Fin 8) (s : Fin 8192) (e : Fin 64) :
    val_main_v205 (F := Ideal) x0 x1 x3 x4 x6 x7 (ix4 p b h s)
      = Ideal.exp ((ofArgs x0 x1 x2 x3 x4 x5 x6 x7 x8).lse p b s (64 * h.val + e.val)
          - (ofArgs x0 x1 x2 x3 x4 x5 x6 x7 x8).peak b s (64 * h.val + e.val)) := by
  rw [val_main_v205_apply, val_main_v204_apply, val_main_v203_apply, val_main_v202_apply, eq_ix3 (idx_main_v202 _),
    ← lses_eq, ← peak_eq]
  rfl

/-- The reference's result is the attention of its nine arguments. -/
theorem result_at (b : Fin 4) (h : Fin 8) (s : Fin 8192) (e : Fin 64) :
    val_main_v214 (F := Ideal) x0 x1 x2 x3 x4 x5 x6 x7 x8 (ix4 b h s e) = (ofArgs x0 x1 x2 x3 x4 x5 x6 x7 x8).attn b s (64 * h.val + e.val) := by
  rw [val_main_v214_apply]
  refine Finset.sum_congr rfl fun p _ => ?_
  rw [eq_ix4 (lidx_main_v214 _ p), eq_ix5 (ridx_main_v214 _ p)]
  refine congrArg₂ (· * ·) ?_ (outs_eq x0 x1 x2 x3 x4 x5 x6 x7 x8 p b h s e)
  rw [val_main_v209_apply, val_main_v208_apply, val_main_v207_apply, eq_ix3 (idx_main_v207 _)]
  refine congrArg₂ Ideal.div (raised_eq x0 x1 x2 x3 x4 x5 x6 x7 x8 p b h s e) ?_
  refine (val_main_v206_apply x0 x1 x3 x4 x6 x7 _).trans ?_
  rw [val_main_cst_30_apply]
  refine (congrArg (· + _) Ideal.ofBits_zero_f32).trans ((zero_add _).trans (Finset.sum_congr rfl fun q _ => ?_))
  rw [eq_ix4 (idx_main_v206 _ q)]
  exact raised_eq x0 x1 x2 x3 x4 x5 x6 x7 x8 q b h s e

/-- The same over the result's own axes. -/
theorem result_eq : val_main_v217 (F := Ideal) x0 x1 x2 x3 x4 x5 x6 x7 x8
    = fun y : S4x8192x512.Idx => (ofArgs x0 x1 x2 x3 x4 x5 x6 x7 x8).attn (y 0).val (y 1).val (y 2).val := by
  funext y
  have hb : (y 0).val < 4 := (y 0).isLt
  have hs : (y 1).val < 8192 := (y 1).isLt
  have hw : (y 2).val < 512 := (y 2).isLt
  have hi : idx_main_v215 (idx_main_v216 y)
      = ix4 (⟨(y 0).val, hb⟩ : Fin 4) (⟨(y 2).val / 64, by omega⟩ : Fin 8) (⟨(y 1).val, hs⟩ : Fin 8192) (⟨(y 2).val % 64, by omega⟩ : Fin 64) := by
    funext a
    refine Fin.ext ?_
    match a with
    | ⟨0, _⟩ => change (((y 0).val * 8192 + (y 1).val) * 512 + (y 2).val) / 4194304 = (y 0).val; omega
    | ⟨1, _⟩ => change (((y 0).val * 8192 + (y 1).val) * 512 + (y 2).val) / 64 % 8 = (y 2).val / 64; omega
    | ⟨2, _⟩ => change (((y 0).val * 8192 + (y 1).val) * 512 + (y 2).val) / 512 % 8192 = (y 1).val; omega
    | ⟨3, _⟩ => change (((y 0).val * 8192 + (y 1).val) * 512 + (y 2).val) % 64 = (y 2).val % 64; omega
  have hc : val_main_v217 (F := Ideal) x0 x1 x2 x3 x4 x5 x6 x7 x8 y = val_main_v216 (F := Ideal) x0 x1 x2 x3 x4 x5 x6 x7 x8 y :=
    val_main_v217_apply x0 x1 x2 x3 x4 x5 x6 x7 x8 y
  rw [hc, val_main_v216_apply, val_main_v215_apply, hi, result_at]
  exact congrArg ((ofArgs x0 x1 x2 x3 x4 x5 x6 x7 x8).attn (y 0).val (y 1).val) (Nat.div_add_mod (y 2).val 64)

end Cert.ReferenceIdeal
-- ==== Proof.Precondition.lean ====
/-
  What the precondition says: every query and every key is a real number.
-/
module

public import proofs.«01_k».proof.Defs
public import proofs.«01_k».proof.Proof.Blocks

@[expose] public section

set_option maxRecDepth 16384

noncomputable section

namespace Cert.KernelIdeal

open Idealize.ShloMosaic Idealize.ShloMosaic.TcCoe Idealize.SL.Sem Attention

/-- A number whose size is below infinity is a real number. -/
theorem real_of_below (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have hl : max x (-x) < ⊤ := by
    by_contra hn
    exact absurd (show BitVec.ofBool (decide (max x (-x) < ⊤)) = 1#1 from h) (by rw [decide_eq_false hn]; decide)
  induction x with
  | bot => exact absurd hl (by simp)
  | coe r => exact ⟨r, rfl⟩
  | top => exact absurd hl (by simp)

/-- The predicate's side conditions. -/
instance preFacts : Cert.Pre_finite_queries_and_keys.Facts := ⟨by decide, by decide, by decide, by decide⟩

/-- Under the precondition the queries and keys are finite. -/
theorem finite_of_pre (m : (ℓ : Loc nD τ sig) → Buf (Elt Ideal) ℓ) (h : Cert.Pre_KernelIdeal_finite_queries_and_keys m) (c : Dev nD) :
    (arrays m c).FiniteQK := by
  obtain ⟨h0, h1, h2, h3, h4, h5⟩ := h c
  exact ofArgs_finite (fun i => real_of_below _ (congrFun h0 i)) (fun i => real_of_below _ (congrFun h1 i)) (fun i => real_of_below _ (congrFun h2 i))
    (fun i => real_of_below _ (congrFun h3 i)) (fun i => real_of_below _ (congrFun h4 i)) (fun i => real_of_below _ (congrFun h5 i))

end Cert.KernelIdeal
-- ==== Proof.TailSpec.lean ====
/-
  The layer's tail as a function of one row: the two mixers' outputs projected and added to the scaled input, layer
  norm, the gated feed-forward part added to the scaled result, layer norm.
-/
module

public import Idealize.ShloMosaic.Lib.Pointwise

@[expose] public section

noncomputable section

namespace LayerTail

open Idealize.ShloMosaic

/-- The factor of a residual, the layer norm's epsilon and the width of a row, as the programs write them. -/
abbrev scale : EReal := Ideal.ofBits .f32 0x3F9837F0#32
abbrev eps : EReal := Ideal.ofBits .f32 0x3727C5AC#32
abbrev width : EReal := Ideal.ofBits .f32 0x44800000#32

/-- The mean of a row. -/
def mean (x : Fin 1024 → EReal) : EReal := Ideal.div (∑ k, x k) width

/-- A row's layer norm. -/
def layerNorm (g b x : Fin 1024 → EReal) (j : Fin 1024) : EReal :=
  (x j - mean x) * Ideal.rsqrt (mean (fun k => (x k - mean x) * (x k - mean x)) + eps) * g j + b j

/-- The projection of a row of the attention's output and of the other mixer's: the weight's upper and lower halves. -/
def project (w : Fin 1024 → Fin 1024 → EReal) (p q : Fin 512 → EReal) (j : Fin 1024) : EReal :=
  ∑ k, p k * w (Fin.castAdd 512 k) j + ∑ k, q k * w (Fin.natAdd 512 k) j

/-- A row of hidden units: the gate through silu, times the other projection. -/
def units (wg wu : Fin 1024 → Fin 2816 → EReal) (x : Fin 1024 → EReal) (k : Fin 2816) : EReal :=
  (∑ i, x i * wg i k) * Ideal.logistic (∑ i, x i * wg i k) * ∑ i, x i * wu i k

/-- The feed-forward part of a row, added to the row. -/
def forward (wg wu : Fin 1024 → Fin 2816 → EReal) (wd : Fin 2816 → Fin 1024 → EReal) (x : Fin 1024 → EReal) (j : Fin 1024) : EReal :=
  scale * x j + ∑ k, units wg wu x k * wd k j

/-- What the tail makes of one row. -/
def tail (w : Fin 1024 → Fin 1024 → EReal) (g b : Fin 1024 → EReal) (wg wu : Fin 1024 → Fin 2816 → EReal)
    (wd : Fin 2816 → Fin 1024 → EReal) (g' b' : Fin 1024 → EReal) (p q : Fin 512 → EReal) (x : Fin 1024 → EReal) : Fin 1024 → EReal :=
  layerNorm g' b' (forward wg wu wd (layerNorm g b fun j => scale * x j + project w p q j))

/-- The projection as one sum over the two outputs side by side. -/
theorem project_eq (w : Fin 1024 → Fin 1024 → EReal) (p q : Fin 512 → EReal) (j : Fin 1024) :
    project w p q j = ∑ k : Fin 1024, (Fin.append p q k : EReal) * w k j := by
  refine ((Fin.sum_univ_add (a := 512) (b := 512) fun k => (Fin.append p q k : EReal) * w k j).trans ?_).symm
  simp only [Fin.append_left, Fin.append_right, project]

/-- The tail over arrays: row by row. -/
def ofArgs (p q : (⟨2, ![32768, 512]⟩ : Shape).Idx → EReal) (x : (⟨2, ![32768, 1024]⟩ : Shape).Idx → EReal)
    (w : (⟨2, ![1024, 1024]⟩ : Shape).Idx → EReal) (g b : (⟨1, ![1024]⟩ : Shape).Idx → EReal)
    (wg wu : (⟨2, ![1024, 2816]⟩ : Shape).Idx → EReal) (wd : (⟨2, ![2816, 1024]⟩ : Shape).Idx → EReal)
    (g' b' : (⟨1, ![1024]⟩ : Shape).Idx → EReal) (n : Fin 32768) : Fin 1024 → EReal :=
  tail (fun i j => w (ix2 i j)) (fun j => g (ix1 j)) (fun j => b (ix1 j)) (fun i j => wg (ix2 i j)) (fun i j => wu (ix2 i j))
    (fun i j => wd (ix2 i j)) (fun j => g' (ix1 j)) (fun j => b' (ix1 j)) (fun k => p (ix2 n k)) (fun k => q (ix2 n k))
    (fun j => x (ix2 n j))

end LayerTail
-- ==== Proof.TailBody.lean ====
/-
  The tail kernel's body, row by row: its two payloads are the tail's two halves of each row of the block.
-/
module

public import proofs.«01_k».proof.Proof.Gen.Kernel2Ideal.Skeleton
public import proofs.«01_k».proof.Proof.TailSpec

@[expose] public section

set_option maxRecDepth 16384

noncomputable section

namespace Cert.Kernel2Ideal

open Idealize.ShloMosaic Idealize.SL.Sem Gen LayerTail

/-- Each row's mean, as a column. -/
def bodyMean (x : FVec Ideal S512x1024 .f32) : FVec Ideal S512x1 .f32 :=
  divf (shapeCast S512x1 (multiReduction .add [1] S512 x 0x00000000#32 reduces_S512x1024_S512 (.inl rfl) rfl) shapeCasts_S512_S512x1)
    (broadcast S512x1 (Scalar.ofBits .f32 0x44800000#32))

/-- Each row less its mean. -/
def bodyCentred (x : FVec Ideal S512x1024 .f32) : FVec Ideal S512x1024 .f32 :=
  subf x (broadcastTo S512x1024 (bodyMean x) broadcasts_S512x1_S512x1024)

/-- The layer norm of each row. -/
def bodyNorm (x : FVec Ideal S512x1024 .f32) (g b : FVec Ideal S1x1024 .f32) : FVec Ideal S512x1024 .f32 :=
  addf (mulf (mulf (bodyCentred x)
      (broadcastTo S512x1024 (rsqrt (addf (bodyMean (mulf (bodyCentred x) (bodyCentred x))) (broadcast S512x1 (Scalar.ofBits .f32 0x3727C5AC#32))))
        broadcasts_S512x1_S512x1024))
      (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

theorem bodyMean_apply (x : FVec Ideal S512x1024 .f32) (n : Fin 512) : bodyMean x (ix2 n 0) = mean fun k => x (ix2 n k) := by
  pointwise [bodyMean, mean]

theorem bodyCentred_apply (x : FVec Ideal S512x1024 .f32) (n : Fin 512) (j : Fin 1024) :
    bodyCentred x (ix2 n j) = x (ix2 n j) - mean fun k => x (ix2 n k) := by
  rw [← bodyMean_apply]
  pointwise [bodyCentred]

theorem bodyNorm_apply (x : FVec Ideal S512x1024 .f32) (g b : FVec Ideal S1x1024 .f32) (n : Fin 512) (j : Fin 1024) :
    bodyNorm x g b (ix2 n j) = layerNorm (fun j => g (ix2 0 j)) (fun j => b (ix2 0 j)) (fun k => x (ix2 n k)) j := by
  unfold layerNorm
  simp only [← bodyCentred_apply]
  have h : (mean fun k => bodyCentred x (ix2 n k) * bodyCentred x (ix2 n k)) = bodyMean (mulf (bodyCentred x) (bodyCentred x)) (ix2 n 0) :=
    (bodyMean_apply (mulf (bodyCentred x) (bodyCentred x)) n).symm
  rw [h]
  pointwise [bodyNorm]

/-- The first payload's argument to its layer norm. -/
def bodyMixed (p : FVec Ideal S512x512 .bf16) (w : FVec Ideal S512x1024 .bf16) (q : FVec Ideal S512x512 .bf16) (w' : FVec Ideal S512x1024 .bf16)
    (x : FVec Ideal S512x1024 .f32) : FVec Ideal S512x1024 .f32 :=
  addf (mulf (broadcast S512x1024 (Scalar.ofBits .f32 0x3F9837F0#32)) x)
    (addf (matmul dot_S512x512_S512x1024_S512x1024_1_0_0_1_n_n none p (shapeCast S512x1024 w shapeCasts_S512x1024_S512x1024) (constant S512x1024 .f32 0x00000000#32))
      (matmul dot_S512x512_S512x1024_S512x1024_1_0_0_1_n_n none q (shapeCast S512x1024 w' shapeCasts_S512x1024_S512x1024) (constant S512x1024 .f32 0x00000000#32)))

theorem bodyMixed_apply (p : FVec Ideal S512x512 .bf16) (w : FVec Ideal S512x1024 .bf16) (q : FVec Ideal S512x512 .bf16) (w' : FVec Ideal S512x1024 .bf16)
    (x : FVec Ideal S512x1024 .f32) (n : Fin 512) (j : Fin 1024) :
    bodyMixed p w q w' x (ix2 n j)
      = scale * x (ix2 n j) + (∑ k : Fin 512, p (ix2 n k) * w (ix2 k j) + ∑ k : Fin 512, q (ix2 n k) * w' (ix2 k j)) := by
  pointwise [bodyMixed]

/-- The body's first payload is the layer norm of the projected row added to the scaled input. -/
theorem pay1_eq (p : FVec Ideal S512x512 .bf16) (w : FVec Ideal S512x1024 .bf16) (q : FVec Ideal S512x512 .bf16) (w' : FVec Ideal S512x1024 .bf16)
    (x : FVec Ideal S512x1024 .f32) (g b : FVec Ideal S1x1024 .f32) :
    k0_pay1 (F := Ideal) p w q w' x g b = bodyNorm (bodyMixed p w q w' x) g b := rfl

/-- One of the two projections to the hidden units. -/
def bodyUp (h : FVec Ideal S512x1024 .f32) (w : FVec Ideal S1024x2816 .bf16) : FVec Ideal S512x2816 .f32 :=
  matmul dot_S512x1024_S1024x2816_S512x2816_1_0_0_1_n_n none (truncf .bf16 h bitsLt_bf16_f32)
    (shapeCast S1024x2816 w shapeCasts_S1024x2816_S1024x2816) (constant S512x2816 .f32 0x00000000#32)

theorem bodyUp_apply (h : FVec Ideal S512x1024 .f32) (w : FVec Ideal S1024x2816 .bf16) (n : Fin 512) (k : Fin 2816) :
    bodyUp h w (ix2 n k) = ∑ i : Fin 1024, h (ix2 n i) * w (ix2 i k) := by
  pointwise [bodyUp]

/-- The hidden units. -/
def bodyHidden (h : FVec Ideal S512x1024 .f32) (wg wu : FVec Ideal S1024x2816 .bf16) : FVec Ideal S512x2816 .f32 :=
  mulf (mulf (bodyUp h wg) (logistic (bodyUp h wg))) (bodyUp h wu)

theorem bodyHidden_apply (h : FVec Ideal S512x1024 .f32) (wg wu : FVec Ideal S1024x2816 .bf16) (n : Fin 512) (k : Fin 2816) :
    bodyHidden h wg wu (ix2 n k) = units (fun i k => wg (ix2 i k)) (fun i k => wu (ix2 i k)) (fun i => h (ix2 n i)) k := by
  unfold units
  simp only [← bodyUp_apply]
  pointwise [bodyHidden]

/-- The second payload's argument to its layer norm. -/
def bodyForward (h : FVec Ideal S512x1024 .f32) (wg wu : FVec Ideal S1024x2816 .bf16) (wd : FVec Ideal S2816x1024 .bf16) : FVec Ideal S512x1024 .f32 :=
  addf (mulf (broadcast S512x1024 (Scalar.ofBits .f32 0x3F9837F0#32)) h)
    (matmul dot_S512x2816_S2816x1024_S512x1024_1_0_0_1_n_n none (truncf .bf16 (bodyHidden h wg wu) bitsLt_bf16_f32)
      (shapeCast S2816x1024 wd shapeCasts_S2816x1024_S2816x1024) (constant S512x1024 .f32 0x00000000#32))

theorem bodyForward_apply (h : FVec Ideal S512x1024 .f32) (wg wu : FVec Ideal S1024x2816 .bf16) (wd : FVec Ideal S2816x1024 .bf16)
    (n : Fin 512) (j : Fin 1024) :
    bodyForward h wg wu wd (ix2 n j)
      = forward (fun i k => wg (ix2 i k)) (fun i k => wu (ix2 i k)) (fun k j => wd (ix2 k j)) (fun i => h (ix2 n i)) j := by
  unfold forward
  simp only [← bodyHidden_apply]
  pointwise [bodyForward]

/-- The body's second payload is the layer norm of the feed-forward part added to the scaled first half. -/
theorem pay2_eq (h : FVec Ideal S512x1024 .f32) (wg wu : FVec Ideal S1024x2816 .bf16) (wd : FVec Ideal S2816x1024 .bf16) (g b : FVec Ideal S1x1024 .f32) :
    k0_pay2 (F := Ideal) h wg wu wd g b = bodyNorm (bodyForward h wg wu wd) g b := rfl

/-- The body, at a row and a column. -/
theorem body_apply (p : FVec Ideal S512x512 .bf16) (w : FVec Ideal S512x1024 .bf16) (q : FVec Ideal S512x512 .bf16) (w' : FVec Ideal S512x1024 .bf16)
    (x : FVec Ideal S512x1024 .f32) (g b : FVec Ideal S1x1024 .f32) (wg wu : FVec Ideal S1024x2816 .bf16) (wd : FVec Ideal S2816x1024 .bf16)
    (g' b' : FVec Ideal S1x1024 .f32) (W : Fin 1024 → Fin 1024 → EReal) (hw : ∀ k j, w (ix2 k j) = W (Fin.castAdd 512 k) j)
    (hw' : ∀ k j, w' (ix2 k j) = W (Fin.natAdd 512 k) j) (n : Fin 512) (j : Fin 1024) :
    k0_pay2 (F := Ideal) (k0_pay1 p w q w' x g b) wg wu wd g' b' (ix2 n j)
      = tail W (fun j => g (ix2 0 j)) (fun j => b (ix2 0 j)) (fun i k => wg (ix2 i k)) (fun i k => wu (ix2 i k)) (fun k j => wd (ix2 k j))
          (fun j => g' (ix2 0 j)) (fun j => b' (ix2 0 j)) (fun k => p (ix2 n k)) (fun k => q (ix2 n k)) (fun j => x (ix2 n j)) j := by
  rw [pay2_eq, pay1_eq, bodyNorm_apply]
  simp only [bodyForward_apply, bodyNorm_apply, bodyMixed_apply, hw, hw']
  rfl

end Cert.Kernel2Ideal
-- ==== Proof.TailResult.lean ====
/-
  The tail kernel's result array: the grid's blocks of rows cover it, and each row is the tail of the arguments' rows.
-/
module

public import proofs.«01_k».proof.Proof.TailBody
public import proofs.«01_k».proof.Proof.Gen.Kernel2Ideal.Value
public import Idealize.ShloMosaic.Lib.Pipeline.ValueKit

@[expose] public section

set_option maxRecDepth 16384

noncomputable section

namespace Cert.Kernel2Ideal

open Idealize.ShloMosaic Idealize.ShloMosaic.TcCoe Idealize.SL.Sem Gen LayerTail

variable (m : (ℓ : Loc nD τ sig) → Buf (Elt Ideal) ℓ) (c : Dev nD)

/-- The tail of the eleven arguments. -/
def tails : Fin 32768 → Fin 1024 → EReal :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The windows' block indices. -/
theorem idx : ∀ t : Fin grid0.N,
    (win0_0.index t = ![t.val, 0] ∧ win0_1.index t = ![t.val, 0] ∧ win0_2.index t = ![t.val, 0] ∧ win0_11.index t = ![t.val, 0])
    ∧ (win0_3.index t = ![0, 0] ∧ win0_4.index t = ![0, 0] ∧ win0_5.index t = ![0, 0] ∧ win0_6.index t = ![0, 0]
      ∧ win0_7.index t = ![0, 0] ∧ win0_8.index t = ![0, 0] ∧ win0_9.index t = ![0, 0] ∧ win0_10.index t = ![0, 0]) := by
  decide +kernel

/-- A row of a block as a row of the array. -/
def rowOf (t : Fin cfg0.N) (n : Fin 512) : Fin 32768 := ⟨t.val * 512 + n.val, by
  have h : t.val < 64 := t.isLt
  omega⟩

variable (t : Fin cfg0.N)

/-! The blocks staged at a grid point: rows of the three row-wise operands, and the weights whole. -/

theorem blk_p (n k : Fin 512) : iblk m c 0 t (ix2 n k) = m ((c : Thread nD τ).loc main_arg0) (ix2 (rowOf t n) k) := by
  blk_ext! [iblk, V, (idx t).1, rowOf]
theorem blk_q (n k : Fin 512) : iblk m c 1 t (ix2 n k) = m ((c : Thread nD τ).loc main_arg1) (ix2 (rowOf t n) k) := by
  blk_ext! [iblk, V, (idx t).1, rowOf]
theorem blk_x (n : Fin 512) (j : Fin 1024) : iblk m c 2 t (ix2 n j) = m ((c : Thread nD τ).loc main_arg2) (ix2 (rowOf t n) j) := by
  blk_ext! [iblk, V, (idx t).1, rowOf]
theorem blk_w (i j : Fin 1024) : iblk m c 3 t (ix2 i j) = m ((c : Thread nD τ).loc main_arg3) (ix2 i j) := by
  blk_ext! [iblk, V, (idx t).2]
theorem blk_g (j : Fin 1024) : iblk m c 4 t (ix2 0 j) = m ((c : Thread nD τ).loc main_arg4) (ix1 j) := by
  blk_ext! [iblk, V, (idx t).2]
theorem blk_b (j : Fin 1024) : iblk m c 5 t (ix2 0 j) = m ((c : Thread nD τ).loc main_arg5) (ix1 j) := by
  blk_ext! [iblk, V, (idx t).2]
theorem blk_wg (i : Fin 1024) (k : Fin 2816) : iblk m c 6 t (ix2 i k) = m ((c : Thread nD τ).loc main_arg6) (ix2 i k) := by
  blk_ext! [iblk, V, (idx t).2]
theorem blk_wu (i : Fin 1024) (k : Fin 2816) : iblk m c 7 t (ix2 i k) = m ((c : Thread nD τ).loc main_arg7) (ix2 i k) := by
  blk_ext! [iblk, V, (idx t).2]
theorem blk_wd (k : Fin 2816) (j : Fin 1024) : iblk m c 8 t (ix2 k j) = m ((c : Thread nD τ).loc main_arg8) (ix2 k j) := by
  blk_ext! [iblk, V, (idx t).2]
theorem blk_g' (j : Fin 1024) : iblk m c 9 t (ix2 0 j) = m ((c : Thread nD τ).loc main_arg9) (ix1 j) := by
  blk_ext! [iblk, V, (idx t).2]
theorem blk_b' (j : Fin 1024) : iblk m c 10 t (ix2 0 j) = m ((c : Thread nD τ).loc main_arg10) (ix1 j) := by
  blk_ext! [iblk, V, (idx t).2]

/-- The halves of the projection's weight, as the body loads them. -/
theorem upper (k : Fin 512) (j : Fin 1024) :
    View.ld (iblk m c 3 t) r0_1 (ix2 k j) = m ((c : Thread nD τ).loc main_arg3) (ix2 (Fin.castAdd 512 k) j) := by
  rw [← blk_w m c t]
  refine congrArg (iblk m c 3 t) ?_
  funext a
  refine Fin.ext ?_
  fin_cases a <;> simp [Rect.unit]
theorem lower (k : Fin 512) (j : Fin 1024) :
    View.ld (iblk m c 3 t) r0_2 (ix2 k j) = m ((c : Thread nD τ).loc main_arg3) (ix2 (Fin.natAdd 512 k) j) := by
  rw [← blk_w m c t]
  refine congrArg (iblk m c 3 t) ?_
  funext a
  refine Fin.ext ?_
  fin_cases a <;> simp [Rect.unit, Nat.add_comm]

/-- What a grid point writes: the tail of its rows. -/
theorem block_apply (n : Fin 512) (j : Fin 1024) :
    out0_11 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 n j) = tails m c (rowOf t n) j := by
  frame_out
  refine (body_apply _ _ _ _ _ _ _ _ _ _ _ _ (fun i j => m ((c : Thread nD τ).loc main_arg3) (ix2 i j)) (upper m c t) (lower m c t) n j).trans ?_
  simp only [blk_p, blk_q, blk_x, blk_g, blk_b, blk_wg, blk_wu, blk_wd, blk_g', blk_b']
  rfl

/-- The result holds the tail of the eleven arguments, at every index. -/
theorem result_eq : (dats m 0 c).arrAt 11 cfg0.N = fun y : S32768x1024.Idx => tails m c (y 0) (y 1) := by
  refine (dats m 0 c).arrAt_eq_of_covers 11 _ (by decide +kernel) fun t ht y => ?_
  change (dats m 0 c).after 11 t ((cfg0.win 11).xinj (cfg0.grid.coords t) y) = _
  have e0 : ((cfg0.win 11).blk t).view.emb y 0 = rowOf t ⟨(y 0).val, (y 0).isLt⟩ := Fin.ext (by
    blk_simp
    rw [(idx t).1.2.2.2]
    rfl)
  have e1 : ((cfg0.win 11).blk t).view.emb y 1 = ⟨(y 1).val, (y 1).isLt⟩ := Fin.ext (by
    blk_simp
    rw [(idx t).1.2.2.2]
    exact (congrArg (· + (y 1).val) (Nat.zero_mul 1024)).trans (Nat.zero_add _))
  have hy : (cfg0.win 11).xinj (cfg0.grid.coords t) y = ix2 (n0 := 512) (n1 := 1024) ⟨(y 0).val, (y 0).isLt⟩ ⟨(y 1).val, (y 1).isLt⟩ := eq_ix2 _
  rw [after0_11, e0, e1, hy]
  exact block_apply m c t _ _

end Cert.Kernel2Ideal
-- ==== Proof.TailRef.lean ====
/-
  The tail's reference, row by row: its result is the tail of the eleven arguments.
-/
module

public import proofs.«01_k».proof.Proof.TailSpec
public import proofs.«01_k».proof.Proof.Gen.Reference2Ideal.Read

@[expose] public section

set_option maxRecDepth 16384

noncomputable section

namespace Cert.Reference2Ideal

open Idealize.ShloMosaic Idealize.SL.Sem Gen Read LayerTail

/-! ## The layer norm, which the reference applies twice -/

/-- A number as a column. -/
def refColumn (w : BitVec 32) : FVec Ideal S32768x1 .f32 := broadcastInDim S32768x1 ![] bcast_S_S32768x1 (constant S_ .f32 w)

/-- A column along the rows. -/
def refSpread (x : FVec Ideal S32768x1 .f32) : FVec Ideal S32768x1024 .f32 :=
  broadcastInDim S32768x1024 ![0, 1] bcast_S32768x1_S32768x1024_0_1 x

/-- A vector down the columns. -/
def refRows (g : FVec Ideal S1024 .f32) : FVec Ideal S32768x1024 .f32 :=
  broadcastInDim S32768x1024 ![0, 1] bcast_S1x1024_S32768x1024_0_1 (broadcastInDim S1x1024 ![1] bcast_S1024_S1x1024_1 g)

/-- Each row's mean, as a column. -/
def refMean (x : FVec Ideal S32768x1024 .f32) : FVec Ideal S32768x1 .f32 :=
  Host.divf (broadcastInDim S32768x1 ![0] bcast_S32768_S32768x1_0
    (Host.reduceAdd x (constant S_ .f32 0x00000000#32) reducesTo_S32768x1024_S32768_d1 h_S_)) (refColumn 0x44800000#32)

/-- Each row less its mean. -/
def refCentred (x : FVec Ideal S32768x1024 .f32) : FVec Ideal S32768x1024 .f32 := subf x (refSpread (refMean x))

/-- The layer norm of each row. -/
def refNorm (x : FVec Ideal S32768x1024 .f32) (g b : FVec Ideal S1024 .f32) : FVec Ideal S32768x1024 .f32 :=
  addf (mulf (mulf (refCentred x)
    (refSpread (Host.rsqrt (addf (refMean (mulf (refCentred x) (refCentred x))) (refColumn 0x3727C5AC#32))))) (refRows g)) (refRows b)

theorem refMean_apply (x : FVec Ideal S32768x1024 .f32) (n : Fin 32768) : refMean x (ix2 n 0) = mean fun k => x (ix2 n k) := by
  pointwise [refMean, refColumn, mean]

theorem refCentred_apply (x : FVec Ideal S32768x1024 .f32) (n : Fin 32768) (j : Fin 1024) :
    refCentred x (ix2 n j) = x (ix2 n j) - mean fun k => x (ix2 n k) := by
  rw [← refMean_apply]
  pointwise [refCentred, refSpread]

theorem refNorm_apply (x : FVec Ideal S32768x1024 .f32) (g b : FVec Ideal S1024 .f32) (n : Fin 32768) (j : Fin 1024) :
    refNorm x g b (ix2 n j) = layerNorm (fun j => g (ix1 j)) (fun j => b (ix1 j)) (fun k => x (ix2 n k)) j := by
  unfold layerNorm
  simp only [← refCentred_apply]
  have h : (mean fun k => refCentred x (ix2 n k) * refCentred x (ix2 n k)) = refMean (mulf (refCentred x) (refCentred x)) (ix2 n 0) :=
    (refMean_apply (mulf (refCentred x) (refCentred x)) n).symm
  rw [h]
  pointwise [refNorm, refSpread, refColumn, refRows]

/-! ## The stages -/

section

variable (x0 x1 : FVec Ideal S32768x512 .bf16) (x2 : FVec Ideal S32768x1024 .f32) (x3 : FVec Ideal S1024x1024 .f32) (x4 x5 : FVec Ideal S1024 .f32)
  (x6 x7 : FVec Ideal S1024x2816 .f32) (x8 : FVec Ideal S2816x1024 .f32) (x9 x10 : FVec Ideal S1024 .f32)

theorem inner_eq : val_main_v30 (F := Ideal) x0 x1 x2 x3 x4 x5 = refNorm (val_main_v6 (F := Ideal) x0 x1 x2 x3) x4 x5 := rfl
theorem outer_eq : val_main_v62 (F := Ideal) x0 x1 x2 x3 x4 x5 x6 x7 x8 x9 x10
    = refNorm (val_main_v38 (F := Ideal) x0 x1 x2 x3 x4 x5 x6 x7 x8) x9 x10 := rfl

/-- The two mixers' outputs side by side. -/
theorem beside (n : Fin 32768) (k : Fin 1024) :
    val_main_v2 (F := Ideal) x0 x1 (ix2 n k) = (Fin.append (fun k => x0 (ix2 n k)) (fun k => x1 (ix2 n k)) k : EReal) := by
  have h : val_main_v2 (F := Ideal) x0 x1 (ix2 n k)
      = if h : k.val < 512 then x0 (ix2 n ⟨k.val, h⟩) else x1 (ix2 n ⟨k.val - 512, by omega⟩) := by
    pointwise [val_main_v2, val_main_v0, val_main_v1]
  rw [h]
  refine Fin.addCases (m := 512) (n := 512) (fun i => ?_) (fun i => ?_) k
  · rw [Fin.append_left, dif_pos (by simp)]
    rfl
  · rw [Fin.append_right, dif_neg (by simp)]
    exact congrArg (fun i => x1 (ix2 n i)) (Fin.ext (by simp))

theorem mixed_apply (n : Fin 32768) (j : Fin 1024) :
    val_main_v6 (F := Ideal) x0 x1 x2 x3 (ix2 n j)
      = scale * x2 (ix2 n j) + project (fun i j => x3 (ix2 i j)) (fun k => x0 (ix2 n k)) (fun k => x1 (ix2 n k)) j := by
  rw [project_eq, val_main_v6_apply, val_main_v5_apply, val_main_v4_apply, val_main_v3_apply]
  simp only [← beside]
  exact congrArg (scale * x2 (ix2 n j) + ·) (Finset.sum_congr rfl fun k _ =>
    congrArg₂ (· * ·) (congrArg (val_main_v2 (F := Ideal) x0 x1) (eq_ix2 _)) (congrArg x3 (eq_ix2 _)))

theorem gate_apply (n : Fin 32768) (k : Fin 2816) :
    val_main_v31 (F := Ideal) x0 x1 x2 x3 x4 x5 x6 (ix2 n k)
      = ∑ i : Fin 1024, val_main_v30 (F := Ideal) x0 x1 x2 x3 x4 x5 (ix2 n i) * x6 (ix2 i k) := by
  rw [val_main_v31_apply]
  exact Finset.sum_congr rfl fun i _ =>
    congrArg₂ (· * ·) (congrArg (val_main_v30 (F := Ideal) x0 x1 x2 x3 x4 x5) (eq_ix2 _)) (congrArg x6 (eq_ix2 _))

theorem up_apply (n : Fin 32768) (k : Fin 2816) :
    val_main_v33 (F := Ideal) x0 x1 x2 x3 x4 x5 x7 (ix2 n k)
      = ∑ i : Fin 1024, val_main_v30 (F := Ideal) x0 x1 x2 x3 x4 x5 (ix2 n i) * x7 (ix2 i k) := by
  rw [val_main_v33_apply]
  exact Finset.sum_congr rfl fun i _ =>
    congrArg₂ (· * ·) (congrArg (val_main_v30 (F := Ideal) x0 x1 x2 x3 x4 x5) (eq_ix2 _)) (congrArg x7 (eq_ix2 _))

/-- The reference's silu is its argument times the logistic function of it. -/
theorem silu_apply (n : Fin 32768) (k : Fin 2816) :
    val_main_v32 (F := Ideal) x0 x1 x2 x3 x4 x5 x6 (ix2 n k)
      = val_main_v31 (F := Ideal) x0 x1 x2 x3 x4 x5 x6 (ix2 n k) * Ideal.logistic (val_main_v31 (F := Ideal) x0 x1 x2 x3 x4 x5 x6 (ix2 n k)) := by
  rw [val_main_v32_apply, val_main_call0_v5_apply, val_main_call0_v4_apply, val_main_call0_v3_apply, val_main_call0_v2_apply,
    val_main_call0_v1_apply, val_main_call0_v0_apply, val_main_call0_cst_0_apply, val_main_call0_cst_apply, Ideal.ofBits_def, Ideal.ofBits_one_f32]
  rfl

theorem hidden_apply (n : Fin 32768) (k : Fin 2816) :
    val_main_v34 (F := Ideal) x0 x1 x2 x3 x4 x5 x6 x7 (ix2 n k)
      = units (fun i k => x6 (ix2 i k)) (fun i k => x7 (ix2 i k)) (fun i => val_main_v30 (F := Ideal) x0 x1 x2 x3 x4 x5 (ix2 n i)) k := by
  rw [val_main_v34_apply, silu_apply, gate_apply, up_apply]
  rfl

theorem forward_apply (n : Fin 32768) (j : Fin 1024) :
    val_main_v38 (F := Ideal) x0 x1 x2 x3 x4 x5 x6 x7 x8 (ix2 n j)
      = forward (fun i k => x6 (ix2 i k)) (fun i k => x7 (ix2 i k)) (fun k j => x8 (ix2 k j))
          (fun i => val_main_v30 (F := Ideal) x0 x1 x2 x3 x4 x5 (ix2 n i)) j := by
  unfold forward
  rw [val_main_v38_apply, val_main_v37_apply, val_main_v36_apply, val_main_v35_apply]
  simp only [← hidden_apply]
  exact congrArg (scale * val_main_v30 (F := Ideal) x0 x1 x2 x3 x4 x5 (ix2 n j) + ·) (Finset.sum_congr rfl fun k _ =>
    congrArg₂ (· * ·) (congrArg (val_main_v34 (F := Ideal) x0 x1 x2 x3 x4 x5 x6 x7) (eq_ix2 _)) (congrArg x8 (eq_ix2 _)))

theorem result_apply (n : Fin 32768) (j : Fin 1024) :
    val_main_v62 (F := Ideal) x0 x1 x2 x3 x4 x5 x6 x7 x8 x9 x10 (ix2 n j) = ofArgs x0 x1 x2 x3 x4 x5 x6 x7 x8 x9 x10 n j := by
  rw [outer_eq, refNorm_apply]
  simp only [forward_apply, inner_eq, refNorm_apply, mixed_apply]
  rfl

/-- The reference's result holds the tail of its eleven arguments, at every index. -/
theorem result_eq : val_main_v62 (F := Ideal) x0 x1 x2 x3 x4 x5 x6 x7 x8 x9 x10
    = fun y : S32768x1024.Idx => ofArgs x0 x1 x2 x3 x4 x5 x6 x7 x8 x9 x10 (y 0) (y 1) :=
  funext fun y => (congrArg _ (eq_ix2 y)).trans (result_apply x0 x1 x2 x3 x4 x5 x6 x7 x8 x9 x10 (y 0) (y 1))

end

end Cert.Reference2Ideal
-- ==== Proof.ProjSpec.lean ====
/-
  The input projection with the rotary embedding, at a position and a lane: the projected row, and the 512 lanes of each
  of its three parts (queries, keys, values) for the attention.
-/
module

public import Idealize.ShloMosaic.Lib.Pointwise

@[expose] public section

noncomputable section

namespace InputProjection

open Idealize.ShloMosaic

/-- The rate at which the `j`-th pair of rotated lanes turns: `500000 ^ (-j / 8)`. -/
def rate (j : ℕ) : EReal := (((500000 : ℝ) ^ (-(j : ℝ) / 8) : ℝ) : EReal)

/-- A head's first sixteen lanes rotated in pairs eight apart, the others as they are, at lane `l` of a row `y` at
    position `p`. -/
def rope (p : EReal) (y : ℕ → EReal) (l : ℕ) : EReal :=
  if l % 64 < 8 then y l * Ideal.cos (p * rate (l % 64)) - y (l + 8) * Ideal.sin (p * rate (l % 64))
  else if l % 64 < 16 then y l * Ideal.cos (p * rate (l % 64 - 8)) + y (l - 8) * Ideal.sin (p * rate (l % 64 - 8))
  else y l

/-- The factor of the queries, as the programs write it. -/
abbrev eighth : EReal := Ideal.ofBits .f32 0x3E000000#32

/-- The queries, the keys and the values of a projected row. -/
def part (g : Fin 3) (p : EReal) (y : ℕ → EReal) (l : ℕ) : EReal :=
  match g with
  | 0 => rope p y l * eighth
  | 1 => rope p (fun l => y (512 + l)) l
  | 2 => y (1024 + l)

/-- A projected row: each of its lanes, and zero past the last. -/
def projected {n : ℕ} (x : Fin 1024 → EReal) (w : Fin 1024 → Fin n → EReal) (c : ℕ) : EReal :=
  if h : c < n then ∑ k, x k * w k ⟨c, h⟩ else 0

section

variable (x : (⟨3, ![4, 8192, 1024]⟩ : Shape).Idx → EReal) (w : (⟨2, ![1024, 3328]⟩ : Shape).Idx → EReal) (p : (⟨2, ![4, 8192]⟩ : Shape).Idx → BitVec 32)

/-- The projected row of a sequence's position. -/
def row (b : Fin 4) (n : Fin 8192) (c : ℕ) : EReal := projected (fun k => x (ix3 b n k)) (fun k c => w (ix2 k c)) c

/-- A part of it, at lane `l`. -/
def value (g : Fin 3) (b : Fin 4) (n l : ℕ) : EReal :=
  if h : n < 8192 then part g (FloatOps.sitofp (F := Ideal) .f32 (p (ix2 b ⟨n, h⟩))) (row x w b ⟨n, h⟩) l else 0

end

/-- The rates, as the kernel's constants write them: inverse products of repeated square roots. -/
theorem rate_root (a b c : ℕ) :
    (500000 : ℝ) ^ (-((4 * a + 2 * b + c : ℕ) : ℝ) / 8)
      = (Real.sqrt 500000 ^ a * (Real.sqrt (Real.sqrt 500000) ^ b * Real.sqrt (Real.sqrt (Real.sqrt 500000)) ^ c))⁻¹ := by
  have h : (0 : ℝ) ≤ 500000 := by norm_num
  have hp : (0 : ℝ) < 500000 := by norm_num
  simp only [Real.sqrt_eq_rpow]
  rw [← Real.rpow_mul h, ← Real.rpow_mul h, ← Real.rpow_natCast, ← Real.rpow_natCast, ← Real.rpow_natCast,
    ← Real.rpow_mul h, ← Real.rpow_mul h, ← Real.rpow_mul h, ← Real.rpow_add hp, ← Real.rpow_add hp, ← Real.rpow_neg h]
  congr 1
  push_cast
  ring

theorem cos_zero : Ideal.cos 0 = 1 := by
  change ((Real.cos 0 : ℝ) : EReal) = 1
  simp

theorem sin_zero : Ideal.sin 0 = 0 := by
  change ((Real.sin 0 : ℝ) : EReal) = 0
  simp

/-- Rotation within 128 lanes of a row is rotation within the row. -/
theorem rope_block (p : EReal) (y z : ℕ → EReal) (j l : ℕ) (hl : l < 128) (h : ∀ l < 128, z l = y (128 * j + l)) :
    rope p z l = rope p y (128 * j + l) := by
  have hm : (128 * j + l) % 64 = l % 64 := by omega
  unfold rope
  rw [hm]
  split_ifs with h1 h2
  · rw [h l hl, h (l + 8) (by omega), Nat.add_assoc]
  · rw [h l hl, h (l - 8) (by omega), Nat.add_sub_assoc (by omega)]
  · exact h l hl

end InputProjection
-- ==== Proof.ProjBody.lean ====
/-
  The input projection's body, lane by lane: the rates of the lanes, the angles' cosines and sines, and 128 lanes of a
  projected block rotated and scaled.
-/
module

public import proofs.«01_k».proof.Proof.Gen.Kernel3Ideal.Skeleton
public import proofs.«01_k».proof.Proof.ProjSpec

@[expose] public section

set_option maxRecDepth 16384

noncomputable section

namespace Cert.Kernel3Ideal

open Idealize.ShloMosaic Idealize.SL.Sem Gen InputProjection

/-- A lane's place in its head. -/
theorem laneDim (l : Fin 128) : k0_pay4 (ix2 0 l) = BitVec.ofNat 32 (l.val % 64) := by
  pointwise [k0_pay4]
  revert l
  decide +kernel

/-- The rates of the lanes. -/
def rates : FVec Ideal S1x128 .f32 := k0_pay7 k0_pay4 (k0_pay5 (F := Ideal)) k0_pay6

/-- A named rate of the kernel: an inverse product of repeated square roots. -/
theorem rate_named {name : String} {b : BitVec 32} (j u v w : ℕ) (hj : j = 4 * u + 2 * v + w) {r : ℝ}
    (hr : r = (Real.sqrt 500000 ^ u * (Real.sqrt (Real.sqrt 500000) ^ v * Real.sqrt (Real.sqrt (Real.sqrt 500000)) ^ w))⁻¹)
    (h : κ name = some (r : EReal)) : Named.named (F := Ideal) κ name (φ := .f32) b = rate j := by
  change (κ name).getD _ = _
  rw [h, rate, hj, rate_root, ← hr]
  rfl

theorem rate_zero : rate 0 = 1 := by
  simp [rate]

theorem rates_apply (l : Fin 128) : rates (ix2 0 l) = if l.val % 64 < 16 then rate (l.val % 64 % 8) else 0 := by
  pointwise [rates, k0_pay7, k0_pay6, k0_pay5]
  rw [laneDim, rate_named (name := "freq1") 1 0 0 1 rfl (by simp) rfl, rate_named (name := "freq2") 2 0 1 0 rfl (by simp) rfl, rate_named (name := "freq3") 3 0 1 1 rfl (by simp) rfl,
    rate_named (name := "freq4") 4 1 0 0 rfl (by simp) rfl, rate_named (name := "freq5") 5 1 0 1 rfl (by simp) rfl, rate_named (name := "freq6") 6 1 1 0 rfl (by simp) rfl,
    rate_named (name := "freq7") 7 1 1 1 rfl (by simp) rfl]
  have hd : l.val % 64 < 64 := Nat.mod_lt _ (by decide)
  generalize l.val % 64 = d at hd
  interval_cases d <;> simp [rate_zero, Scalar.select, IntOp.ori, IntOp.cmpi]

theorem below_bit : ∀ d < 64, IntOp.cmpi .slt (BitVec.ofNat 32 d) 8#32 = if d < 8 then 1#1 else 0#1 := by decide +kernel

theorem above_bit : ∀ d < 64, IntOp.cmpi .sge (BitVec.ofNat 32 d) 8#32 = if d < 8 then 0#1 else 1#1 := by decide +kernel

/-- A row's position. -/
def place (x : Vec Ideal S1x512x1 .i32) (n : Fin 512) : EReal := FloatOps.sitofp (F := Ideal) .f32 (x (ix3 0 n 0))

theorem cosines_apply (x : Vec Ideal S1x512x1 .i32) (n : Fin 512) (l : Fin 128) :
    k0_pay10 rates (k0_pay8 (F := Ideal) x) (ix2 n l) = Ideal.cos (place x n * rates (ix2 0 l)) := by
  pointwise [k0_pay10, k0_pay9, k0_pay8, place]

theorem lower_apply (x : Vec Ideal S1x512x1 .i32) (n : Fin 512) (l : Fin 128) :
    k0_pay12 k0_pay4 rates (k0_pay8 (F := Ideal) x) (ix2 n l)
      = if l.val % 64 < 8 then Ideal.sin (place x n * rates (ix2 0 l)) else 0 := by
  pointwise [k0_pay12, k0_pay11, k0_pay9, k0_pay8, place]
  rw [laneDim, below_bit _ (Nat.mod_lt _ (by decide))]
  split_ifs <;> rfl

theorem upper_apply (x : Vec Ideal S1x512x1 .i32) (n : Fin 512) (l : Fin 128) :
    k0_pay13 k0_pay4 rates (k0_pay8 (F := Ideal) x) (ix2 n l)
      = if l.val % 64 < 8 then 0 else Ideal.sin (place x n * rates (ix2 0 l)) := by
  pointwise [k0_pay13, k0_pay11, k0_pay9, k0_pay8, place]
  rw [laneDim, above_bit _ (Nat.mod_lt _ (by decide))]
  split_ifs <;> rfl

/-- 128 lanes rotated and scaled, as the body does it. -/
def turned (x : Vec Ideal S1x512x1 .i32) (s : BitVec 32) (b : FVec Ideal S512x128 .f32) : FVec Ideal S512x128 .f32 :=
  mulf (addf (subf (mulf b (k0_pay10 rates (k0_pay8 x))) (mulf (dynamicRotate 1 120#32 none b rotates_S512x128_d1) (k0_pay12 k0_pay4 rates (k0_pay8 x))))
      (mulf (dynamicRotate 1 8#32 none b rotates_S512x128_d1) (k0_pay13 k0_pay4 rates (k0_pay8 x))))
    (broadcast S512x128 (Scalar.ofBits .f32 s))

/-- A row of 128 lanes, by natural numbers. -/
def lanes (b : FVec Ideal S512x128 .f32) (n : Fin 512) (l : ℕ) : EReal := if h : l < 128 then b (ix2 n ⟨l, h⟩) else 0

theorem turned_apply (x : Vec Ideal S1x512x1 .i32) (s : BitVec 32) (b : FVec Ideal S512x128 .f32) (n : Fin 512) (l : Fin 128) :
    turned x s b (ix2 n l) = rope (place x n) (lanes b n) l * Ideal.ofBits .f32 s := by
  have hl := l.isLt
  have h0 : lanes b n l = b (ix2 n l) := dif_pos hl
  have e : turned x s b (ix2 n l)
      = (b (ix2 n l) * Ideal.cos (place x n * rates (ix2 0 l))
          - b (ix2 n ⟨(l.val + 128 - 120) % 128, Nat.mod_lt _ (by decide)⟩) * (if l.val % 64 < 8 then Ideal.sin (place x n * rates (ix2 0 l)) else 0)
          + b (ix2 n ⟨(l.val + 128 - 8) % 128, Nat.mod_lt _ (by decide)⟩) * (if l.val % 64 < 8 then 0 else Ideal.sin (place x n * rates (ix2 0 l))))
        * Ideal.ofBits .f32 s := by
    rw [← cosines_apply, ← lower_apply, ← upper_apply]
    pointwise [turned]
  rw [e, rates_apply]
  congr 1
  unfold rope
  rw [h0]
  by_cases h1 : l.val % 64 < 8
  · have h2 : lanes b n (l.val + 8) = b (ix2 n ⟨(l.val + 128 - 120) % 128, Nat.mod_lt _ (by decide)⟩) := by
      rw [lanes, dif_pos (by omega)]
      congr 2
      exact Fin.ext (by simp only; omega)
    have h3 : l.val % 64 % 8 = l.val % 64 := by omega
    have h4 : l.val % 64 < 16 := by omega
    simp only [h1, h4, if_true, h2, h3, mul_zero, add_zero]
  · by_cases h4 : l.val % 64 < 16
    · have h2 : lanes b n (l.val - 8) = b (ix2 n ⟨(l.val + 128 - 8) % 128, Nat.mod_lt _ (by decide)⟩) := by
        rw [lanes, dif_pos (by omega)]
        congr 2
        exact Fin.ext (by simp only; omega)
      have h3 : l.val % 64 % 8 = l.val % 64 - 8 := by omega
      simp only [h1, h4, if_true, if_false, h2, h3, mul_zero, sub_zero]
    · simp only [h1, h4, if_false, mul_zero, cos_zero, sin_zero, mul_one, sub_zero, add_zero]

end Cert.Kernel3Ideal
-- ==== Proof.ProjBlock.lean ====
/-
  One block of the input projection: the three parts at each of the block's 512 positions, the functions of the block
  that the scratches and the results are, and the stores as pieces of these.
-/
module

public import proofs.«01_k».proof.Proof.ProjBody
public import Idealize.ShloMosaic.Lib.WholeRead
public import Idealize.ShloMosaic.Lib.Pipeline.ReadBack
public import Idealize.ShloMosaic.Lib.Pipeline.FrameBody

@[expose] public section

set_option maxRecDepth 16384

noncomputable section

namespace Cert.Kernel3Ideal

open Idealize.ShloMosaic Idealize.ShloMosaic.TcCoe Idealize.SL.Sem Gen InputProjection

section

variable (x0 : Vec Ideal S1x512x1024 .f32) (x1 : Vec Ideal S1024x3328 .bf16) (x2 : Vec Ideal S1x512x1 .i32)

/-- A block's projected row. -/
def blockRow (n : Fin 512) (c : ℕ) : EReal := projected (fun k => x0 (ix3 0 n k)) (fun k c => x1 (ix2 k c)) c

/-- Part `g` of a block at its position `n`, lane `l`. -/
def blockPart (g : Fin 3) (n l : ℕ) : EReal := if h : n < 512 then part g (place x2 ⟨n, h⟩) (blockRow x0 x1 ⟨n, h⟩) l else 0

/-- The first scratch: 128 lanes after another. -/
def stageOf (g : Fin 3) : Vec Ideal S4x512x128 .f32 := fun y => blockPart x0 x1 x2 g (y 1).val (128 * (y 0).val + (y 2).val)

/-- The second scratch: row `128 a + b` is position `4 b + a`. -/
def restageOf (g : Fin 3) : Vec Ideal S4x512x128 .f32 := fun y =>
  blockPart x0 x1 x2 g (4 * ((y 1).val % 128) + (y 1).val / 128) (128 * (y 0).val + (y 2).val)

/-- A part in order, -/
def inOrder (g : Fin 3) : Vec Ideal S1x512x512 .bf16 := fun y => blockPart x0 x1 x2 g (y 1).val (y 2).val

/-- by classes modulo 4, -/
def byFour (g : Fin 3) : Vec Ideal S1x4x128x512 .bf16 := fun y => blockPart x0 x1 x2 g (4 * (y 2).val + (y 1).val) (y 3).val

/-- and by classes modulo 16. -/
def bySixteen (g : Fin 3) : Vec Ideal S1x16x32x512 .bf16 := fun y => blockPart x0 x1 x2 g (16 * (y 2).val + (y 1).val) (y 3).val

end

section

variable {x0 : Vec Ideal S1x512x1024 .f32} {x1 : Vec Ideal S1024x3328 .bf16} {x2 : Vec Ideal S1x512x1 .i32} {g : Fin 3}

/-! ## The projection -/

/-- The 512 projected lanes from lane `o` on. -/
def columns (a : Memref sig .tc .vmem S1x512x1024 .f32) (ha : a.IsWhole) (b : Memref sig .tc .vmem S1024x3328 .bf16) (hb : b.IsWhole)
    (x0 : Vec Ideal S1x512x1024 .f32) (x1 : Vec Ideal S1024x3328 .bf16) (o : ℕ)
    (h : ∀ d, (![0, o] : Fin 2 → ℕ) d + S1024x512.size d ≤ S1024x3328.size d) : FVec Ideal S512x512 .f32 :=
  k0_pay14 (k0_pay3 (View.readAt (Elt Ideal) a.view (Rect.unit (s := S1x512x1024) ![0, 0, 0] S1x512x1024.size inb_S1x512x1024_S1x512x1024_0_0_0).toLoadRect (ha.unread x0)))
    (View.readAt (Elt Ideal) b.view (Rect.unit (s := S1024x3328) ![0, o] S1024x512.size h).toLoadRect (hb.unread x1))

theorem product_apply (u : Vec Ideal S1x512x1024 .f32) (v : Vec Ideal S1024x512 .bf16) (n : Fin 512) (c : Fin 512) :
    k0_pay14 (F := Ideal) (k0_pay3 u) v (ix2 n c) = ∑ k : Fin 1024, u (ix3 0 n k) * v (ix2 k c) := by
  pointwise [k0_pay14, k0_pay3]

theorem columns_apply (a : Memref sig .tc .vmem S1x512x1024 .f32) (ha : a.IsWhole) (b : Memref sig .tc .vmem S1024x3328 .bf16) (hb : b.IsWhole) (o : ℕ)
    (h : ∀ d, (![0, o] : Fin 2 → ℕ) d + S1024x512.size d ≤ S1024x3328.size d) (n c : Fin 512) :
    columns a ha b hb x0 x1 o h (ix2 n c) = blockRow x0 x1 n (o + c.val) := by
  have ho : o + 512 ≤ 3328 := h 1
  have hc : o + c.val < 3328 := by have := c.isLt; omega
  unfold columns
  rw [product_apply, blockRow, projected, dif_pos hc]
  refine Finset.sum_congr rfl fun k _ => ?_
  rw [ha.readAt_unread, hb.readAt_unread]
  refine congrArg₂ (· * ·) (congrArg x0 ?_) (congrArg x1 ?_)
  · funext d
    refine Fin.ext ?_
    fin_cases d
    · rfl
    · exact (Nat.zero_add _).trans (Nat.one_mul _)
    · exact (Nat.zero_add _).trans (Nat.one_mul _)
  · funext d
    refine Fin.ext ?_
    fin_cases d
    · exact (Nat.zero_add _).trans (Nat.one_mul _)
    · exact congrArg (o + ·) (Nat.one_mul _)

/-- A whole block of positions, loaded. -/
theorem positions_eq (a : Memref sig .tc .vmem S1x512x1 .i32) (ha : a.IsWhole) :
    View.readAt (Elt Ideal) a.view (Rect.unit (s := S1x512x1) ![0, 0, 0] S1x512x1.size inb_S1x512x1_S1x512x1_0_0_0).toLoadRect (ha.unread x2) = x2 := by
  funext y
  refine (ha.readAt_unread x2 _ y).trans (congrArg x2 ?_)
  funext d
  refine Fin.ext ?_
  fin_cases d
  · exact (Nat.zero_add _).trans (Nat.one_mul _)
  · exact (Nat.zero_add _).trans (Nat.one_mul _)
  · exact (Nat.zero_add _).trans (Nat.one_mul _)

section

variable (a : Memref sig .tc .vmem S1x512x1024 .f32) (ha : a.IsWhole) (b : Memref sig .tc .vmem S1024x3328 .bf16) (hb : b.IsWhole)
  (p : Memref sig .tc .vmem S1x512x1 .i32) (hp : p.IsWhole)

/-- 128 lanes of the projection. -/
def slice (x0 : Vec Ideal S1x512x1024 .f32) (x1 : Vec Ideal S1024x3328 .bf16) (o w : ℕ)
    (h : ∀ d, (![0, o] : Fin 2 → ℕ) d + S1024x512.size d ≤ S1024x3328.size d) (hw : S512x512.Slices ![0, w] S512x128) : FVec Ideal S512x128 .f32 :=
  extractStridedSlice S512x128 ![0, w] (columns a ha b hb x0 x1 o h) hw

/-- 128 lanes of it rotated and scaled. -/
def slicedTurn (x0 : Vec Ideal S1x512x1024 .f32) (x1 : Vec Ideal S1024x3328 .bf16) (x2 : Vec Ideal S1x512x1 .i32) (s : BitVec 32) (o w : ℕ)
    (h : ∀ d, (![0, o] : Fin 2 → ℕ) d + S1024x512.size d ≤ S1024x3328.size d) (hw : S512x512.Slices ![0, w] S512x128) : FVec Ideal S512x128 .f32 :=
  turned (View.readAt (Elt Ideal) p.view (Rect.unit (s := S1x512x1) ![0, 0, 0] S1x512x1.size inb_S1x512x1_S1x512x1_0_0_0).toLoadRect (hp.unread x2)) s
    (slice a ha b hb x0 x1 o w h hw)

variable {o w j : ℕ} (hj : w = 128 * j) (h : ∀ d, (![0, o] : Fin 2 → ℕ) d + S1024x512.size d ≤ S1024x3328.size d)
  (hw : S512x512.Slices ![0, w] S512x128)

include hj

theorem slice_apply (hj4 : j < 4) (n : Fin 512) (l : Fin 128) : slice a ha b hb x0 x1 o w h hw (ix2 n l) = blockRow x0 x1 n (o + (128 * j + l.val)) := by
  subst hj
  have hl : 128 * j + l.val < 512 := by have := l.isLt; omega
  rw [← columns_apply a ha b hb o h n ⟨128 * j + l.val, hl⟩]
  refine congrArg (columns a ha b hb x0 x1 o h) ?_
  funext d
  refine Fin.ext ?_
  fin_cases d
  · exact Nat.zero_add _
  · rfl

theorem slicedTurn_apply (hj4 : j < 4) (s : BitVec 32) (n : Fin 512) (l : Fin 128) :
    slicedTurn a ha b hb p hp x0 x1 x2 s o w h hw (ix2 n l)
      = rope (place x2 n) (fun l => blockRow x0 x1 n (o + l)) (128 * j + l.val) * Ideal.ofBits .f32 s := by
  unfold slicedTurn
  rw [turned_apply, positions_eq]
  refine congrArg (· * _) (rope_block _ (fun l => blockRow x0 x1 n (o + l)) _ j l.val l.isLt fun l' hl' => ?_)
  rw [lanes, dif_pos hl']
  exact slice_apply a ha b hb hj h hw hj4 n ⟨l', hl'⟩

end

theorem queries (a ha b hb p hp) {w : ℕ} (j : ℕ) (hj4 : j < 4) (hj : w = 128 * j) (h hw) (n : Fin 512) (l : Fin 128) :
    slicedTurn a ha b hb p hp x0 x1 x2 0x3E000000#32 0 w h hw (ix2 n l) = blockPart x0 x1 x2 0 n.val (128 * j + l.val) := by
  rw [slicedTurn_apply a ha b hb p hp hj h hw hj4, blockPart, dif_pos n.isLt]
  simp only [Nat.zero_add]
  rfl

theorem keys (a ha b hb p hp) {w : ℕ} (j : ℕ) (hj4 : j < 4) (hj : w = 128 * j) (h hw) (n : Fin 512) (l : Fin 128) :
    slicedTurn a ha b hb p hp x0 x1 x2 0x3F800000#32 512 w h hw (ix2 n l) = blockPart x0 x1 x2 1 n.val (128 * j + l.val) := by
  rw [slicedTurn_apply a ha b hb p hp hj h hw hj4, blockPart, dif_pos n.isLt, Ideal.ofBits_one_f32, mul_one]
  rfl

theorem values (a ha b hb) {w : ℕ} (j : ℕ) (hj4 : j < 4) (hj : w = 128 * j) (h hw) (n : Fin 512) (l : Fin 128) :
    slice a ha b hb x0 x1 1024 w h hw (ix2 n l) = blockPart x0 x1 x2 2 n.val (128 * j + l.val) := by
  rw [slice_apply a ha b hb hj h hw hj4, blockPart, dif_pos n.isLt]
  rfl

/-! ## The stores -/

section

variable {f : FVec Ideal S512x128 .f32} {j w : ℕ} (hf : ∀ (n : Fin 512) (l : Fin 128), f (ix2 n l) = blockPart x0 x1 x2 g n.val (128 * j + l.val))

include hf

/-- A store of 128 lanes in the first scratch, -/
theorem store_stage (hc : S512x128.ShapeCasts S1x512x128) (inb : ∀ a, (![j, 0, 0] : Fin 3 → ℕ) a + S1x512x128.size a ≤ S4x512x128.size a)
    (x : (Rect.unit (s := S4x512x128) ![j, 0, 0] S1x512x128.size inb).shape.Idx) :
    shapeCast S1x512x128 f hc x = stageOf x0 x1 x2 g ((Rect.unit (s := S4x512x128) ![j, 0, 0] S1x512x128.size inb).emb x) := by
  have e : ∀ (n : Fin 512) (l : Fin 128), shapeCast S1x512x128 f hc (ix3 0 n l) = f (ix2 n l) := fun n l => by pointwise
  have hx : x = (ix3 0 (x 1) (x 2) : S1x512x128.Idx) := by
    refine (eq_ix3 (n0 := 1) (n1 := 512) (n2 := 128) x).trans ?_
    exact congrArg (fun z : Fin 1 => (ix3 z (x 1) (x 2) : S1x512x128.Idx)) (Subsingleton.elim (α := Fin 1) _ _)
  have h0 : (x 0).val = 0 := Nat.lt_one_iff.mp (x 0).isLt
  refine ((congrArg _ hx).trans ((e _ _).trans (hf _ _))).trans ?_
  change _ = blockPart x0 x1 x2 g (0 + 1 * (x 1).val) (128 * (j + 1 * (x 0).val) + (0 + 1 * (x 2).val))
  rw [h0]
  exact congrArg₂ (blockPart x0 x1 x2 g) (by omega) (by omega)

/-- and in the part in order. -/
theorem store_order (hw : w = 128 * j) (ht : FTy.bits .bf16 < FTy.bits .f32) (hc : S512x128.ShapeCasts S1x512x128)
    (inb : ∀ a, (![0, 0, w] : Fin 3 → ℕ) a + S1x512x128.size a ≤ S1x512x512.size a)
    (x : (Rect.unit (s := S1x512x512) ![0, 0, w] S1x512x128.size inb).shape.Idx) :
    shapeCast S1x512x128 (truncf (F := Ideal) .bf16 f ht) hc x = inOrder x0 x1 x2 g ((Rect.unit (s := S1x512x512) ![0, 0, w] S1x512x128.size inb).emb x) := by
  have e : ∀ (n : Fin 512) (l : Fin 128), shapeCast S1x512x128 (truncf (F := Ideal) .bf16 f ht) hc (ix3 0 n l) = f (ix2 n l) := fun n l => by pointwise
  have hx : x = (ix3 0 (x 1) (x 2) : S1x512x128.Idx) := by
    refine (eq_ix3 (n0 := 1) (n1 := 512) (n2 := 128) x).trans ?_
    exact congrArg (fun z : Fin 1 => (ix3 z (x 1) (x 2) : S1x512x128.Idx)) (Subsingleton.elim (α := Fin 1) _ _)
  refine ((congrArg _ hx).trans ((e _ _).trans (hf _ _))).trans ?_
  change _ = blockPart x0 x1 x2 g (0 + 1 * (x 1).val) (w + 1 * (x 2).val)
  exact congrArg₂ (blockPart x0 x1 x2 g) (by omega) (by omega)

end

section

variable {L : List (View.Piece (Elt Ideal) S4x512x128 .f32)} {j r w q : ℕ} (v : Memref sig .tc .vmem S4x512x128 .f32)

/-- Every fourth row of the first scratch, stored as a class modulo 4, -/
theorem store_four (hL : ∀ y, View.canon L y = stageOf x0 x1 x2 g y) (hw : w = 128 * j)
    (inb' : ∀ a, S1x128x128.size a = 0 ∨ (![j, r, 0] : Fin 3 → ℕ) a + (![1, 4, 1] : Fin 3 → ℕ) a * (S1x128x128.size a - 1) < S4x512x128.size a)
    (h1 : S1x128x128.ShapeCasts S128x128) (ht : FTy.bits .bf16 < FTy.bits .f32) (hc : S128x128.ShapeCasts S1x1x128x128)
    (inb : ∀ a, (![0, r, 0, w] : Fin 4 → ℕ) a + S1x1x128x128.size a ≤ S1x4x128x512.size a)
    (x : (Rect.unit (s := S1x4x128x512) ![0, r, 0, w] S1x1x128x128.size inb).shape.Idx) :
    shapeCast S1x1x128x128 (truncf (F := Ideal) .bf16 (shapeCast S128x128 (v.view.readCov L ⟨![j, r, 0], S1x128x128.size, ![1, 4, 1], inb'⟩) h1) ht) hc x
      = byFour x0 x1 x2 g ((Rect.unit (s := S1x4x128x512) ![0, r, 0, w] S1x1x128x128.size inb).emb x) := by
  rw [View.readCov_eq_canon']
  have e : ∀ (z : Vec Ideal S1x128x128 .f32) (n l : Fin 128),
      shapeCast S1x1x128x128 (truncf (F := Ideal) .bf16 (shapeCast S128x128 z h1) ht) hc (ix4 0 0 n l) = z (ix3 0 n l) := fun z n l => by pointwise
  have hx : x = (ix4 0 0 (x 2) (x 3) : S1x1x128x128.Idx) := by
    refine (eq_ix4 (n0 := 1) (n1 := 1) (n2 := 128) (n3 := 128) x).trans ?_
    exact congrArg₂ (fun z z' : Fin 1 => (ix4 z z' (x 2) (x 3) : S1x1x128x128.Idx)) (Subsingleton.elim (α := Fin 1) _ _) (Subsingleton.elim (α := Fin 1) _ _)
  have h0 : (x 1).val = 0 := Nat.lt_one_iff.mp (x 1).isLt
  refine ((congrArg _ hx).trans ((e _ _ _).trans (hL _))).trans ?_
  change blockPart x0 x1 x2 g (r + 4 * (x 2).val) (128 * (j + 1 * 0) + (0 + 1 * (x 3).val))
    = blockPart x0 x1 x2 g (4 * (0 + 1 * (x 2).val) + (r + 1 * (x 1).val)) (w + 1 * (x 3).val)
  rw [h0]
  exact congrArg₂ (blockPart x0 x1 x2 g) (by omega) (by omega)

/-- and in the second scratch. -/
theorem store_restage (hL : ∀ y, View.canon L y = stageOf x0 x1 x2 g y) (hq : q = 128 * r)
    (inb' : ∀ a, S1x128x128.size a = 0 ∨ (![j, r, 0] : Fin 3 → ℕ) a + (![1, 4, 1] : Fin 3 → ℕ) a * (S1x128x128.size a - 1) < S4x512x128.size a)
    (h1 : S1x128x128.ShapeCasts S128x128) (hc : S128x128.ShapeCasts S1x128x128)
    (inb : ∀ a, (![j, q, 0] : Fin 3 → ℕ) a + S1x128x128.size a ≤ S4x512x128.size a)
    (x : (Rect.unit (s := S4x512x128) ![j, q, 0] S1x128x128.size inb).shape.Idx) :
    shapeCast S1x128x128 (shapeCast S128x128 (v.view.readCov L ⟨![j, r, 0], S1x128x128.size, ![1, 4, 1], inb'⟩) h1) hc x
      = restageOf x0 x1 x2 g ((Rect.unit (s := S4x512x128) ![j, q, 0] S1x128x128.size inb).emb x) := by
  rw [View.readCov_eq_canon']
  have e : ∀ (z : Vec Ideal S1x128x128 .f32) (n l : Fin 128), shapeCast S1x128x128 (shapeCast S128x128 z h1) hc (ix3 0 n l) = z (ix3 0 n l) :=
    fun z n l => by pointwise
  have hx : x = (ix3 0 (x 1) (x 2) : S1x128x128.Idx) := by
    refine (eq_ix3 (n0 := 1) (n1 := 128) (n2 := 128) x).trans ?_
    exact congrArg (fun z : Fin 1 => (ix3 z (x 1) (x 2) : S1x128x128.Idx)) (Subsingleton.elim (α := Fin 1) _ _)
  have h0 : (x 0).val = 0 := Nat.lt_one_iff.mp (x 0).isLt
  have h1 : (x 1).val < 128 := (x 1).isLt
  refine ((congrArg _ hx).trans ((e _ _ _).trans (hL _))).trans ?_
  change blockPart x0 x1 x2 g (r + 4 * (x 1).val) (128 * (j + 1 * 0) + (0 + 1 * (x 2).val))
    = blockPart x0 x1 x2 g (4 * ((q + 1 * (x 1).val) % 128) + (q + 1 * (x 1).val) / 128) (128 * (j + 1 * (x 0).val) + (0 + 1 * (x 2).val))
  rw [h0]
  exact congrArg₂ (blockPart x0 x1 x2 g) (by omega) (by omega)

/-- Every fourth row of a quarter of the second scratch, stored as a class modulo 16. -/
theorem store_sixteen (hL : ∀ y, View.canon L y = restageOf x0 x1 x2 g y) (hw : w = 128 * j) (hr : r < 16) (hq : q = r % 4 * 128 + r / 4)
    (inb' : ∀ a, S1x32x128.size a = 0 ∨ (![j, q, 0] : Fin 3 → ℕ) a + (![1, 4, 1] : Fin 3 → ℕ) a * (S1x32x128.size a - 1) < S4x512x128.size a)
    (h1 : S1x32x128.ShapeCasts S32x128) (ht : FTy.bits .bf16 < FTy.bits .f32) (hc : S32x128.ShapeCasts S1x1x32x128)
    (inb : ∀ a, (![0, r, 0, w] : Fin 4 → ℕ) a + S1x1x32x128.size a ≤ S1x16x32x512.size a)
    (x : (Rect.unit (s := S1x16x32x512) ![0, r, 0, w] S1x1x32x128.size inb).shape.Idx) :
    shapeCast S1x1x32x128 (truncf (F := Ideal) .bf16 (shapeCast S32x128 (v.view.readCov L ⟨![j, q, 0], S1x32x128.size, ![1, 4, 1], inb'⟩) h1) ht) hc x
      = bySixteen x0 x1 x2 g ((Rect.unit (s := S1x16x32x512) ![0, r, 0, w] S1x1x32x128.size inb).emb x) := by
  rw [View.readCov_eq_canon']
  have e : ∀ (z : Vec Ideal S1x32x128 .f32) (n : Fin 32) (l : Fin 128),
      shapeCast S1x1x32x128 (truncf (F := Ideal) .bf16 (shapeCast S32x128 z h1) ht) hc (ix4 0 0 n l) = z (ix3 0 n l) := fun z n l => by pointwise
  have hx : x = (ix4 0 0 (x 2) (x 3) : S1x1x32x128.Idx) := by
    refine (eq_ix4 (n0 := 1) (n1 := 1) (n2 := 32) (n3 := 128) x).trans ?_
    exact congrArg₂ (fun z z' : Fin 1 => (ix4 z z' (x 2) (x 3) : S1x1x32x128.Idx)) (Subsingleton.elim (α := Fin 1) _ _) (Subsingleton.elim (α := Fin 1) _ _)
  have h0 : (x 1).val = 0 := Nat.lt_one_iff.mp (x 1).isLt
  have h2 : (x 2).val < 32 := (x 2).isLt
  refine ((congrArg _ hx).trans ((e _ _ _).trans (hL _))).trans ?_
  change blockPart x0 x1 x2 g (4 * ((q + 4 * (x 2).val) % 128) + (q + 4 * (x 2).val) / 128) (128 * (j + 1 * 0) + (0 + 1 * (x 3).val))
    = blockPart x0 x1 x2 g (16 * (0 + 1 * (x 2).val) + (r + 1 * (x 1).val)) (w + 1 * (x 3).val)
  rw [h0]
  have e1 : (q + 4 * (x 2).val) % 128 = r / 4 + 4 * (x 2).val := by omega
  have e2 : (q + 4 * (x 2).val) / 128 = r % 4 := by omega
  rw [e1, e2]
  exact congrArg₂ (blockPart x0 x1 x2 g) (by omega) (by omega)

end

end

end Cert.Kernel3Ideal
-- ==== Proof.ProjRun.lean ====
/-
  What one run of the input projection leaves: the stores in the scratches and in the nine arrays of parts are the
  pieces of `ProjBlock`'s functions of the block, 128 lanes by 128 lanes.
-/
module

public import proofs.«01_k».proof.Proof.ProjBlock
public import proofs.«01_k».proof.Proof.Gen.Kernel3Ideal.Value

@[expose] public section

set_option maxRecDepth 16384

noncomputable section

namespace Cert.Kernel3Ideal

open Idealize.ShloMosaic Idealize.ShloMosaic.TcCoe Idealize.SL.Sem Gen InputProjection

/-! ## The lists of stores, newest first -/

/-- The four blocks of 128 lanes. -/
def lanesDown : List (Fin 4) := [3, 2, 1, 0]

/-- The 16 classes modulo 16, those of one class modulo 4 together. -/
def classesDown : List (Fin 16) := [15, 11, 7, 3, 14, 10, 6, 2, 13, 9, 5, 1, 12, 8, 4, 0]

theorem slices_lanes (j : Fin 4) : S512x512.Slices ![0, 128 * j.val] S512x128 := by revert j; decide

theorem inb_stage (j : Fin 4) : ∀ a, (![j.val, 0, 0] : Fin 3 → ℕ) a + S1x512x128.size a ≤ S4x512x128.size a := by revert j; decide

theorem inb_order (j : Fin 4) : ∀ a, (![0, 0, 128 * j.val] : Fin 3 → ℕ) a + S1x512x128.size a ≤ S1x512x512.size a := by revert j; decide

theorem inb_four (r j : Fin 4) : ∀ a, (![0, r.val, 0, 128 * j.val] : Fin 4 → ℕ) a + S1x1x128x128.size a ≤ S1x4x128x512.size a := by revert r j; decide

theorem inb_restage (r j : Fin 4) : ∀ a, (![j.val, 128 * r.val, 0] : Fin 3 → ℕ) a + S1x128x128.size a ≤ S4x512x128.size a := by revert r j; decide

theorem inb_sixteen (r : Fin 16) (j : Fin 4) : ∀ a, (![0, r.val, 0, 128 * j.val] : Fin 4 → ℕ) a + S1x1x32x128.size a ≤ S1x16x32x512.size a := by
  revert r j; decide

theorem inb_fourth (r j : Fin 4) :
    ∀ a, S1x128x128.size a = 0 ∨ (![j.val, r.val, 0] : Fin 3 → ℕ) a + (![1, 4, 1] : Fin 3 → ℕ) a * (S1x128x128.size a - 1) < S4x512x128.size a := by
  revert r j; decide

theorem inb_sixteenth (r : Fin 16) (j : Fin 4) :
    ∀ a, S1x32x128.size a = 0
      ∨ (![j.val, r.val % 4 * 128 + r.val / 4, 0] : Fin 3 → ℕ) a + (![1, 4, 1] : Fin 3 → ℕ) a * (S1x32x128.size a - 1) < S4x512x128.size a := by
  revert r j; decide

theorem casts_fourth : S1x128x128.ShapeCasts S128x128 := by decide

theorem casts_sixteenth : S1x32x128.ShapeCasts S32x128 := by decide

theorem narrower : FTy.bits .bf16 < FTy.bits .f32 := by decide

section

variable (f : Fin 4 → FVec Ideal S512x128 .f32) (v : Memref sig .tc .vmem S4x512x128 .f32) (L : List (View.Piece (Elt Ideal) S4x512x128 .f32))

/-- A part's stores in the first scratch, -/
def stagePieces : List (View.Piece (Elt Ideal) S4x512x128 .f32) :=
  lanesDown.map fun j => ⟨Rect.unit (s := S4x512x128) ![j.val, 0, 0] S1x512x128.size (inb_stage j), shapeCast S1x512x128 (f j) (by decide)⟩

/-- in the array in order, -/
def orderPieces : List (View.Piece (Elt Ideal) S1x512x512 .bf16) :=
  lanesDown.map fun j => ⟨Rect.unit (s := S1x512x512) ![0, 0, 128 * j.val] S1x512x128.size (inb_order j),
    shapeCast S1x512x128 (truncf (F := Ideal) .bf16 (f j) (by decide)) (by decide)⟩

/-- from the first scratch in the array by classes modulo 4, -/
def fourPieces : List (View.Piece (Elt Ideal) S1x4x128x512 .bf16) :=
  lanesDown.flatMap fun r => lanesDown.map fun j => ⟨Rect.unit (s := S1x4x128x512) ![0, r.val, 0, 128 * j.val] S1x1x128x128.size (inb_four r j),
    shapeCast S1x1x128x128 (truncf (F := Ideal) .bf16
      (shapeCast S128x128 (v.view.readCov L ⟨![j.val, r.val, 0], S1x128x128.size, ![1, 4, 1], inb_fourth r j⟩) casts_fourth) narrower) (by decide)⟩

/-- and in the second scratch, -/
def restagePieces : List (View.Piece (Elt Ideal) S4x512x128 .f32) :=
  lanesDown.flatMap fun r => lanesDown.map fun j => ⟨Rect.unit (s := S4x512x128) ![j.val, 128 * r.val, 0] S1x128x128.size (inb_restage r j),
    shapeCast S1x128x128
      (shapeCast S128x128 (v.view.readCov L ⟨![j.val, r.val, 0], S1x128x128.size, ![1, 4, 1], inb_fourth r j⟩) casts_fourth) (by decide)⟩

/-- and from there in the array by classes modulo 16. -/
def sixteenPieces : List (View.Piece (Elt Ideal) S1x16x32x512 .bf16) :=
  classesDown.flatMap fun r => lanesDown.map fun j => ⟨Rect.unit (s := S1x16x32x512) ![0, r.val, 0, 128 * j.val] S1x1x32x128.size (inb_sixteen r j),
    shapeCast S1x1x32x128 (truncf (F := Ideal) .bf16
      (shapeCast S32x128 (v.view.readCov L ⟨![j.val, r.val % 4 * 128 + r.val / 4, 0], S1x32x128.size, ![1, 4, 1], inb_sixteenth r j⟩) casts_sixteenth) narrower) (by decide)⟩

end

/-! ## What they leave -/

section

variable {x0 : Vec Ideal S1x512x1024 .f32} {x1 : Vec Ideal S1024x3328 .bf16} {x2 : Vec Ideal S1x512x1 .i32} {g : Fin 3}
  {f : Fin 4 → FVec Ideal S512x128 .f32} (v : Memref sig .tc .vmem S4x512x128 .f32) {L : List (View.Piece (Elt Ideal) S4x512x128 .f32)}

theorem stage_canon (hf : ∀ (j : Fin 4) (n : Fin 512) (l : Fin 128), f j (ix2 n l) = blockPart x0 x1 x2 g n.val (128 * j.val + l.val)) (y : S4x512x128.Idx) :
    View.canon (stagePieces f ++ L) y = stageOf x0 x1 x2 g y := by
  refine View.canon_append_of_pieces _ _ _ (fun p hp => ?_) y (View.cover_of_tiledL (stagePieces f) S1x512x128.size (by sl_kernel_rfl) y)
  obtain ⟨j, -, rfl⟩ := List.mem_map.mp hp
  exact store_stage (hf j) (by decide) (inb_stage j)

theorem order_canon (hf : ∀ (j : Fin 4) (n : Fin 512) (l : Fin 128), f j (ix2 n l) = blockPart x0 x1 x2 g n.val (128 * j.val + l.val)) (y : S1x512x512.Idx) :
    View.canon (orderPieces f) y = inOrder x0 x1 x2 g y := by
  refine View.canon_apply_of_pieces _ _ (fun p hp => ?_) y (View.cover_of_tiledL (orderPieces f) S1x512x128.size (by sl_kernel_rfl) y)
  obtain ⟨j, -, rfl⟩ := List.mem_map.mp hp
  exact store_order (hf j) rfl narrower (by decide) (inb_order j)

theorem four_canon (hL : ∀ y, View.canon L y = stageOf x0 x1 x2 g y) (y : S1x4x128x512.Idx) :
    View.canon (fourPieces v L) y = byFour x0 x1 x2 g y := by
  refine View.canon_apply_of_pieces _ _ (fun p hp => ?_) y (View.cover_of_tiledL (fourPieces v L) S1x1x128x128.size (by sl_kernel_rfl) y)
  obtain ⟨r, -, hp⟩ := List.mem_flatMap.mp hp
  obtain ⟨j, -, rfl⟩ := List.mem_map.mp hp
  exact store_four v hL rfl (inb_fourth r j) casts_fourth narrower (by decide) (inb_four r j)

theorem restage_canon (hL : ∀ y, View.canon L y = stageOf x0 x1 x2 g y) (L' : List (View.Piece (Elt Ideal) S4x512x128 .f32)) (y : S4x512x128.Idx) :
    View.canon (restagePieces v L ++ L') y = restageOf x0 x1 x2 g y := by
  refine View.canon_append_of_pieces _ _ _ (fun p hp => ?_) y (View.cover_of_tiledL (restagePieces v L) S1x128x128.size (by sl_kernel_rfl) y)
  obtain ⟨r, -, hp⟩ := List.mem_flatMap.mp hp
  obtain ⟨j, -, rfl⟩ := List.mem_map.mp hp
  exact store_restage v hL rfl (inb_fourth r j) casts_fourth (by decide) (inb_restage r j)

theorem sixteen_canon (hL : ∀ y, View.canon L y = restageOf x0 x1 x2 g y) (y : S1x16x32x512.Idx) :
    View.canon (sixteenPieces v L) y = bySixteen x0 x1 x2 g y := by
  refine View.canon_apply_of_pieces _ _ (fun p hp => ?_) y (View.cover_of_tiledL (sixteenPieces v L) S1x1x32x128.size (by sl_kernel_rfl) y)
  obtain ⟨r, -, hp⟩ := List.mem_flatMap.mp hp
  obtain ⟨j, -, rfl⟩ := List.mem_map.mp hp
  exact store_sixteen (j := j.val) v hL rfl r.isLt rfl (inb_sixteenth r j) casts_sixteenth narrower (by decide) (inb_sixteen r j)

end

/-! ## The run's lists are these -/

section

variable (c : Dev nD) (arg2 : Memref sig .tc .vmem S1x512x1024 .f32) (harg2 : arg2.IsWhole) (arg3 : Memref sig .tc .vmem S1024x3328 .bf16)
  (harg3 : arg3.IsWhole) (arg4 : Memref sig .tc .vmem S1x512x1 .i32) (harg4 : arg4.IsWhole) (arg15 : Memref sig .tc .vmem S4x512x128 .f32)
  (x0 : Vec Ideal S1x512x1024 .f32) (x1 : Vec Ideal S1024x3328 .bf16) (x2 : Vec Ideal S1x512x1 .i32)

/-- The body's queries, keys and values, 128 lanes at a time. -/
def laneBlocks : Fin 3 → Fin 4 → FVec Ideal S512x128 .f32
  | 0, j => slicedTurn arg2 harg2 arg3 harg3 arg4 harg4 x0 x1 x2 0x3E000000#32 0 (128 * j.val) inb_S1024x3328_S1024x512_0_0 (slices_lanes j)
  | 1, j => slicedTurn arg2 harg2 arg3 harg3 arg4 harg4 x0 x1 x2 0x3F800000#32 512 (128 * j.val) inb_S1024x3328_S1024x512_0_512 (slices_lanes j)
  | 2, j => slice arg2 harg2 arg3 harg3 x0 x1 1024 (128 * j.val) inb_S1024x3328_S1024x512_0_1024 (slices_lanes j)

theorem laneBlocks_apply (g : Fin 3) (j : Fin 4) (n : Fin 512) (l : Fin 128) :
    laneBlocks arg2 harg2 arg3 harg3 arg4 harg4 x0 x1 x2 g j (ix2 n l) = blockPart x0 x1 x2 g n.val (128 * j.val + l.val) := by
  match g with
  | 0 => exact queries arg2 harg2 arg3 harg3 arg4 harg4 j.val j.isLt rfl _ _ n l
  | 1 => exact keys arg2 harg2 arg3 harg3 arg4 harg4 j.val j.isLt rfl _ _ n l
  | 2 => exact values arg2 harg2 arg3 harg3 j.val j.isLt rfl _ _ n l

/-- What the first scratch has been given once a part is in it. -/
def stages : Fin 3 → List (View.Piece (Elt Ideal) S4x512x128 .f32)
  | 0 => kernelRun0_A.sl.HS0_4 c arg2 harg2 arg3 harg3 arg4 harg4 x0 x1 x2
  | 1 => kernelRun0_A.sl.HS0_8 c arg2 harg2 arg3 harg3 arg4 harg4 x0 x1 x2
  | 2 => kernelRun0_A.sl.HS0_12 c arg2 harg2 arg3 harg3 arg4 harg4 x0 x1 x2

theorem stages_zero : stages c arg2 harg2 arg3 harg3 arg4 harg4 x0 x1 x2 0 = stagePieces (laneBlocks arg2 harg2 arg3 harg3 arg4 harg4 x0 x1 x2 0) ++ [] := by
  sl_kernel_rfl

theorem stages_one : stages c arg2 harg2 arg3 harg3 arg4 harg4 x0 x1 x2 1
    = stagePieces (laneBlocks arg2 harg2 arg3 harg3 arg4 harg4 x0 x1 x2 1) ++ stages c arg2 harg2 arg3 harg3 arg4 harg4 x0 x1 x2 0 := by sl_kernel_rfl

theorem stages_two : stages c arg2 harg2 arg3 harg3 arg4 harg4 x0 x1 x2 2
    = stagePieces (laneBlocks arg2 harg2 arg3 harg3 arg4 harg4 x0 x1 x2 2) ++ stages c arg2 harg2 arg3 harg3 arg4 harg4 x0 x1 x2 1 := by sl_kernel_rfl

theorem stages_canon (g : Fin 3) (y : S4x512x128.Idx) :
    View.canon (stages c arg2 harg2 arg3 harg3 arg4 harg4 x0 x1 x2 g) y = stageOf x0 x1 x2 g y := by
  match g with
  | 0 => rw [stages_zero]; exact stage_canon (laneBlocks_apply _ _ _ _ _ _ _ _ _ 0) y
  | 1 => rw [stages_one]; exact stage_canon (laneBlocks_apply _ _ _ _ _ _ _ _ _ 1) y
  | 2 => rw [stages_two]; exact stage_canon (laneBlocks_apply _ _ _ _ _ _ _ _ _ 2) y

/-- And the second scratch. -/
def restages : Fin 3 → List (View.Piece (Elt Ideal) S4x512x128 .f32)
  | 0 => kernelRun0_A.sl.HS1_16 c arg2 harg2 arg3 harg3 arg4 harg4 arg15 x0 x1 x2
  | 1 => kernelRun0_A.sl.HS1_32 c arg2 harg2 arg3 harg3 arg4 harg4 arg15 x0 x1 x2
  | 2 => kernelRun0_A.sl.HS1_48 c arg2 harg2 arg3 harg3 arg4 harg4 arg15 x0 x1 x2

theorem restages_zero : restages c arg2 harg2 arg3 harg3 arg4 harg4 arg15 x0 x1 x2 0
    = restagePieces arg15 (stages c arg2 harg2 arg3 harg3 arg4 harg4 x0 x1 x2 0) ++ [] := by sl_kernel_rfl

theorem restages_one : restages c arg2 harg2 arg3 harg3 arg4 harg4 arg15 x0 x1 x2 1
    = restagePieces arg15 (stages c arg2 harg2 arg3 harg3 arg4 harg4 x0 x1 x2 1) ++ restages c arg2 harg2 arg3 harg3 arg4 harg4 arg15 x0 x1 x2 0 := by sl_kernel_rfl

theorem restages_two : restages c arg2 harg2 arg3 harg3 arg4 harg4 arg15 x0 x1 x2 2
    = restagePieces arg15 (stages c arg2 harg2 arg3 harg3 arg4 harg4 x0 x1 x2 2) ++ restages c arg2 harg2 arg3 harg3 arg4 harg4 arg15 x0 x1 x2 1 := by sl_kernel_rfl

theorem restages_canon (g : Fin 3) (y : S4x512x128.Idx) :
    View.canon (restages c arg2 harg2 arg3 harg3 arg4 harg4 arg15 x0 x1 x2 g) y = restageOf x0 x1 x2 g y := by
  match g with
  | 0 => rw [restages_zero]; exact restage_canon arg15 (stages_canon c arg2 harg2 arg3 harg3 arg4 harg4 x0 x1 x2 0) _ y
  | 1 => rw [restages_one]; exact restage_canon arg15 (stages_canon c arg2 harg2 arg3 harg3 arg4 harg4 x0 x1 x2 1) _ y
  | 2 => rw [restages_two]; exact restage_canon arg15 (stages_canon c arg2 harg2 arg3 harg3 arg4 harg4 x0 x1 x2 2) _ y

end

/-! ## The arrays' blocks at a grid point -/

section

variable (m : (ℓ : Loc nD τ sig) → Buf (Elt Ideal) ℓ) (c : Dev nD) (t : Fin cfg0.N)

/-- The lane blocks of point `t`. -/
abbrev blocksAt (g : Fin 3) : Fin 4 → FVec Ideal S512x128 .f32 :=
  laneBlocks (ms0_0 t) (hs0_0 t) (ms0_1 t) (hs0_1 t) (ms0_2 t) (hs0_2 t) (iblk m c 0 t) (iblk m c 1 t) (iblk m c 2 t) g

abbrev stagesAt (g : Fin 3) : List (View.Piece (Elt Ideal) S4x512x128 .f32) :=
  stages c (ms0_0 t) (hs0_0 t) (ms0_1 t) (hs0_1 t) (ms0_2 t) (hs0_2 t) (iblk m c 0 t) (iblk m c 1 t) (iblk m c 2 t) g

abbrev restagesAt (g : Fin 3) : List (View.Piece (Elt Ideal) S4x512x128 .f32) :=
  restages c (ms0_0 t) (hs0_0 t) (ms0_1 t) (hs0_1 t) (ms0_2 t) (hs0_2 t) scM0_0 (iblk m c 0 t) (iblk m c 1 t) (iblk m c 2 t) g

/-- A block read back from stores of known contents. -/
theorem left_of {s : Shape} {e : EltTy} {k : Kind} {sp : Space} (v : View sig k sp s e) {L L' : List (View.Piece (Elt Ideal) s e)} {G : Vec Ideal s e}
    (hL : L = L') (h : ∀ y, View.canon L' y = G y) : v.read (Elt Ideal) (v.writes (Elt Ideal) v.junk L) = G := by
  rw [View.read_writes_junk_eq_canon, hL]
  exact funext h

theorem block3 : (outsAt0 m c t).1 = inOrder (iblk m c 0 t) (iblk m c 1 t) (iblk m c 2 t) 0 := by
  unfold outsAt0 out0_A_3
  dsimp only
  exact left_of _ (show _ = orderPieces (blocksAt m c t 0) by sl_kernel_rfl) (order_canon (laneBlocks_apply _ _ _ _ _ _ _ _ _ 0))
theorem block4 : (outsAt0 m c t).2.1 = inOrder (iblk m c 0 t) (iblk m c 1 t) (iblk m c 2 t) 1 := by
  unfold outsAt0 out0_A_4
  dsimp only
  exact left_of _ (show _ = orderPieces (blocksAt m c t 1) by sl_kernel_rfl) (order_canon (laneBlocks_apply _ _ _ _ _ _ _ _ _ 1))
theorem block5 : (outsAt0 m c t).2.2.1 = inOrder (iblk m c 0 t) (iblk m c 1 t) (iblk m c 2 t) 2 := by
  unfold outsAt0 out0_A_5
  dsimp only
  exact left_of _ (show _ = orderPieces (blocksAt m c t 2) by sl_kernel_rfl) (order_canon (laneBlocks_apply _ _ _ _ _ _ _ _ _ 2))
theorem block6 : (outsAt0 m c t).2.2.2.1 = byFour (iblk m c 0 t) (iblk m c 1 t) (iblk m c 2 t) 0 := by
  unfold outsAt0 out0_A_6
  dsimp only
  exact left_of _ (show _ = fourPieces scM0_0 (stagesAt m c t 0) by sl_kernel_rfl) (four_canon _ (stages_canon _ _ _ _ _ _ _ _ _ _ 0))
theorem block7 : (outsAt0 m c t).2.2.2.2.1 = byFour (iblk m c 0 t) (iblk m c 1 t) (iblk m c 2 t) 1 := by
  unfold outsAt0 out0_A_7
  dsimp only
  exact left_of _ (show _ = fourPieces scM0_0 (stagesAt m c t 1) by sl_kernel_rfl) (four_canon _ (stages_canon _ _ _ _ _ _ _ _ _ _ 1))
theorem block8 : (outsAt0 m c t).2.2.2.2.2.1 = byFour (iblk m c 0 t) (iblk m c 1 t) (iblk m c 2 t) 2 := by
  unfold outsAt0 out0_A_8
  dsimp only
  exact left_of _ (show _ = fourPieces scM0_0 (stagesAt m c t 2) by sl_kernel_rfl) (four_canon _ (stages_canon _ _ _ _ _ _ _ _ _ _ 2))
theorem block9 : (outsAt0 m c t).2.2.2.2.2.2.1 = bySixteen (iblk m c 0 t) (iblk m c 1 t) (iblk m c 2 t) 0 := by
  unfold outsAt0 out0_A_9
  dsimp only
  exact left_of _ (show _ = sixteenPieces scM0_1 (restagesAt m c t 0) by sl_kernel_rfl) (sixteen_canon _ (restages_canon _ _ _ _ _ _ _ _ _ _ _ 0))
theorem block10 : (outsAt0 m c t).2.2.2.2.2.2.2.1 = bySixteen (iblk m c 0 t) (iblk m c 1 t) (iblk m c 2 t) 1 := by
  unfold outsAt0 out0_A_10
  dsimp only
  exact left_of _ (show _ = sixteenPieces scM0_1 (restagesAt m c t 1) by sl_kernel_rfl) (sixteen_canon _ (restages_canon _ _ _ _ _ _ _ _ _ _ _ 1))
theorem block11 : (outsAt0 m c t).2.2.2.2.2.2.2.2.1 = bySixteen (iblk m c 0 t) (iblk m c 1 t) (iblk m c 2 t) 2 := by
  unfold outsAt0 out0_A_11
  dsimp only
  exact left_of _ (show _ = sixteenPieces scM0_1 (restagesAt m c t 2) by sl_kernel_rfl) (sixteen_canon _ (restages_canon _ _ _ _ _ _ _ _ _ _ _ 2))

theorem rest_apply (u : Vec Ideal S1x512x1024 .f32) (v : Vec Ideal S1024x1792 .bf16) (n : Fin 512) (l : Fin 1792) :
    k0_pay2 (F := Ideal) (k0_pay3 u) v (ix3 0 n l) = ∑ k : Fin 1024, u (ix3 0 n k) * v (ix2 k l) := by
  pointwise [k0_pay2, k0_pay3]

theorem block12 (n : Fin 512) (l : Fin 1792) :
    (outsAt0 m c t).2.2.2.2.2.2.2.2.2 (ix3 0 n l) = blockRow (iblk m c 0 t) (iblk m c 1 t) n (1536 + l.val) := by
  have hl : 1536 + l.val < 3328 := by have := l.isLt; omega
  unfold outsAt0 out0_A_12 kernelRun0_A
  dsimp only
  rw [View.read_writes_junk_eq_canon]
  have he : (ix3 0 n l : S1x512x1792.Idx) = (Rect.unit (s := S1x512x1792) ![0, 0, 0] ![1, 512, 1792] inb_S1x512x1792_S1x512x1792_0_0_0).emb
      (ix3 0 n l : S1x512x1792.Idx) := by
    funext d
    refine Fin.ext ?_
    rw [Rect.emb_apply]
    fin_cases d <;> simp [Rect.unit]
  refine (congrArg _ he).trans ((View.canon_cons_emb _ _ _ _).trans ((rest_apply _ _ n l).trans ?_))
  rw [blockRow, projected, dif_pos hl]
  refine Finset.sum_congr rfl fun k _ => ?_
  rw [(hs0_0 t).readAt_unread, (hs0_1 t).readAt_unread]
  refine congrArg₂ (· * ·) (congrArg (iblk m c 0 t) ?_) (congrArg (iblk m c 1 t) ?_)
  · funext d
    refine Fin.ext ?_
    fin_cases d
    · rfl
    · exact (Nat.zero_add _).trans (Nat.one_mul _)
    · exact (Nat.zero_add _).trans (Nat.one_mul _)
  · funext d
    refine Fin.ext ?_
    fin_cases d
    · exact (Nat.zero_add _).trans (Nat.one_mul _)
    · exact congrArg (1536 + ·) (Nat.one_mul _)

end

end Cert.Kernel3Ideal
-- ==== Proof.ProjResult.lean ====
/-
  The ten result arrays of the input projection: the grid's blocks cover them, and they hold the parts of the arguments'
  projected rows, in order and by classes.
-/
module

public import proofs.«01_k».proof.Proof.ProjRun
public import Idealize.ShloMosaic.Lib.Pipeline.ValueKit

@[expose] public section

set_option maxRecDepth 16384

noncomputable section

namespace Cert.Kernel3Ideal

open Idealize.ShloMosaic Idealize.ShloMosaic.TcCoe Idealize.SL.Sem Gen InputProjection

variable (m : (ℓ : Loc nD τ sig) → Buf (Elt Ideal) ℓ) (c : Dev nD)

/-- The parts of the three arguments. -/
def parts : Fin 3 → Fin 4 → ℕ → ℕ → EReal :=
  value (m ((c : Thread nD τ).loc main_arg0)) (m ((c : Thread nD τ).loc main_arg1)) (m ((c : Thread nD τ).loc main_arg2))

/-- Their projected rows. -/
def rows : Fin 4 → Fin 8192 → ℕ → EReal := row (m ((c : Thread nD τ).loc main_arg0)) (m ((c : Thread nD τ).loc main_arg1))

/-- The windows' block indices: sequence `t / 16`, its block `t % 16`. -/
theorem idxIn : ∀ t : Fin grid0.N, win0_0.index t = ![t.val / 16, t.val % 16, 0] ∧ win0_1.index t = ![0, 0] ∧ win0_2.index t = ![t.val / 16, t.val % 16, 0] := by
  decide +kernel

theorem idxOrder : ∀ t : Fin grid0.N, win0_3.index t = ![t.val / 16, t.val % 16, 0] ∧ win0_4.index t = ![t.val / 16, t.val % 16, 0]
    ∧ win0_5.index t = ![t.val / 16, t.val % 16, 0] ∧ win0_12.index t = ![t.val / 16, t.val % 16, 0] := by
  decide +kernel

theorem idxFour : ∀ t : Fin grid0.N, win0_6.index t = ![t.val / 16, 0, t.val % 16, 0] ∧ win0_7.index t = ![t.val / 16, 0, t.val % 16, 0]
    ∧ win0_8.index t = ![t.val / 16, 0, t.val % 16, 0] := by
  decide +kernel

theorem idxSixteen : ∀ t : Fin grid0.N, win0_9.index t = ![t.val / 16, 0, t.val % 16, 0] ∧ win0_10.index t = ![t.val / 16, 0, t.val % 16, 0]
    ∧ win0_11.index t = ![t.val / 16, 0, t.val % 16, 0] := by
  decide +kernel

variable (t : Fin cfg0.N)

/-- A point's sequence. -/
def seqOf : Fin 4 := ⟨t.val / 16, by
  have h : t.val < 64 := t.isLt
  omega⟩

/-- A row of a point's block as a row of the sequence. -/
def rowOf (n : Fin 512) : Fin 8192 := ⟨t.val % 16 * 512 + n.val, by
  have := n.isLt
  omega⟩

theorem blk_x (n : Fin 512) (k : Fin 1024) : iblk m c 0 t (ix3 0 n k) = m ((c : Thread nD τ).loc main_arg0) (ix3 (seqOf t) (rowOf t n) k) := by
  blk_ext! [iblk, V, (idxIn t).1, rowOf, seqOf]

theorem blk_w (k : Fin 1024) (j : Fin 3328) : iblk m c 1 t (ix2 k j) = m ((c : Thread nD τ).loc main_arg1) (ix2 k j) := by
  blk_ext! [iblk, V, (idxIn t).2.1]

theorem blk_p (n : Fin 512) : iblk m c 2 t (ix3 0 n 0) = m ((c : Thread nD τ).loc main_arg2) (ix2 (seqOf t) (rowOf t n)) := by
  blk_ext! [iblk, V, (idxIn t).2.2, rowOf, seqOf]

theorem blockRow_eq (n : Fin 512) : blockRow (iblk m c 0 t) (iblk m c 1 t) n = rows m c (seqOf t) (rowOf t n) := by
  funext j
  unfold blockRow rows row
  simp only [blk_x, blk_w]

theorem blockPart_eq (g : Fin 3) (n l N : ℕ) (hn : n < 512) (hN : N = t.val % 16 * 512 + n) :
    blockPart (iblk m c 0 t) (iblk m c 1 t) (iblk m c 2 t) g n l = parts m c g (seqOf t) N l := by
  subst hN
  have h : t.val % 16 * 512 + n < 8192 := by omega
  rw [blockPart, dif_pos hn, parts, value, dif_pos h, blockRow_eq, place, blk_p]
  rfl

/-! ## The arrays -/

variable {m c t}

theorem order_at {g : Fin 3} {y : S1x512x512.Idx} {b : Fin 4} {n l : ℕ} (hb : b.val = t.val / 16) (hn : n = t.val % 16 * 512 + (y 1).val) (hl : l = (y 2).val) :
    inOrder (iblk m c 0 t) (iblk m c 1 t) (iblk m c 2 t) g y = parts m c g b n l := by
  obtain rfl : b = seqOf t := Fin.ext hb
  subst hl
  exact blockPart_eq m c t g _ _ _ (y 1).isLt hn

theorem four_at {g : Fin 3} {y : S1x4x128x512.Idx} {b : Fin 4} {r i l : ℕ} (hb : b.val = t.val / 16) (hr : r = (y 1).val)
    (hi : i = t.val % 16 * 128 + (y 2).val) (hl : l = (y 3).val) :
    byFour (iblk m c 0 t) (iblk m c 1 t) (iblk m c 2 t) g y = parts m c g b (4 * i + r) l := by
  obtain rfl : b = seqOf t := Fin.ext hb
  subst hl
  have h1 : (y 1).val < 4 := (y 1).isLt
  have h2 : (y 2).val < 128 := (y 2).isLt
  exact blockPart_eq m c t g _ _ _ (by omega) (by omega)

theorem sixteen_at {g : Fin 3} {y : S1x16x32x512.Idx} {b : Fin 4} {r i l : ℕ} (hb : b.val = t.val / 16) (hr : r = (y 1).val)
    (hi : i = t.val % 16 * 32 + (y 2).val) (hl : l = (y 3).val) :
    bySixteen (iblk m c 0 t) (iblk m c 1 t) (iblk m c 2 t) g y = parts m c g b (16 * i + r) l := by
  obtain rfl : b = seqOf t := Fin.ext hb
  subst hl
  have h1 : (y 1).val < 16 := (y 1).isLt
  have h2 : (y 2).val < 32 := (y 2).isLt
  exact blockPart_eq m c t g _ _ _ (by omega) (by omega)

variable (m c)

theorem in_first {a b : ℕ} : 0 * a + b = b := by omega

theorem result3 : (dats m 0 c).arrAt 3 cfg0.N = fun y : S4x8192x512.Idx => parts m c 0 (y 0) (y 1).val (y 2).val := by
  refine (dats m 0 c).arrAt_eq_of_covers 3 _ (by decide +kernel) fun t ht y => ?_
  change (dats m 0 c).after 3 t ((cfg0.win 3).xinj (cfg0.grid.coords t) y) = _
  rw [after0_3, block3]
  refine order_at ?_ ?_ ?_ <;> blk_simp <;> rw [(idxOrder t).1]
  exacts [rfl, rfl, in_first]

theorem result4 : (dats m 0 c).arrAt 4 cfg0.N = fun y : S4x8192x512.Idx => parts m c 1 (y 0) (y 1).val (y 2).val := by
  refine (dats m 0 c).arrAt_eq_of_covers 4 _ (by decide +kernel) fun t ht y => ?_
  change (dats m 0 c).after 4 t ((cfg0.win 4).xinj (cfg0.grid.coords t) y) = _
  rw [after0_4, block4]
  refine order_at ?_ ?_ ?_ <;> blk_simp <;> rw [(idxOrder t).2.1]
  exacts [rfl, rfl, in_first]

theorem result5 : (dats m 0 c).arrAt 5 cfg0.N = fun y : S4x8192x512.Idx => parts m c 2 (y 0) (y 1).val (y 2).val := by
  refine (dats m 0 c).arrAt_eq_of_covers 5 _ (by decide +kernel) fun t ht y => ?_
  change (dats m 0 c).after 5 t ((cfg0.win 5).xinj (cfg0.grid.coords t) y) = _
  rw [after0_5, block5]
  refine order_at ?_ ?_ ?_ <;> blk_simp <;> rw [(idxOrder t).2.2.1]
  exacts [rfl, rfl, in_first]

theorem result6 : (dats m 0 c).arrAt 6 cfg0.N = fun y : S4x4x2048x512.Idx => parts m c 0 (y 0) (4 * (y 2).val + (y 1).val) (y 3).val := by
  refine (dats m 0 c).arrAt_eq_of_covers 6 _ (by decide +kernel) fun t ht y => ?_
  change (dats m 0 c).after 6 t ((cfg0.win 6).xinj (cfg0.grid.coords t) y) = _
  rw [after0_6, block6]
  refine four_at ?_ ?_ ?_ ?_ <;> blk_simp <;> rw [(idxFour t).1]
  exacts [rfl, in_first, rfl, in_first]

theorem result7 : (dats m 0 c).arrAt 7 cfg0.N = fun y : S4x4x2048x512.Idx => parts m c 1 (y 0) (4 * (y 2).val + (y 1).val) (y 3).val := by
  refine (dats m 0 c).arrAt_eq_of_covers 7 _ (by decide +kernel) fun t ht y => ?_
  change (dats m 0 c).after 7 t ((cfg0.win 7).xinj (cfg0.grid.coords t) y) = _
  rw [after0_7, block7]
  refine four_at ?_ ?_ ?_ ?_ <;> blk_simp <;> rw [(idxFour t).2.1]
  exacts [rfl, in_first, rfl, in_first]

theorem result8 : (dats m 0 c).arrAt 8 cfg0.N = fun y : S4x4x2048x512.Idx => parts m c 2 (y 0) (4 * (y 2).val + (y 1).val) (y 3).val := by
  refine (dats m 0 c).arrAt_eq_of_covers 8 _ (by decide +kernel) fun t ht y => ?_
  change (dats m 0 c).after 8 t ((cfg0.win 8).xinj (cfg0.grid.coords t) y) = _
  rw [after0_8, block8]
  refine four_at ?_ ?_ ?_ ?_ <;> blk_simp <;> rw [(idxFour t).2.2]
  exacts [rfl, in_first, rfl, in_first]

theorem result9 : (dats m 0 c).arrAt 9 cfg0.N = fun y : S4x16x512x512.Idx => parts m c 0 (y 0) (16 * (y 2).val + (y 1).val) (y 3).val := by
  refine (dats m 0 c).arrAt_eq_of_covers 9 _ (by decide +kernel) fun t ht y => ?_
  change (dats m 0 c).after 9 t ((cfg0.win 9).xinj (cfg0.grid.coords t) y) = _
  rw [after0_9, block9]
  refine sixteen_at ?_ ?_ ?_ ?_ <;> blk_simp <;> rw [(idxSixteen t).1]
  exacts [rfl, in_first, rfl, in_first]

theorem result10 : (dats m 0 c).arrAt 10 cfg0.N = fun y : S4x16x512x512.Idx => parts m c 1 (y 0) (16 * (y 2).val + (y 1).val) (y 3).val := by
  refine (dats m 0 c).arrAt_eq_of_covers 10 _ (by decide +kernel) fun t ht y => ?_
  change (dats m 0 c).after 10 t ((cfg0.win 10).xinj (cfg0.grid.coords t) y) = _
  rw [after0_10, block10]
  refine sixteen_at ?_ ?_ ?_ ?_ <;> blk_simp <;> rw [(idxSixteen t).2.1]
  exacts [rfl, in_first, rfl, in_first]

theorem result11 : (dats m 0 c).arrAt 11 cfg0.N = fun y : S4x16x512x512.Idx => parts m c 2 (y 0) (16 * (y 2).val + (y 1).val) (y 3).val := by
  refine (dats m 0 c).arrAt_eq_of_covers 11 _ (by decide +kernel) fun t ht y => ?_
  change (dats m 0 c).after 11 t ((cfg0.win 11).xinj (cfg0.grid.coords t) y) = _
  rw [after0_11, block11]
  refine sixteen_at ?_ ?_ ?_ ?_ <;> blk_simp <;> rw [(idxSixteen t).2.2]
  exacts [rfl, in_first, rfl, in_first]

theorem result12 : (dats m 0 c).arrAt 12 cfg0.N = fun y : S4x8192x1792.Idx => rows m c (y 0) (y 1) (1536 + (y 2).val) := by
  refine (dats m 0 c).arrAt_eq_of_covers 12 _ (by decide +kernel) fun t ht y => ?_
  change (dats m 0 c).after 12 t ((cfg0.win 12).xinj (cfg0.grid.coords t) y) = _
  have hy : (cfg0.win 12).xinj (cfg0.grid.coords t) y = ix3 (n0 := 1) (n1 := 512) (n2 := 1792) 0 ⟨(y 1).val, (y 1).isLt⟩ ⟨(y 2).val, (y 2).isLt⟩ := by
    refine (eq_ix3 _).trans ?_
    congr 1
    exact Subsingleton.elim (α := Fin 1) _ _
  have e0 : ((cfg0.win 12).blk t).view.emb y 0 = seqOf t := Fin.ext (by
    blk_simp
    rw [(idxOrder t).2.2.2]
    rfl)
  have e1 : ((cfg0.win 12).blk t).view.emb y 1 = rowOf t ⟨(y 1).val, (y 1).isLt⟩ := Fin.ext (by
    blk_simp
    rw [(idxOrder t).2.2.2]
    rfl)
  have e2 : (((cfg0.win 12).blk t).view.emb y 2).val = (y 2).val := by
    blk_simp
    rw [(idxOrder t).2.2.2]
    exact in_first
  rw [after0_12, e0, e1, e2, hy, ← blockRow_eq]
  exact block12 m c t _ _

end Cert.Kernel3Ideal
-- ==== Proof.ProjRef.lean ====
/-
  The input projection's reference: its ten results hold the parts of the projected rows, in order and by classes.
-/
module

public import proofs.«01_k».proof.Proof.ProjSpec
public import proofs.«01_k».proof.Proof.Gen.Reference3Ideal.Read

@[expose] public section

set_option maxRecDepth 16384

noncomputable section

namespace Cert.Reference3Ideal

open Idealize.ShloMosaic Idealize.SL.Sem Gen Read InputProjection

/-! ## Heads and classes -/

section

variable (X : FVec Ideal S4x8192x512 .f32) (H : FVec Ideal S4x8x8192x64 .f32)

/-- The lanes split in eight heads. -/
def refHeads : FVec Ideal S4x8x8192x64 .f32 :=
  transpose S4x8x8192x64 [0, 2, 1, 3] (shapeCast S4x8192x8x64 X shapeCasts_S4x8192x512_S4x8192x8x64) transposes_S4x8192x8x64_S4x8x8192x64_0_2_1_3

/-- The heads joined again, in order, -/
def refOrder : FVec Ideal S4x8192x512 .bf16 :=
  shapeCast S4x8192x512 (truncf .bf16 (shapeCast S4x1x8192x512 (transpose S4x1x8192x8x64 [0, 3, 2, 1, 4]
    (shapeCast S4x8x8192x1x64 H shapeCasts_S4x8x8192x64_S4x8x8192x1x64) transposes_S4x8x8192x1x64_S4x1x8192x8x64_0_3_2_1_4)
    shapeCasts_S4x1x8192x8x64_S4x1x8192x512) bitsLt_bf16_f32) shapeCasts_S4x1x8192x512_S4x8192x512

/-- by classes modulo 4, -/
def refFour : FVec Ideal S4x4x2048x512 .bf16 :=
  truncf .bf16 (shapeCast S4x4x2048x512 (transpose S4x4x2048x8x64 [0, 3, 2, 1, 4]
    (shapeCast S4x8x2048x4x64 H shapeCasts_S4x8x8192x64_S4x8x2048x4x64) transposes_S4x8x2048x4x64_S4x4x2048x8x64_0_3_2_1_4)
    shapeCasts_S4x4x2048x8x64_S4x4x2048x512) bitsLt_bf16_f32

/-- and by classes modulo 16. -/
def refSixteen : FVec Ideal S4x16x512x512 .bf16 :=
  truncf .bf16 (shapeCast S4x16x512x512 (transpose S4x16x512x8x64 [0, 3, 2, 1, 4]
    (shapeCast S4x8x512x16x64 H shapeCasts_S4x8x8192x64_S4x8x512x16x64) transposes_S4x8x512x16x64_S4x16x512x8x64_0_3_2_1_4)
    shapeCasts_S4x16x512x8x64_S4x16x512x512) bitsLt_bf16_f32

theorem refHeads_apply (b : Fin 4) (h : Fin 8) (n : Fin 8192) (e : Fin 64) :
    refHeads X (ix4 b h n e) = X (ix3 b n ⟨64 * h.val + e.val, by omega⟩) := by
  pointwise [refHeads]
  simp only [Nat.mul_comm h.val 64]

theorem refOrder_apply (b : Fin 4) (n : Fin 8192) (l : Fin 512) :
    refOrder H (ix3 b n l) = H (ix4 b ⟨l.val / 64, by omega⟩ n ⟨l.val % 64, by omega⟩) := by
  pointwise [refOrder]

theorem refFour_apply (b r : Fin 4) (i : Fin 2048) (l : Fin 512) :
    refFour H (ix4 b r i l) = H (ix4 b ⟨l.val / 64, by omega⟩ ⟨4 * i.val + r.val, by omega⟩ ⟨l.val % 64, by omega⟩) := by
  pointwise [refFour]
  simp only [Nat.mul_comm i.val 4]

theorem refSixteen_apply (b : Fin 4) (r : Fin 16) (i l : Fin 512) :
    refSixteen H (ix4 b r i l) = H (ix4 b ⟨l.val / 64, by omega⟩ ⟨16 * i.val + r.val, by omega⟩ ⟨l.val % 64, by omega⟩) := by
  pointwise [refSixteen]
  simp only [Nat.mul_comm i.val 16]

end

/-! ## The rotation -/

section

variable (H : FVec Ideal S4x8x8192x64 .f32) (C S : FVec Ideal S4x1x8192x8 .f32)

/-- A factor of each position and rate, for every head. -/
def refSpread : FVec Ideal S4x8x8192x8 .f32 := broadcastInDim S4x8x8192x8 ![0, 1, 2, 3] bcast_S4x1x8192x8_S4x8x8192x8_0_1_2_3 C

/-- A head's first eight lanes, -/
def refLow : FVec Ideal S4x8x8192x8 .f32 := extractStridedSlice S4x8x8192x8 ![0, 0, 0, 0] H slices_S4x8x8192x64_S4x8x8192x8_0_0_0_0

/-- and the next eight. -/
def refHigh : FVec Ideal S4x8x8192x8 .f32 := extractStridedSlice S4x8x8192x8 ![0, 0, 0, 8] H slices_S4x8x8192x64_S4x8x8192x8_0_0_0_8

/-- The heads with their first sixteen lanes rotated. -/
def refRope : FVec Ideal S4x8x8192x64 .f32 :=
  concatenate S4x8x8192x64 3
    [⟨S4x8x8192x8, subf (mulf (refLow H) (refSpread C)) (mulf (refHigh H) (refSpread S))⟩,
     ⟨S4x8x8192x8, addf (mulf (refHigh H) (refSpread C)) (mulf (refLow H) (refSpread S))⟩,
     ⟨S4x8x8192x48, extractStridedSlice S4x8x8192x48 ![0, 0, 0, 16] H slices_S4x8x8192x64_S4x8x8192x48_0_0_0_16⟩]
    concatenates_S4x8x8192x8_S4x8x8192x8_S4x8x8192x48_S4x8x8192x64_d3

theorem refSpread_apply (b : Fin 4) (h : Fin 8) (n : Fin 8192) (e : Fin 8) : refSpread C (ix4 b h n e) = C (ix4 b 0 n e) := by
  pointwise [refSpread]

theorem refLow_apply (b : Fin 4) (h : Fin 8) (n : Fin 8192) (e : Fin 8) : refLow H (ix4 b h n e) = H (ix4 b h n ⟨e.val, by omega⟩) := by
  pointwise [refLow]

theorem refHigh_apply (b : Fin 4) (h : Fin 8) (n : Fin 8192) (e : Fin 8) : refHigh H (ix4 b h n e) = H (ix4 b h n ⟨e.val + 8, by omega⟩) := by
  pointwise [refHigh]
  simp only [Nat.add_comm 8 e.val]

theorem refRope_apply (b : Fin 4) (h : Fin 8) (n : Fin 8192) (e : Fin 64) :
    refRope H C S (ix4 b h n e)
      = if h1 : e.val < 8 then H (ix4 b h n e) * C (ix4 b 0 n ⟨e.val, h1⟩) - H (ix4 b h n ⟨e.val + 8, by omega⟩) * S (ix4 b 0 n ⟨e.val, h1⟩)
        else if h2 : e.val < 16 then
          H (ix4 b h n e) * C (ix4 b 0 n ⟨e.val - 8, by omega⟩) + H (ix4 b h n ⟨e.val - 8, by omega⟩) * S (ix4 b 0 n ⟨e.val - 8, by omega⟩)
        else H (ix4 b h n e) := by
  pointwise [refRope, refLow, refHigh, refSpread]
  rcases e with ⟨e, he⟩
  dsimp only
  by_cases h1 : e < 8
  · simp only [dif_pos h1, Nat.add_comm 8 e]
  · by_cases h2 : e < 16
    · have h3 : e - 8 < 8 := by omega
      have h4 : 8 + (e - 8) = e := by omega
      simp only [dif_neg h1, dif_pos h2, dif_pos h3, h4]
    · have h3 : ¬ e - 8 < 8 := by omega
      have h4 : 16 + (e - 8 - 8) = e := by omega
      simp only [dif_neg h1, dif_neg h2, dif_neg h3, h4]

end

/-! ## The rates -/

theorem rates_apply (j : Fin 8) : val_main_v13 (F := Ideal) (ix1 j) = rate j.val := by
  have h8 : Ideal.ofBits .f32 0x41000000#32 = ((8 : ℝ) : EReal) := by
    simp [Ideal.ofBits, Ideal.ieee]
    rw [← EReal.coe_mul]
    norm_num
  have h5 : Ideal.ofBits .f32 0x48F42400#32 = ((500000 : ℝ) : EReal) := by
    simp [Ideal.ofBits, Ideal.ieee]
    rw [← EReal.coe_mul]
    norm_num
  have hj : ∀ j : Fin 8, (BitVec.ofNat 32 j.val).toInt = (j.val : ℤ) := by decide
  have hv : val_main_v11 (F := Ideal) (ix1 j) = ((-(j.val : ℝ) / 8 : ℝ) : EReal) := by
    rw [val_main_v11_apply, val_main_v10_apply, val_main_v9_apply]
    change Ideal.div (-((((BitVec.ofNat 32 j.val).toInt : ℤ) : ℝ) : EReal)) (Ideal.ofBits .f32 0x41000000#32) = _
    rw [h8, hj, Ideal.div_coe (by norm_num), ← EReal.coe_neg, ← EReal.coe_mul]
    congr 1
    push_cast
    ring
  rw [val_main_v13_apply, hv, val_main_v12_apply]
  change Ideal.pow (Ideal.ofBits .f32 0x48F42400#32) _ = _
  rw [h5]
  rfl

section

variable (x0 : (⟨S4x8192x1024, .f32⟩ : BufTy).Contents (Elt Ideal)) (x1 : (⟨S1024x3328, .f32⟩ : BufTy).Contents (Elt Ideal))
  (x2 : (⟨S4x8192, .i32⟩ : BufTy).Contents (Elt Ideal))

/-- A position as a number. -/
abbrev position (b : Fin 4) (n : Fin 8192) : EReal := FloatOps.sitofp (F := Ideal) .f32 (x2 (ix2 b n))

/-- A pair's angle at a position: the position times the pair's rate. -/
theorem angle_apply (b : Fin 4) (n : Fin 8192) (e : Fin 8) :
    val_main_v19 (F := Ideal) x2 (ix4 b 0 n e) = position x2 b n * rate e.val := by
  rw [val_main_v19_apply, val_main_v17_apply, val_main_v15_apply, val_main_v14_apply, val_main_v18_apply, val_main_v16_apply]
  refine congrArg₂ (· * ·) (congrArg (fun i => FloatOps.sitofp (F := Ideal) .f32 (x2 i)) (eq_ix2 _)) ?_
  exact (congrArg (val_main_v13 (F := Ideal)) (eq_ix1 _)).trans (rates_apply e)

/-- Heads whose lanes are a row's are rotated as the row is. -/
theorem refRope_row (H : FVec Ideal S4x8x8192x64 .f32) (y : Fin 4 → Fin 8192 → ℕ → EReal)
    (hy : ∀ b h n (e : Fin 64), H (ix4 b h n e) = y b n (64 * h.val + e.val)) (b : Fin 4) (h : Fin 8) (n : Fin 8192) (e : Fin 64) :
    refRope H (val_main_v20 (F := Ideal) x2) (val_main_v21 (F := Ideal) x2) (ix4 b h n e) = rope (position x2 b n) (y b n) (64 * h.val + e.val) := by
  have hm : (64 * h.val + e.val) % 64 = e.val := by omega
  rw [refRope_apply, rope, hm]
  simp only [val_main_v20_apply, val_main_v21_apply, angle_apply, hy]
  by_cases h1 : e.val < 8
  · rw [dif_pos h1, if_pos h1, Nat.add_assoc]
    rfl
  · by_cases h2 : e.val < 16
    · rw [dif_neg h1, dif_pos h2, if_neg h1, if_pos h2, Nat.add_sub_assoc (by omega)]
      rfl
    · rw [dif_neg h1, dif_neg h2, if_neg h1, if_neg h2]

/-! ## The three parts, by heads -/

/-- The projected rows. -/
theorem dot_apply (b : Fin 4) (n : Fin 8192) (c : Fin 3328) : val_main_v0 (F := Ideal) x0 x1 (ix3 b n c) = row x0 x1 b n c.val := by
  rw [val_main_v0_apply, row, projected, dif_pos c.isLt]
  exact Finset.sum_congr rfl fun k _ => congrArg₂ (· * ·) (congrArg x0 (eq_ix3 _)) (congrArg x1 (eq_ix2 _))

theorem queries_apply (b : Fin 4) (n : Fin 8192) (c : Fin 512) : val_main_v3 (F := Ideal) x0 x1 (ix3 b n c) = row x0 x1 b n c.val := by
  rw [val_main_v3_apply, val_main_v1_apply]
  exact (congrArg (val_main_v0 (F := Ideal) x0 x1) (eq_ix3 _)).trans (dot_apply x0 x1 b n ⟨c.val, by omega⟩)

theorem keys_apply (b : Fin 4) (n : Fin 8192) (c : Fin 512) : val_main_v4 (F := Ideal) x0 x1 (ix3 b n c) = row x0 x1 b n (512 + c.val) := by
  rw [val_main_v4_apply, val_main_v1_apply]
  exact (congrArg (val_main_v0 (F := Ideal) x0 x1) (eq_ix3 _)).trans (dot_apply x0 x1 b n ⟨512 + c.val, by omega⟩)

theorem values_apply (b : Fin 4) (n : Fin 8192) (c : Fin 512) : val_main_v5 (F := Ideal) x0 x1 (ix3 b n c) = row x0 x1 b n (1024 + c.val) := by
  rw [val_main_v5_apply, val_main_v1_apply]
  exact (congrArg (val_main_v0 (F := Ideal) x0 x1) (eq_ix3 _)).trans (dot_apply x0 x1 b n ⟨1024 + c.val, by omega⟩)

/-- The queries, the keys and the values, by heads. -/
def byHeads (g : Fin 3) : FVec Ideal S4x8x8192x64 .f32 :=
  match g with
  | 0 => val_main_v37 (F := Ideal) x0 x1 x2
  | 1 => val_main_v67 (F := Ideal) x0 x1 x2
  | 2 => val_main_v69 (F := Ideal) x0 x1

theorem byHeads_apply (g : Fin 3) (b : Fin 4) (h : Fin 8) (n : Fin 8192) (e : Fin 64) :
    byHeads x0 x1 x2 g (ix4 b h n e) = value x0 x1 x2 g b n.val (64 * h.val + e.val) := by
  rw [value, dif_pos n.isLt]
  match g with
  | 0 =>
    refine congrArg (· * eighth) ?_
    change refRope (refHeads (val_main_v3 (F := Ideal) x0 x1)) (val_main_v20 (F := Ideal) x2) (val_main_v21 (F := Ideal) x2) (ix4 b h n e) = _
    exact refRope_row x2 _ (row x0 x1) (fun b h n e => (refHeads_apply _ b h n e).trans (queries_apply x0 x1 b n _)) b h n e
  | 1 =>
    change refRope (refHeads (val_main_v4 (F := Ideal) x0 x1)) (val_main_v20 (F := Ideal) x2) (val_main_v21 (F := Ideal) x2) (ix4 b h n e) = _
    exact refRope_row x2 _ (fun b n l => row x0 x1 b n (512 + l))
      (fun b h n e => (refHeads_apply _ b h n e).trans (keys_apply x0 x1 b n _)) b h n e
  | 2 => exact (refHeads_apply (val_main_v5 (F := Ideal) x0 x1) b h n e).trans (values_apply x0 x1 b n _)

/-! ## The ten results -/

theorem order_eq (g : Fin 3) :
    refOrder (byHeads x0 x1 x2 g) = fun y : S4x8192x512.Idx => value x0 x1 x2 g (y 0) (y 1).val (y 2).val := by
  funext y
  obtain ⟨b, n, l, rfl⟩ : ∃ b n l, y = ix3 b n l := ⟨y 0, y 1, y 2, eq_ix3 y⟩
  rw [refOrder_apply, byHeads_apply]
  exact congrArg (value x0 x1 x2 g b n.val) (Nat.div_add_mod l.val 64)

theorem four_eq (g : Fin 3) :
    refFour (byHeads x0 x1 x2 g) = fun y : S4x4x2048x512.Idx => value x0 x1 x2 g (y 0) (4 * (y 2).val + (y 1).val) (y 3).val := by
  funext y
  obtain ⟨b, r, i, l, rfl⟩ : ∃ b r i l, y = ix4 b r i l := ⟨y 0, y 1, y 2, y 3, eq_ix4 y⟩
  rw [refFour_apply, byHeads_apply]
  exact congrArg (value x0 x1 x2 g b (4 * i.val + r.val)) (Nat.div_add_mod l.val 64)

theorem sixteen_eq (g : Fin 3) :
    refSixteen (byHeads x0 x1 x2 g) = fun y : S4x16x512x512.Idx => value x0 x1 x2 g (y 0) (16 * (y 2).val + (y 1).val) (y 3).val := by
  funext y
  obtain ⟨b, r, i, l, rfl⟩ : ∃ b r i l, y = ix4 b r i l := ⟨y 0, y 1, y 2, y 3, eq_ix4 y⟩
  rw [refSixteen_apply, byHeads_apply]
  exact congrArg (value x0 x1 x2 g b (16 * i.val + r.val)) (Nat.div_add_mod l.val 64)

theorem rest_eq :
    val_main_v2 (F := Ideal) x0 x1 = fun y : S4x8192x1792.Idx => row x0 x1 (y 0) (y 1) (1536 + (y 2).val) := by
  funext y
  obtain ⟨b, n, c, rfl⟩ : ∃ b n c, y = ix3 b n c := ⟨y 0, y 1, y 2, eq_ix3 y⟩
  rw [val_main_v2_apply]
  exact (congrArg (val_main_v0 (F := Ideal) x0 x1) (eq_ix3 _)).trans (dot_apply x0 x1 b n ⟨1536 + c.val, by omega⟩)

theorem layouts :
    val_main_v74 (F := Ideal) x0 x1 x2 = refOrder (byHeads x0 x1 x2 0)
    ∧ val_main_v79 (F := Ideal) x0 x1 x2 = refOrder (byHeads x0 x1 x2 1)
    ∧ val_main_v84 (F := Ideal) x0 x1 = refOrder (byHeads x0 x1 x2 2)
    ∧ val_main_v88 (F := Ideal) x0 x1 x2 = refFour (byHeads x0 x1 x2 0)
    ∧ val_main_v92 (F := Ideal) x0 x1 x2 = refFour (byHeads x0 x1 x2 1)
    ∧ val_main_v96 (F := Ideal) x0 x1 = refFour (byHeads x0 x1 x2 2)
    ∧ val_main_v100 (F := Ideal) x0 x1 x2 = refSixteen (byHeads x0 x1 x2 0)
    ∧ val_main_v104 (F := Ideal) x0 x1 x2 = refSixteen (byHeads x0 x1 x2 1)
    ∧ val_main_v108 (F := Ideal) x0 x1 = refSixteen (byHeads x0 x1 x2 2) :=
  ⟨rfl, rfl, rfl, rfl, rfl, rfl, rfl, rfl, rfl⟩

end

end Cert.Reference3Ideal
-- ==== Proof.lean ====
module

public import proofs.«01_k».proof.Proof.Gen.Reference3Ideal.Read
public import proofs.«01_k».proof.Proof.Gen.Reference3Ideal.Run
public import proofs.«01_k».proof.Proof.Gen.Kernel3Ideal.Value
public import proofs.«01_k».proof.Proof.Gen.Kernel3Ideal.Frame
public import proofs.«01_k».proof.Proof.Gen.Kernel3.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Result
public import proofs.«01_k».proof.Proof.Merge
public import proofs.«01_k».proof.Proof.Precondition
public import proofs.«01_k».proof.Proof.TailResult
public import proofs.«01_k».proof.Proof.TailRef
public import proofs.«01_k».proof.Proof.ProjResult
public import proofs.«01_k».proof.Proof.ProjRef
public import Idealize.ShloMosaic.Adequacy
public import Idealize.ShloMosaic.Init

@[expose] public section

noncomputable section

namespace Cert.Proof

open Idealize.ShloMosaic Idealize.SL.Sem Cert.Kernel

/-- The reference terminates, leaves its arguments as they were and has no semaphore that could be left raised. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference give the same result: each is the attention of the nine arguments. -/
theorem algebraic : Cert.algebraic_KernelIdeal_ReferenceIdeal_pre_finite_queries_and_keys := by
  intro m ρ m' ρ' hpre hagree
  refine ⟨fun c => (Cert.KernelIdeal.Gen.dats m 0 c).arrAt 15 Cert.KernelIdeal.cfg0.N, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  refine ((Cert.ReferenceIdeal.Read.val_main_v217_eq (F := Ideal) (StableHlo.launchContents m' c)).trans
    (Cert.ReferenceIdeal.result_eq _ _ _ _ _ _ _ _ _)).trans (Eq.trans ?_ (Cert.KernelIdeal.result_eq m c (Cert.KernelIdeal.finite_of_pre m hpre c)).symm)
  obtain ⟨h0, h1, h2, h3, h4, h5, h6, h7, h8⟩ := hagree c
  rw [Cert.KernelIdeal.arrays, ← h0, ← h1, ← h2, ← h3, ← h4, ← h5, ← h6, ← h7, ← h8]

/-- The tail's reference terminates, leaves its arguments as they were and has no semaphore that could be left raised. -/
theorem frame_tail_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The tail's kernel and its reference give the same result: each is the tail of the eleven arguments, row by row. -/
theorem algebraic_tail : Cert.algebraic_Kernel2Ideal_Reference2Ideal := by
  intro m ρ m' ρ' _ hagree
  refine ⟨fun c => (Cert.Kernel2Ideal.Gen.dats m 0 c).arrAt 11 Cert.Kernel2Ideal.cfg0.N, Cert.Kernel2Ideal.Value.run_blocks m ρ, ?_⟩
  refine (θ_run Cert.Reference2Ideal.defs _ _).mono (fun _ h c => ⟨(h c).1.trans ?_, (h c).2⟩) (Cert.Reference2Ideal.Value.run (F := Ideal) m' ρ')
  refine ((Cert.Reference2Ideal.Read.val_main_v62_eq (F := Ideal) (StableHlo.launchContents m' c)).trans
    (Cert.Reference2Ideal.result_eq _ _ _ _ _ _ _ _ _ _ _)).trans (Eq.trans ?_ (Cert.Kernel2Ideal.result_eq m c).symm)
  obtain ⟨h0, h1, h2, h3, h4, h5, h6, h7, h8, h9, h10⟩ := hagree c
  rw [Cert.Kernel2Ideal.tails, ← h0, ← h1, ← h2, ← h3, ← h4, ← h5, ← h6, ← h7, ← h8, ← h9, ← h10]

/-- The input projection's reference terminates, leaves its arguments as they were and has no semaphore that could be left raised. -/
theorem frame_proj_ri : Cert.quiescent_Reference3Ideal := fun m ρ _ =>
  (θ_run Cert.Reference3Ideal.defs _ _).mono (fun r h => ⟨fun c => (h c).2.2.2.2.2.2.2.2.2.2, sem_eq_zero_of_no_sems (by decide) r.2⟩)
    (Cert.Reference3Ideal.Value.run (F := Ideal) m ρ)

section

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ) (c : Dev Cert.Kernel3Ideal.nD)
  (h0 : m' ((c.tc : Thread Cert.Reference3Ideal.nD Cert.Reference3Ideal.τ).loc Cert.Reference3Ideal.main_arg0)
    = m ((c.tc : Thread Cert.Kernel3Ideal.nD Cert.Kernel3Ideal.τ).loc Cert.Kernel3Ideal.main_arg0))
  (h1 : m' ((c.tc : Thread Cert.Reference3Ideal.nD Cert.Reference3Ideal.τ).loc Cert.Reference3Ideal.main_arg1)
    = m ((c.tc : Thread Cert.Kernel3Ideal.nD Cert.Kernel3Ideal.τ).loc Cert.Kernel3Ideal.main_arg1))
  (h2 : m' ((c.tc : Thread Cert.Reference3Ideal.nD Cert.Reference3Ideal.τ).loc Cert.Reference3Ideal.main_arg2)
    = m ((c.tc : Thread Cert.Kernel3Ideal.nD Cert.Kernel3Ideal.τ).loc Cert.Kernel3Ideal.main_arg2))

include h0 h1 h2

/-- The parts of equal arguments are equal, -/
theorem parts_eq (g : Fin 3) (b : Fin 4) (n l : ℕ) : InputProjection.value (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2)) g b n l = Cert.Kernel3Ideal.parts m c g b n l := by
  rw [Cert.Kernel3Ideal.parts, h0, h1, h2]

omit h2 in
/-- and so are their rows. -/
theorem rows_eq (b : Fin 4) (n : Fin 8192) (l : ℕ) : InputProjection.row (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1)) b n l = Cert.Kernel3Ideal.rows m c b n l := by
  rw [Cert.Kernel3Ideal.rows, h0, h1]

end

/-- The input projection's kernel and its reference give the same ten results: each is the parts of the three arguments' projected
    rows, in order and by classes, and the rows' remaining columns. -/
theorem algebraic_proj : Cert.algebraic_Kernel3Ideal_Reference3Ideal := by
  intro m ρ m' ρ' _ hagree
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    Cert.Kernel3Ideal.Value.run_blocks m ρ, ?_⟩
  refine (θ_run Cert.Reference3Ideal.defs _ _).mono (fun _ h c => ?_) (Cert.Reference3Ideal.Value.run (F := Ideal) m' ρ')
  obtain ⟨h0, h1, h2⟩ := hagree c
  have hp := parts_eq m m' c h0 h1 h2
  have hr := rows_eq m m' c h0 h1
  obtain ⟨l0, l1, l2, l3, l4, l5, l6, l7, l8⟩ := Cert.Reference3Ideal.layouts
    (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
  obtain ⟨g0, g1, g2, g3, g4, g5, g6, g7, g8, g9, hargs⟩ := h c
  refine ⟨g0.trans ?_, g1.trans ?_, g2.trans ?_, g3.trans ?_, g4.trans ?_, g5.trans ?_, g6.trans ?_, g7.trans ?_, g8.trans ?_, g9.trans ?_, hargs⟩
  · exact (Cert.Reference3Ideal.Read.val_main_v74_eq (F := Ideal) _ _).trans ((l0.trans (Cert.Reference3Ideal.order_eq _ _ _ 0)).trans
      ((funext fun _ => hp 0 _ _ _).trans (Cert.Kernel3Ideal.result3 m c).symm))
  · exact (Cert.Reference3Ideal.Read.val_main_v79_eq (F := Ideal) _ _).trans ((l1.trans (Cert.Reference3Ideal.order_eq _ _ _ 1)).trans
      ((funext fun _ => hp 1 _ _ _).trans (Cert.Kernel3Ideal.result4 m c).symm))
  · exact (Cert.Reference3Ideal.Read.val_main_v84_eq (F := Ideal) _ _).trans ((l2.trans (Cert.Reference3Ideal.order_eq _ _ _ 2)).trans
      ((funext fun _ => hp 2 _ _ _).trans (Cert.Kernel3Ideal.result5 m c).symm))
  · exact (Cert.Reference3Ideal.Read.val_main_v88_eq (F := Ideal) _ _).trans ((l3.trans (Cert.Reference3Ideal.four_eq _ _ _ 0)).trans
      ((funext fun _ => hp 0 _ _ _).trans (Cert.Kernel3Ideal.result6 m c).symm))
  · exact (Cert.Reference3Ideal.Read.val_main_v92_eq (F := Ideal) _ _).trans ((l4.trans (Cert.Reference3Ideal.four_eq _ _ _ 1)).trans
      ((funext fun _ => hp 1 _ _ _).trans (Cert.Kernel3Ideal.result7 m c).symm))
  · exact (Cert.Reference3Ideal.Read.val_main_v96_eq (F := Ideal) _ _).trans ((l5.trans (Cert.Reference3Ideal.four_eq _ _ _ 2)).trans
      ((funext fun _ => hp 2 _ _ _).trans (Cert.Kernel3Ideal.result8 m c).symm))
  · exact (Cert.Reference3Ideal.Read.val_main_v100_eq (F := Ideal) _ _).trans ((l6.trans (Cert.Reference3Ideal.sixteen_eq _ _ _ 0)).trans
      ((funext fun _ => hp 0 _ _ _).trans (Cert.Kernel3Ideal.result9 m c).symm))
  · exact (Cert.Reference3Ideal.Read.val_main_v104_eq (F := Ideal) _ _).trans ((l7.trans (Cert.Reference3Ideal.sixteen_eq _ _ _ 1)).trans
      ((funext fun _ => hp 1 _ _ _).trans (Cert.Kernel3Ideal.result10 m c).symm))
  · exact (Cert.Reference3Ideal.Read.val_main_v108_eq (F := Ideal) _ _).trans ((l8.trans (Cert.Reference3Ideal.sixteen_eq _ _ _ 2)).trans
      ((funext fun _ => hp 2 _ _ _).trans (Cert.Kernel3Ideal.result11 m c).symm))
  · exact (Cert.Reference3Ideal.Read.val_main_v2_eq (F := Ideal) _ _).trans ((Cert.Reference3Ideal.rest_eq _ _).trans
      ((funext fun _ => hr _ _ _).trans (Cert.Kernel3Ideal.result12 m c).symm))

/-- The seven rates that the kernel's constants stand for. -/
theorem preserves_proj : Cert.preserves_Kernel3_Kernel3Ideal :=
  ⟨IdealRules.named_const.statement Cert.Kernel3Ideal.κ "freq1" .f32 0x3E4693AF#32 (((Real.sqrt (Real.sqrt (Real.sqrt 500000)))⁻¹ : ℝ) : EReal) rfl,
   IdealRules.named_const.statement Cert.Kernel3Ideal.κ "freq2" .f32 0x3D1A08C8#32 (((Real.sqrt (Real.sqrt 500000))⁻¹ : ℝ) : EReal) rfl,
   IdealRules.named_const.statement Cert.Kernel3Ideal.κ "freq3" .f32 0x3BEEF74E#32 ((((Real.sqrt (Real.sqrt 500000)) * (Real.sqrt (Real.sqrt (Real.sqrt 500000))))⁻¹ : ℝ) : EReal) rfl,
   IdealRules.named_const.statement Cert.Kernel3Ideal.κ "freq4" .f32 0x3AB95D22#32 (((Real.sqrt 500000)⁻¹ : ℝ) : EReal) rfl,
   IdealRules.named_const.statement Cert.Kernel3Ideal.κ "freq5" .f32 0x398FC8F8#32 ((((Real.sqrt 500000) * (Real.sqrt (Real.sqrt (Real.sqrt 500000))))⁻¹ : ℝ) : EReal) rfl,
   IdealRules.named_const.statement Cert.Kernel3Ideal.κ "freq6" .f32 0x385F10C4#32 ((((Real.sqrt 500000) * (Real.sqrt (Real.sqrt 500000)))⁻¹ : ℝ) : EReal) rfl,
   IdealRules.named_const.statement Cert.Kernel3Ideal.κ "freq7" .f32 0x372D07A7#32 ((((Real.sqrt 500000) * ((Real.sqrt (Real.sqrt 500000)) * (Real.sqrt (Real.sqrt (Real.sqrt 500000)))))⁻¹ : ℝ) : EReal) rfl⟩

/-- The certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.KernelIdeal.preFacts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, frame_tail_ri,
  fun m ρ _ => Cert.Kernel3.Gen.frame m ρ, fun m ρ _ => Cert.Kernel3Ideal.Gen.frame m ρ, frame_proj_ri,
  IdealRules.named_const.statement Cert.KernelIdeal.κ "mask" .f32 0xF149F2CA#32 ⊥ rfl, algebraic, trivial, algebraic_tail,
  preserves_proj, algebraic_proj⟩

end Cert.Proof

end
